-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v37)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v92) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4x2048x2048 : Shape := ⟨3, ![4, 2048, 2048]⟩
abbrev S128 : Shape := ⟨1, ![128]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_arg8 : FVec F S128 .f32) (main_arg9 : FVec F S128 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 :=
  let main_v16 : FVec F S128 .f32 := Host.absf main_arg6
  let main_cst_6 : FVec F S_ .f32 := constant S_ .f32 0x7F800000#32
  let main_v17 : FVec F S128 .f32 := broadcastInDim S128 ![] bcast_S_S128 main_cst_6
  let main_v18 : IVec S128 1 := cmpf .olt main_v16 main_v17
  let main_c_7 : IVec S_ 1 := constantI S_ 1 1#1
  let main_v19 : IVec S_ 1 := (fun x v => Host.reduce IntOp.andi x v reducesTo_S128_S_d0 h_S_) main_v18 main_c_7
  let main_v20 : FVec F S128 .f32 := Host.absf main_arg7
  let main_cst_8 : FVec F S_ .f32 := constant S_ .f32 0x7F800000#32
  let main_v21 : FVec F S128 .f32 := broadcastInDim S128 ![] bcast_S_S128 main_cst_8
  let main_v22 : IVec S128 1 := cmpf .olt main_v20 main_v21
  let main_c_9 : IVec S_ 1 := constantI S_ 1 1#1
  let main_v23 : IVec S_ 1 := (fun x v => Host.reduce IntOp.andi x v reducesTo_S128_S_d0 h_S_) main_v22 main_c_9
  let main_v24 : FVec F S128 .f32 := Host.absf main_arg8
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : FVec F S128 .f32 := Host.absf main_arg9
  let main_cst_12 : FVec F S_ .f32 := constant S_ .f32 0x7F800000#32
  let main_v29 : FVec F S128 .f32 := broadcastInDim S128 ![] bcast_S_S128 main_cst_12
  let main_v30 : IVec S128 1 := cmpf .olt main_v28 main_v29
  let main_c_13 : IVec S_ 1 := constantI S_ 1 1#1
  let main_v31 : IVec S_ 1 := (fun x v => Host.reduce IntOp.andi x v reducesTo_S128_S_d0 h_S_) main_v30 main_c_13
  (main_v3, main_v7, main_v11, main_v15, main_v19, main_v23, main_v27, main_v31)

def fn {F : FTy → Type} [FloatOps F] (main_arg0 : FVec F S4x2048x2048 .f32) (main_arg1 : FVec F S4x2048x2048 .f32) (main_arg2 : FVec F S4x2048x2048 .f32) (main_arg3 : FVec F S4x2048x2048 .f32) (main_arg4 : FVec F S128 .f32) (main_arg5 : FVec F S128 .f32) (main_arg6 : FVec F S128 .f32) (main_arg7 : FVec F S128 .f32) (main_arg8 : FVec F S128 .f32) (main_arg9 : FVec F S128 .f32) : IVec S_ 1 × IVec S_ 1 × IVec S_ 1 × IVec S_ 1 × IVec S_ 1 × IVec S_ 1 × IVec S_ 1 × IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : FVec F S4x2048x2048 .f32 := Host.absf main_arg2
  let main_cst_2 : FVec F S_ .f32 := constant S_ .f32 0x7F800000#32
  let main_v9 : FVec F S4x2048x2048 .f32 := broadcastInDim S4x2048x2048 ![] bcast_S_S4x2048x2048 main_cst_2
  let main_v10 : IVec S4x2048x2048 1 := cmpf .olt main_v8 main_v9
  let main_c_3 : IVec S_ 1 := constantI S_ 1 1#1
  let main_v11 : IVec S_ 1 := (fun x v => Host.reduce IntOp.andi x v reducesTo_S4x2048x2048_S_d0_1_2 h_S_) main_v10 main_c_3
  let main_v12 : FVec F S4x2048x2048 .f32 := Host.absf main_arg3
  let main_cst_4 : FVec F S_ .f32 := constant S_ .f32 0x7F800000#32
  let main_v13 : FVec F S4x2048x2048 .f32 := broadcastInDim S4x2048x2048 ![] bcast_S_S4x2048x2048 main_cst_4
  let main_v14 : IVec S4x2048x2048 1 := cmpf .olt main_v12 main_v13
  let main_c_5 : IVec S_ 1 := constantI S_ 1 1#1
  let main_v15 : IVec S_ 1 := (fun x v => Host.reduce IntOp.andi x v reducesTo_S4x2048x2048_S_d0_1_2 h_S_) main_v14 main_c_5
  fn_part1 (F := F) main_arg6 main_arg7 main_arg8 main_arg9 main_v3 main_v7 main_v11 main_v15
-- ==== Pre_finite4.lean ====
abbrev S4x2048x2048 : Shape := ⟨3, ![4, 2048, 2048]⟩
abbrev S2048 : Shape := ⟨1, ![2048]⟩
abbrev S2048x8192 : Shape := ⟨2, ![2048, 8192]⟩
abbrev S128 : Shape := ⟨1, ![128]⟩
abbrev S2048x64 : Shape := ⟨2, ![2048, 64]⟩
abbrev S2048x2048 : Shape := ⟨2, ![2048, 2048]⟩
abbrev S_ : Shape := ⟨0, ![]⟩

class Facts : Prop where
  slices_S2048x8192_S2048x2048_0_6144 : S2048x8192.Slices ![0, 6144] S2048x2048
  bcast_S_S2048 : S_.BroadcastsInDim S2048 (![] : Fin 0 → Fin S2048.rank)
  reducesTo_S2048_S_d0 : S2048.ReducesTo [0] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x2048x2048 .f32) (main_arg1 : FVec F S2048 .f32) (main_arg2 : FVec F S2048x8192 .f32) (main_arg3 : FVec F S128 .f32) (main_arg4 : FVec F S128 .f32) (main_arg5 : FVec F S2048x64 .f32) (main_arg6 : FVec F S2048x64 .f32) : IVec S_ 1 × IVec S_ 1 :=
  let main_v0 : FVec F S2048x2048 .f32 := (extractStridedSlice S2048x2048 ![0, 6144] · slices_S2048x8192_S2048x2048_0_6144) main_arg2
  let main_v1 : FVec F S2048 .f32 := Host.absf main_arg1
  let main_cst : FVec F S_ .f32 := constant S_ .f32 0x7F800000#32
  let main_v2 : FVec F S2048 .f32 := broadcastInDim S2048 ![] bcast_S_S2048 main_cst
  let main_v3 : IVec S2048 1 := cmpf .olt main_v1 main_v2
  let main_c : IVec S_ 1 := constantI S_ 1 1#1
  let main_v4 : IVec S_ 1 := (fun x v => Host.reduce IntOp.andi x v reducesTo_S2048_S_d0 h_S_) main_v3 main_c
  let main_v5 : FVec F S2048x2048 .f32 := Host.absf main_v0
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_c_1 : IVec S_ 1 := constantI S_ 1 1#1
  let main_v8 : IVec S_ 1 := (fun x v => Host.reduce IntOp.andi x v reducesTo_S2048x2048_S_d0_1 h_S_) main_v7 main_c_1
  (main_v4, main_v8)
-- ==== Kernel.lean ====
abbrev S4x2048x2048 : Shape := ⟨3, ![4, 2048, 2048]⟩
abbrev S128 : Shape := ⟨1, ![128]⟩
abbrev S_ : Shape := ⟨0, ![]⟩
abbrev S4x2048x8192 : Shape := ⟨3, ![4, 2048, 8192]⟩
abbrev S1x128 : Shape := ⟨2, ![1, 128]⟩
abbrev S4x128 : Shape := ⟨2, ![4, 128]⟩
abbrev S1 : Shape := ⟨1, ![1]⟩
abbrev S512 : Shape := ⟨1, ![512]⟩
abbrev S512x1 : Shape := ⟨2, ![512, 1]⟩
abbrev S256 : Shape := ⟨1, ![256]⟩
abbrev S1x256 : Shape := ⟨2, ![1, 256]⟩
abbrev S512x256 : Shape := ⟨2, ![512, 256]⟩
abbrev S1x512x256 : Shape := ⟨3, ![1, 512, 256]⟩
abbrev S1x2048x256 : Shape := ⟨3, ![1, 2048, 256]⟩
abbrev S512x128 : Shape := ⟨2, ![512, 128]⟩
abbrev S1x256x128 : Shape := ⟨3, ![1, 256, 128]⟩
abbrev S256x128 : Shape := ⟨2, ![256, 128]⟩
abbrev S1x256x256 : Shape := ⟨3, ![1, 256, 256]⟩
abbrev S256x256 : Shape := ⟨2, ![256, 256]⟩
abbrev S1x1 : Shape := ⟨2, ![1, 1]⟩
abbrev S1x768x128 : Shape := ⟨3, ![1, 768, 128]⟩
abbrev S768x128 : Shape := ⟨2, ![768, 128]⟩
abbrev S512x768 : Shape := ⟨2, ![512, 768]⟩
abbrev S512x512 : Shape := ⟨2, ![512, 512]⟩
abbrev S1x768x256 : Shape := ⟨3, ![1, 768, 256]⟩
abbrev S768x256 : Shape := ⟨2, ![768, 256]⟩
abbrev S1x1280x128 : Shape := ⟨3, ![1, 1280, 128]⟩
abbrev S1280x128 : Shape := ⟨2, ![1280, 128]⟩
abbrev S512x1280 : Shape := ⟨2, ![512, 1280]⟩
abbrev S512x1024 : Shape := ⟨2, ![512, 1024]⟩
abbrev S1x1280x256 : Shape := ⟨3, ![1, 1280, 256]⟩
abbrev S1280x256 : Shape := ⟨2, ![1280, 256]⟩
abbrev S1x1792x128 : Shape := ⟨3, ![1, 1792, 128]⟩
abbrev S1792x128 : Shape := ⟨2, ![1792, 128]⟩
abbrev S512x1792 : Shape := ⟨2, ![512, 1792]⟩
abbrev S512x1536 : Shape := ⟨2, ![512, 1536]⟩
abbrev S1x1792x256 : Shape := ⟨3, ![1, 1792, 256]⟩
abbrev S1792x256 : Shape := ⟨2, ![1792, 256]⟩
abbrev S256x1 : Shape := ⟨2, ![256, 1]⟩

abbrev nBuf : Space → Nat
  | .hbm => 49
  | .vmem => 18
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x8192, .f32⟩
  | .hbm, ⟨24, _⟩ => ⟨S4x2048x8192, .bf16⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S4x128, .f32⟩
  | .hbm, ⟨30, _⟩ => ⟨S128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S512, .i32⟩
  | .hbm, ⟨41, _⟩ => ⟨S512x1, .i32⟩
  | .hbm, ⟨42, _⟩ => ⟨S256, .i32⟩
  | .hbm, ⟨43, _⟩ => ⟨S1x256, .i32⟩
  | .hbm, ⟨44, _⟩ => ⟨S512x256, .i32⟩
  | .hbm, ⟨45, _⟩ => ⟨S512x256, .i32⟩
  | .hbm, ⟨46, _⟩ => ⟨S512x256, .i1⟩
  | .hbm, ⟨47, _⟩ => ⟨S512x256, .f32⟩
  | .hbm, ⟨48, _⟩ => ⟨S4x2048x2048, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S4x128, .f32⟩
  | .local _ .vmem, ⟨9, _⟩ => ⟨S512x256, .f32⟩
  | .local _ .vmem, ⟨10, _⟩ => ⟨S1x512x256, .bf16⟩
  | .local _ .vmem, ⟨11, _⟩ => ⟨S1x512x256, .bf16⟩
  | .local _ .vmem, ⟨12, _⟩ => ⟨S512x128, .f32⟩
  | .local _ .vmem, ⟨13, _⟩ => ⟨S512x128, .f32⟩
  | .local _ .vmem, ⟨14, _⟩ => ⟨S512x256, .f32⟩
  | .local _ .vmem, ⟨15, _⟩ => ⟨S512x128, .f32⟩
  | .local _ .vmem, ⟨16, _⟩ => ⟨S512x128, .f32⟩
  | .local _ .vmem, ⟨17, _⟩ => ⟨S512x256, .f32⟩
  | .local _ .smem, ⟨0, _⟩ => ⟨S1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_32 : BitVec 32 := 0#32
  let arg2 : BitVec 32 := BitVec.ofNat 32 (i 2).val
  let c1_i32_30 : BitVec 32 := 1#32
  let v52 : BitVec 32 := Scalar.muli arg2 c1_i32_30
  let v53 : BitVec 32 := Scalar.subi v52 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let c1_i32_34 : BitVec 32 := 1#32
  ⟨c0_i32_32, v57, c1_i32_34⟩
def k0_mult1 (i : grid0.Coords) (k0_t1 : Fin (k0_t1_loop i).trips) : BitVec 32 :=
  let c0_i32_32 : BitVec 32 := 0#32
  let c1_i32_34 : BitVec 32 := 1#32
  let arg17 : BitVec 32 := Scf.iv c0_i32_32 c1_i32_34 k0_t1
  let c512_i32_135 : BitVec 32 := 512#32
  let v281 : BitVec 32 := Scalar.muli arg17 c512_i32_135
  v281
def k0_off1 (i : grid0.Coords) (k0_t1 : Fin (k0_t1_loop i).trips) : Fin 3 → Nat :=
  let c0_136 : Index := 0#32
  let c0_i32_32 : BitVec 32 := 0#32
  let c1_i32_34 : BitVec 32 := 1#32
  let arg17 : BitVec 32 := Scf.iv c0_i32_32 c1_i32_34 k0_t1
  let c512_i32_135 : BitVec 32 := 512#32
  let v281 : BitVec 32 := Scalar.muli arg17 c512_i32_135
  let v282 : BitVec 32 := v281
  let v283 : Index := Scalar.indexCast v282
  let c0_137 : Index := 0#32
  ![0, v283.toNat, 0]
@[reducible] def k0_t2_loop (i : grid0.Coords) : Scf.Loop 32 :=
  let c0_i32_32 : BitVec 32 := 0#32
  let arg2 : BitVec 32 := BitVec.ofNat 32 (i 2).val
  let c1_i32_30 : BitVec 32 := 1#32
  let v52 : BitVec 32 := Scalar.muli arg2 c1_i32_30
  let v53 : BitVec 32 := Scalar.subi v52 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let v54 : BitVec 32 := Scalar.addi c0_i32_32 v53
  let c1_i32_35 : BitVec 32 := 1#32
  ⟨v57, v54, c1_i32_35⟩
def k0_mult2 (i : grid0.Coords) (k0_t2 : Fin (k0_t2_loop i).trips) : BitVec 32 :=
  let c0_i32_32 : BitVec 32 := 0#32
  let arg2 : BitVec 32 := BitVec.ofNat 32 (i 2).val
  let c1_i32_30 : BitVec 32 := 1#32
  let v52 : BitVec 32 := Scalar.muli arg2 c1_i32_30
  let v53 : BitVec 32 := Scalar.subi v52 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let c1_i32_35 : BitVec 32 := 1#32
  let arg17 : BitVec 32 := Scf.iv v57 c1_i32_35 k0_t2
  let c512_i32_135 : BitVec 32 := 512#32
  let v281 : BitVec 32 := Scalar.muli arg17 c512_i32_135
  v281
def k0_off2 (i : grid0.Coords) (k0_t2 : Fin (k0_t2_loop i).trips) : Fin 3 → Nat :=
  let c0_136 : Index := 0#32
  let c0_i32_32 : BitVec 32 := 0#32
  let arg2 : BitVec 32 := BitVec.ofNat 32 (i 2).val
  let c1_i32_30 : BitVec 32 := 1#32
  let v52 : BitVec 32 := Scalar.muli arg2 c1_i32_30
  let v53 : BitVec 32 := Scalar.subi v52 c0_i32_32
  let c1_i32_33 : BitVec 32 := 1#32
  let v55 : BitVec 32 := Scalar.divsi v53 c1_i32_33
  let v56 : BitVec 32 := Scalar.muli v55 c1_i32_33
  let v57 : BitVec 32 := Scalar.addi c0_i32_32 v56
  let c1_i32_35 : BitVec 32 := 1#32
  let arg17 : BitVec 32 := Scf.iv v57 c1_i32_35 k0_t2
  let c512_i32_135 : BitVec 32 := 512#32
  let v281 : BitVec 32 := Scalar.muli arg17 c512_i32_135
  let v282 : BitVec 32 := v281
  let v283 : Index := Scalar.indexCast v282
  let c0_137 : Index := 0#32
  ![0, v283.toNat, 0]
def k0_mult3 (i : grid0.Coords) : BitVec 32 :=
  let arg2 : BitVec 32 := BitVec.ofNat 32 (i 2).val
  let c512_i32 : BitVec 32 := 512#32
  let v58 : BitVec 32 := Scalar.muli arg2 c512_i32
  let c0_i32_36 : BitVec 32 := 0#32
  let v61 : BitVec 32 := Scalar.addi v58 c0_i32_36
  v61
def k0_off3 (i : grid0.Coords) (c0_i32_36 : BitVec 32) : Fin 3 → Nat :=
  let c0_39 : Index := 0#32
  let arg2 : BitVec 32 := BitVec.ofNat 32 (i 2).val
  let c512_i32 : BitVec 32 := 512#32
  let v58 : BitVec 32 := Scalar.muli arg2 c512_i32
  let v61 : BitVec 32 := Scalar.addi v58 c0_i32_36
  let v62 : BitVec 32 := v61
  let v67 : Index := Scalar.indexCast v62
  let c0_40 : Index := 0#32
  ![0, v67.toNat, 0]
def k0_mult4 (i : grid0.Coords) : BitVec 32 :=
  let arg2 : BitVec 32 := BitVec.ofNat 32 (i 2).val
  let c512_i32 : BitVec 32 := 512#32
  let v58 : BitVec 32 := Scalar.muli arg2 c512_i32
  let c256_i32 : BitVec 32 := 256#32
  let v143 : BitVec 32 := Scalar.addi v58 c256_i32
  v143
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x2048 : Shape := ⟨3, ![4, 2048, 2048]⟩
abbrev S128 : Shape := ⟨1, ![128]⟩
abbrev S_ : Shape := ⟨0, ![]⟩
abbrev S4x2048x8x2x128 : Shape := ⟨5, ![4, 2048, 8, 2, 128]⟩
abbrev S4x8x2x2048x128 : Shape := ⟨5, ![4, 8, 2, 2048, 128]⟩
abbrev S4x2048x8x256 : Shape := ⟨4, ![4, 2048, 8, 256]⟩
abbrev S4x8x2048x256 : Shape := ⟨4, ![4, 8, 2048, 256]⟩
abbrev S2048 : Shape := ⟨1, ![2048]⟩
abbrev S4x8x2x2048x2048 : Shape := ⟨5, ![4, 8, 2, 2048, 2048]⟩
abbrev S1x2048 : Shape := ⟨2, ![1, 2048]⟩
abbrev S2048x1 : Shape := ⟨2, ![2048, 1]⟩
abbrev S2048x2048 : Shape := ⟨2, ![2048, 2048]⟩
abbrev S4x8x2x2048 : Shape := ⟨4, ![4, 8, 2, 2048]⟩
abbrev S4x8x2x2048x1 : Shape := ⟨5, ![4, 8, 2, 2048, 1]⟩
abbrev S4x8x1x2048x2048 : Shape := ⟨5, ![4, 8, 1, 2048, 2048]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x2048x8x2x128, .f32⟩
  | .hbm, ⟨15, _⟩ => ⟨S4x8x2x2048x128, .f32⟩
  | .hbm, ⟨16, _⟩ => ⟨S4x2048x8x2x128, .f32⟩
  | .hbm, ⟨17, _⟩ => ⟨S4x8x2x2048x128, .f32⟩
  | .hbm, ⟨18, _⟩ => ⟨S4x2048x8x256, .f32⟩
  | .hbm, ⟨19, _⟩ => ⟨S4x8x2048x256, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .i32⟩
  | .hbm, ⟨32, _⟩ => ⟨S4x8x2x2048x2048, .f32⟩
  | .hbm, ⟨33, _⟩ => ⟨S4x8x2x2048x2048, .f32⟩
  | .hbm, ⟨34, _⟩ => ⟨S4x8x2x2048x2048, .f32⟩
  | .hbm, ⟨35, _⟩ => ⟨S1x2048, .i32⟩
  | .hbm, ⟨36, _⟩ => ⟨S2048x1, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .f32⟩
  | .hbm, ⟨41, _⟩ => ⟨S_, .f32⟩
  | .hbm, ⟨42, _⟩ => ⟨S4x8x2x2048x2048, .i1⟩
  | .hbm, ⟨43, _⟩ => ⟨S4x8x2x2048x2048, .f32⟩
  | .hbm, ⟨44, _⟩ => ⟨S4x8x2x2048x2048, .f32⟩
  | .hbm, ⟨45, _⟩ => ⟨S_, .f32⟩
  | .hbm, ⟨46, _⟩ => ⟨S4x8x2x2048, .f32⟩
  | .hbm, ⟨47, _⟩ => ⟨S_, .f32⟩
  | .hbm, ⟨48, _⟩ => ⟨S4x8x2x2048, .f32⟩
  | .hbm, ⟨49, _⟩ => ⟨S4x8x2x2048, .f32⟩
  | .hbm, ⟨50, _⟩ => ⟨S4x8x2x2048x1, .f32⟩
  | .hbm, ⟨51, _⟩ => ⟨S4x8x2x2048x2048, .f32⟩
  | .hbm, ⟨52, _⟩ => ⟨S4x8x2x2048x2048, .f32⟩
  | .hbm, ⟨53, _⟩ => ⟨S4x8x2x2048x2048, .f32⟩
  | .hbm, ⟨54, _⟩ => ⟨S_, .f32⟩
  | .hbm, ⟨55, _⟩ => ⟨S4x8x2x2048, .f32⟩
  | .hbm, ⟨56, _⟩ => ⟨S4x8x2x2048x1, .f32⟩
  | .hbm, ⟨57, _⟩ => ⟨S4x8x2x2048x2048, .f32⟩
  | .hbm, ⟨58, _⟩ => ⟨S4x8x2x2048x2048, .f32⟩
  | .hbm, ⟨59, _⟩ => ⟨S4x8x1x2048x2048, .f32⟩
  | .hbm, ⟨60, _⟩ => ⟨S4x8x2048x2048, .f32⟩
  | .hbm, ⟨61, _⟩ => ⟨S4x8x1x2048x2048, .f32⟩
  | .hbm, ⟨62, _⟩ => ⟨S4x8x2048x2048, .f32⟩
  | .hbm, ⟨63, _⟩ => ⟨S4x8x2048x2048, .f32⟩
  | .hbm, ⟨64, _⟩ => ⟨S4x8x2048x2048, .f32⟩
  | .hbm, ⟨65, _⟩ => ⟨S4x8x2048x2048, .f32⟩
  | .hbm, ⟨66, _⟩ => ⟨S4x8x2048x256, .f32⟩
  | .hbm, ⟨67, _⟩ => ⟨S4x8x2048x256, .f32⟩
  | .hbm, ⟨68, _⟩ => ⟨S_, .f32⟩
  | .hbm, ⟨69, _⟩ => ⟨S4x8x2048, .f32⟩
  | .hbm, ⟨70, _⟩ => ⟨S4x8x2048x1, .f32⟩
  | .hbm, ⟨71, _⟩ => ⟨S_, .f32⟩
  | .hbm, ⟨72, _⟩ => ⟨S4x8x2048x1, .f32⟩
  | .hbm, ⟨73, _⟩ => ⟨S4x8x2048x1, .f32⟩
  | .hbm, ⟨74, _⟩ => ⟨S_, .f32⟩
  | .hbm, ⟨75, _⟩ => ⟨S4x8x2048x1, .f32⟩
  | .hbm, ⟨76, _⟩ => ⟨S4x8x2048x1, .f32⟩
  | .hbm, ⟨77, _⟩ => ⟨S4x8x2048x1, .f32⟩
  | .hbm, ⟨78, _⟩ => ⟨S4x8x2048x256, .f32⟩
  | .hbm, ⟨79, _⟩ => ⟨S4x8x2048x256, .f32⟩
  | .hbm, ⟨80, _⟩ => ⟨S_, .f32⟩
  | .hbm, ⟨81, _⟩ => ⟨S4x8x2048x256, .f32⟩
  | .hbm, ⟨82, _⟩ => ⟨S4x8x2048x256, .f32⟩
  | .hbm, ⟨83, _⟩ => ⟨S4x2048x8x256, .f32⟩
  | .hbm, ⟨84, _⟩ => ⟨S4x2048x2048, .f32⟩
  | .hbm, ⟨85, _⟩ => ⟨S4x2048x2048, .f32⟩
  | .hbm, ⟨86, _⟩ => ⟨S4x2048x2048, .f32⟩
  | .hbm, ⟨87, _⟩ => ⟨S_, .f32⟩
  | .hbm, ⟨88, _⟩ => ⟨S4x2048x2048, .f32⟩
  | .hbm, ⟨89, _⟩ => ⟨S4x2048x2048, .f32⟩
  | .hbm, ⟨90, _⟩ => ⟨S_, .f32⟩
  | .hbm, ⟨91, _⟩ => ⟨S4x2048x2048, .f32⟩
  | .hbm, ⟨92, _⟩ => ⟨S4x2048x2048, .f32⟩
  | .hbm, ⟨93, _⟩ => ⟨S4x2048x2048, .f32⟩
  | .hbm, ⟨94, _⟩ => ⟨S4x2048x2048, .f32⟩
  | .hbm, ⟨95, _⟩ => ⟨S4x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩

abbrev nD : Nat := 1
abbrev τ : Topo := Topo.v7x

variable {F : FTy → Type} [FloatOps F]
-- ==== Kernel2.lean ====
abbrev S4x2048x2048 : Shape := ⟨3, ![4, 2048, 2048]⟩
abbrev S2048x2048 : Shape := ⟨2, ![2048, 2048]⟩
abbrev S8192x2048 : Shape := ⟨2, ![8192, 2048]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x2048x2048 : Shape := ⟨3, ![4, 2048, 2048]⟩
abbrev S2048x2048 : Shape := ⟨2, ![2048, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S8192x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4x2048x1024 : Shape := ⟨3, ![4, 2048, 1024]⟩
abbrev S2048x2048 : Shape := ⟨2, ![2048, 2048]⟩
abbrev S4x2048x2048 : Shape := ⟨3, ![4, 2048, 2048]⟩
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2048x2048, .f32⟩
  | .hbm, ⟨3, _⟩ => ⟨S4x2048x2048, .f32⟩
  | .hbm, ⟨4, _⟩ => ⟨S2048x2048, .bf16⟩
  | .hbm, ⟨5, _⟩ => ⟨S8192x1024, .bf16⟩
  | .hbm, ⟨6, _⟩ => ⟨S8192x1024, .bf16⟩
  | .hbm, ⟨7, _⟩ => ⟨S1024x2048, .bf16⟩
  | .hbm, ⟨8, _⟩ => ⟨S1024x2048, .bf16⟩
  | .hbm, ⟨9, _⟩ => ⟨S8192x2048, .f32⟩
  | .hbm, ⟨10, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x2048x1024 : Shape := ⟨3, ![4, 2048, 1024]⟩
abbrev S2048x2048 : Shape := ⟨2, ![2048, 2048]⟩
abbrev S4x2048x2048 : Shape := ⟨3, ![4, 2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2048x2048, .f32⟩
  | .hbm, ⟨3, _⟩ => ⟨S4x2048x2048, .f32⟩
  | .hbm, ⟨4, _⟩ => ⟨S4x2048x1024, .f32⟩
  | .hbm, ⟨5, _⟩ => ⟨S4x2048x1024, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S8192x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S4x2048x2048 : Shape := ⟨3, ![4, 2048, 2048]⟩
abbrev S2048 : Shape := ⟨1, ![2048]⟩
abbrev S2048x8192 : Shape := ⟨2, ![2048, 8192]⟩
abbrev S128 : Shape := ⟨1, ![128]⟩
abbrev S2048x64 : Shape := ⟨2, ![2048, 64]⟩
abbrev S_ : Shape := ⟨0, ![]⟩
abbrev S2048x128 : Shape := ⟨2, ![2048, 128]⟩
abbrev S1x128 : Shape := ⟨2, ![1, 128]⟩
abbrev S64 : Shape := ⟨1, ![64]⟩
abbrev S1x2048x128 : Shape := ⟨3, ![1, 2048, 128]⟩
abbrev S4x2048x128 : Shape := ⟨3, ![4, 2048, 128]⟩
abbrev S8192x2048 : Shape := ⟨2, ![8192, 2048]⟩
abbrev S1x2048 : Shape := ⟨2, ![1, 2048]⟩
abbrev S8192x8192 : Shape := ⟨2, ![8192, 8192]⟩
abbrev S1024x2048 : Shape := ⟨2, ![1024, 2048]⟩
abbrev S2048x1024 : Shape := ⟨2, ![2048, 1024]⟩
abbrev S4x1024x128 : Shape := ⟨3, ![4, 1024, 128]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 54
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x8192, .f32⟩
  | .hbm, ⟨3, _⟩ => ⟨S128, .f32⟩
  | .hbm, ⟨4, _⟩ => ⟨S128, .f32⟩
  | .hbm, ⟨5, _⟩ => ⟨S2048x64, .f32⟩
  | .hbm, ⟨6, _⟩ => ⟨S2048x64, .f32⟩
  | .hbm, ⟨7, _⟩ => ⟨S2048x8192, .bf16⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048x128, .f32⟩
  | .hbm, ⟨14, _⟩ => ⟨S2048x64, .f32⟩
  | .hbm, ⟨15, _⟩ => ⟨S2048x128, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S2048x128, .f32⟩
  | .hbm, ⟨22, _⟩ => ⟨S2048x128, .f32⟩
  | .hbm, ⟨23, _⟩ => ⟨S64, .f32⟩
  | .hbm, ⟨24, _⟩ => ⟨S64, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S2048x128, .f32⟩
  | .hbm, ⟨30, _⟩ => ⟨S2048x128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S2048x128, .f32⟩
  | .hbm, ⟨36, _⟩ => ⟨S2048x128, .f32⟩
  | .hbm, ⟨37, _⟩ => ⟨S64, .f32⟩
  | .hbm, ⟨38, _⟩ => ⟨S64, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S2048x128, .f32⟩
  | .hbm, ⟨45, _⟩ => ⟨S2048x128, .f32⟩
  | .hbm, ⟨46, _⟩ => ⟨S1x2048x128, .f32⟩
  | .hbm, ⟨47, _⟩ => ⟨S1x2048x128, .f32⟩
  | .hbm, ⟨48, _⟩ => ⟨S1x2048x128, .f32⟩
  | .hbm, ⟨49, _⟩ => ⟨S1x2048x128, .f32⟩
  | .hbm, ⟨50, _⟩ => ⟨S4x2048x128, .f32⟩
  | .hbm, ⟨51, _⟩ => ⟨S8192x2048, .f32⟩
  | .hbm, ⟨52, _⟩ => ⟨S1x2048, .f32⟩
  | .hbm, ⟨53, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S4x1024x128, .f32⟩
  | .local _ .vmem, ⟨6, _⟩ => ⟨S4x1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_v0 : Ref sig .tc := ⟨.hbm, 37, rfl⟩
abbrev main_call1_v1 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .sge arg1 c1_i32
  let c2_i32 : BitVec 32 := 2#32
  let v4 : BitVec 1 := Scalar.cmpi .slt arg1 c2_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c2_i32_2 : BitVec 32 := 2#32
  let v8 : BitVec 1 := Scalar.cmpi .sge arg1 c2_i32_2
  let c4_i32 : BitVec 32 := 4#32
  let v9 : BitVec 1 := Scalar.cmpi .slt arg1 c4_i32
  let v10 : BitVec 1 := Scalar.andi v8 v9
  let v11 : BitVec 32 := Scalar.extui v10
  let c0_i32_3 : BitVec 32 := 0#32
  let v12 : BitVec 1 := Scalar.cmpi .ne v11 c0_i32_3
  v12

def k0_cond4 (i : grid0.Coords) : BitVec 1 :=
  let arg1 : BitVec 32 := BitVec.ofNat 32 (i 1).val
  let c4_i32_4 : BitVec 32 := 4#32
  let v13 : BitVec 1 := Scalar.cmpi .sge arg1 c4_i32_4
  let c6_i32 : BitVec 32 := 6#32
  let v14 : BitVec 1 := Scalar.cmpi .slt arg1 c6_i32
  let v15 : BitVec 1 := Scalar.andi v13 v14
  let v16 : BitVec 32 := Scalar.extui v15
  let c0_i32_5 : BitVec 32 := 0#32
  let v17 : BitVec 1 := Scalar.cmpi .ne v16 c0_i32_5
  v17

def k0_cond5 (i : grid0.Coords) : BitVec 1 :=
  let arg1 : BitVec 32 := BitVec.ofNat 32 (i 1).val
  let c6_i32_6 : BitVec 32 := 6#32
  let v18 : BitVec 1 := Scalar.cmpi .sge arg1 c6_i32_6
  let c8_i32 : BitVec 32 := 8#32
  let v19 : BitVec 1 := Scalar.cmpi .slt arg1 c8_i32
  let v20 : BitVec 1 := Scalar.andi v18 v19
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x2048x2048 : Shape := ⟨3, ![4, 2048, 2048]⟩
abbrev S2048 : Shape := ⟨1, ![2048]⟩
abbrev S2048x8192 : Shape := ⟨2, ![2048, 8192]⟩
abbrev S128 : Shape := ⟨1, ![128]⟩
abbrev S2048x64 : Shape := ⟨2, ![2048, 64]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x8192 : Shape := ⟨3, ![4, 2048, 8192]⟩
abbrev S2048x1x1x64 : Shape := ⟨4, ![2048, 1, 1, 64]⟩
abbrev S4x2048x8x2x128 : Shape := ⟨5, ![4, 2048, 8, 2, 128]⟩
abbrev S4x2048x8x2 : Shape := ⟨4, ![4, 2048, 8, 2]⟩
abbrev S4x2048x8x2x1 : Shape := ⟨5, ![4, 2048, 8, 2, 1]⟩
abbrev S1x1x1x1x128 : Shape := ⟨5, ![1, 1, 1, 1, 128]⟩
abbrev S4x2048x8x2x64 : Shape := ⟨5, ![4, 2048, 8, 2, 64]⟩
abbrev S1x2048x1x1x64 : Shape := ⟨5, ![1, 2048, 1, 1, 64]⟩
abbrev S8192x8192 : Shape := ⟨2, ![8192, 8192]⟩

abbrev nBuf : Space → Nat
  | .hbm => 119
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x8192, .f32⟩
  | .hbm, ⟨3, _⟩ => ⟨S128, .f32⟩
  | .hbm, ⟨4, _⟩ => ⟨S128, .f32⟩
  | .hbm, ⟨5, _⟩ => ⟨S2048x64, .f32⟩
  | .hbm, ⟨6, _⟩ => ⟨S2048x64, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x2048x8192, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S2048x1x1x64, .f32⟩
  | .hbm, ⟨29, _⟩ => ⟨S2048x1x1x64, .f32⟩
  | .hbm, ⟨30, _⟩ => ⟨S4x2048x8x2x128, .f32⟩
  | .hbm, ⟨31, _⟩ => ⟨S4x2048x8x2x128, .f32⟩
  | .hbm, ⟨32, _⟩ => ⟨S_, .f32⟩
  | .hbm, ⟨33, _⟩ => ⟨S4x2048x8x2, .f32⟩
  | .hbm, ⟨34, _⟩ => ⟨S4x2048x8x2x1, .f32⟩
  | .hbm, ⟨35, _⟩ => ⟨S_, .f32⟩
  | .hbm, ⟨36, _⟩ => ⟨S4x2048x8x2x1, .f32⟩
  | .hbm, ⟨37, _⟩ => ⟨S4x2048x8x2x1, .f32⟩
  | .hbm, ⟨38, _⟩ => ⟨S_, .f32⟩
  | .hbm, ⟨39, _⟩ => ⟨S4x2048x8x2x1, .f32⟩
  | .hbm, ⟨40, _⟩ => ⟨S4x2048x8x2x1, .f32⟩
  | .hbm, ⟨41, _⟩ => ⟨S4x2048x8x2x1, .f32⟩
  | .hbm, ⟨42, _⟩ => ⟨S4x2048x8x2x128, .f32⟩
  | .hbm, ⟨43, _⟩ => ⟨S4x2048x8x2x128, .f32⟩
  | .hbm, ⟨44, _⟩ => ⟨S1x1x1x1x128, .f32⟩
  | .hbm, ⟨45, _⟩ => ⟨S4x2048x8x2x128, .f32⟩
  | .hbm, ⟨46, _⟩ => ⟨S4x2048x8x2x128, .f32⟩
  | .hbm, ⟨47, _⟩ => ⟨S4x2048x8x2x64, .f32⟩
  | .hbm, ⟨48, _⟩ => ⟨S4x2048x8x2x64, .f32⟩
  | .hbm, ⟨49, _⟩ => ⟨S1x2048x1x1x64, .f32⟩
  | .hbm, ⟨50, _⟩ => ⟨S4x2048x8x2x64, .f32⟩
  | .hbm, ⟨51, _⟩ => ⟨S4x2048x8x2x64, .f32⟩
  | .hbm, ⟨52, _⟩ => ⟨S1x2048x1x1x64, .f32⟩
  | .hbm, ⟨53, _⟩ => ⟨S4x2048x8x2x64, .f32⟩
  | .hbm, ⟨54, _⟩ => ⟨S4x2048x8x2x64, .f32⟩
  | .hbm, ⟨55, _⟩ => ⟨S4x2048x8x2x64, .f32⟩
  | .hbm, ⟨56, _⟩ => ⟨S1x2048x1x1x64, .f32⟩
  | .hbm, ⟨57, _⟩ => ⟨S4x2048x8x2x64, .f32⟩
  | .hbm, ⟨58, _⟩ => ⟨S4x2048x8x2x64, .f32⟩
  | .hbm, ⟨59, _⟩ => ⟨S1x2048x1x1x64, .f32⟩
  | .hbm, ⟨60, _⟩ => ⟨S4x2048x8x2x64, .f32⟩
  | .hbm, ⟨61, _⟩ => ⟨S4x2048x8x2x64, .f32⟩
  | .hbm, ⟨62, _⟩ => ⟨S4x2048x8x2x64, .f32⟩
  | .hbm, ⟨63, _⟩ => ⟨S4x2048x8x2x128, .f32⟩
  | .hbm, ⟨64, _⟩ => ⟨S4x2048x2048, .f32⟩
  | .hbm, ⟨65, _⟩ => ⟨S4x2048x8x2x128, .f32⟩
  | .hbm, ⟨66, _⟩ => ⟨S4x2048x8x2x128, .f32⟩
  | .hbm, ⟨67, _⟩ => ⟨S_, .f32⟩
  | .hbm, ⟨68, _⟩ => ⟨S4x2048x8x2, .f32⟩
  | .hbm, ⟨69, _⟩ => ⟨S4x2048x8x2x1, .f32⟩
  | .hbm, ⟨70, _⟩ => ⟨S_, .f32⟩
  | .hbm, ⟨71, _⟩ => ⟨S4x2048x8x2x1, .f32⟩
  | .hbm, ⟨72, _⟩ => ⟨S4x2048x8x2x1, .f32⟩
  | .hbm, ⟨73, _⟩ => ⟨S_, .f32⟩
  | .hbm, ⟨74, _⟩ => ⟨S4x2048x8x2x1, .f32⟩
  | .hbm, ⟨75, _⟩ => ⟨S4x2048x8x2x1, .f32⟩
  | .hbm, ⟨76, _⟩ => ⟨S4x2048x8x2x1, .f32⟩
  | .hbm, ⟨77, _⟩ => ⟨S4x2048x8x2x128, .f32⟩
  | .hbm, ⟨78, _⟩ => ⟨S4x2048x8x2x128, .f32⟩
  | .hbm, ⟨79, _⟩ => ⟨S1x1x1x1x128, .f32⟩
  | .hbm, ⟨80, _⟩ => ⟨S4x2048x8x2x128, .f32⟩
  | .hbm, ⟨81, _⟩ => ⟨S4x2048x8x2x128, .f32⟩
  | .hbm, ⟨82, _⟩ => ⟨S4x2048x8x2x64, .f32⟩
  | .hbm, ⟨83, _⟩ => ⟨S4x2048x8x2x64, .f32⟩
  | .hbm, ⟨84, _⟩ => ⟨S1x2048x1x1x64, .f32⟩
  | .hbm, ⟨85, _⟩ => ⟨S4x2048x8x2x64, .f32⟩
  | .hbm, ⟨86, _⟩ => ⟨S4x2048x8x2x64, .f32⟩
  | .hbm, ⟨87, _⟩ => ⟨S1x2048x1x1x64, .f32⟩
  | .hbm, ⟨88, _⟩ => ⟨S4x2048x8x2x64, .f32⟩
  | .hbm, ⟨89, _⟩ => ⟨S4x2048x8x2x64, .f32⟩
  | .hbm, ⟨90, _⟩ => ⟨S4x2048x8x2x64, .f32⟩
  | .hbm, ⟨91, _⟩ => ⟨S1x2048x1x1x64, .f32⟩
  | .hbm, ⟨92, _⟩ => ⟨S4x2048x8x2x64, .f32⟩
  | .hbm, ⟨93, _⟩ => ⟨S4x2048x8x2x64, .f32⟩
  | .hbm, ⟨94, _⟩ => ⟨S1x2048x1x1x64, .f32⟩
  | .hbm, ⟨95, _⟩ => ⟨S4x2048x8x2x64, .f32⟩
  | .hbm, ⟨96, _⟩ => ⟨S4x2048x8x2x64, .f32⟩
  | .hbm, ⟨97, _⟩ => ⟨S4x2048x8x2x64, .f32⟩
  | .hbm, ⟨98, _⟩ => ⟨S4x2048x8x2x128, .f32⟩
  | .hbm, ⟨99, _⟩ => ⟨S4x2048x2048, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S4x2048x2048, .f32⟩
  | .hbm, ⟨106, _⟩ => ⟨S4x2048x2048, .f32⟩
  | .hbm, ⟨107, _⟩ => ⟨S4x2048x2048, .f32⟩
  | .hbm, ⟨108, _⟩ => ⟨S4x2048x2048, .f32⟩
  | .hbm, ⟨109, _⟩ => ⟨S_, .f32⟩
  | .hbm, ⟨110, _⟩ => ⟨S4x2048x2048, .f32⟩
  | .hbm, ⟨111, _⟩ => ⟨S4x2048x2048, .f32⟩
  | .hbm, ⟨112, _⟩ => ⟨S_, .f32⟩
  | .hbm, ⟨113, _⟩ => ⟨S4x2048x2048, .f32⟩
  | .hbm, ⟨114, _⟩ => ⟨S4x2048x2048, .f32⟩
  | .hbm, ⟨115, _⟩ => ⟨S4x2048x2048, .f32⟩
  | .hbm, ⟨116, _⟩ => ⟨S4x2048x8192, .f32⟩
  | .hbm, ⟨117, _⟩ => ⟨S8192x8192, .f32⟩
  | .hbm, ⟨118, _⟩ => ⟨S8192x8192, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_8 : Ref sig .tc := ⟨.hbm, 100, rfl⟩
abbrev main_v84 : Ref sig .tc := ⟨.hbm, 101, rfl⟩
abbrev main_cst_9 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_call0_v0 : Ref sig .tc := ⟨.hbm, 107, rfl⟩
abbrev main_call0_v1 : Ref sig .tc := ⟨.hbm, 108, rfl⟩
abbrev main_call0_cst : Ref sig .tc := ⟨.hbm, 109, rfl⟩
abbrev main_call0_v2 : Ref sig .tc := ⟨.hbm, 110, rfl⟩
abbrev main_call0_v3 : Ref sig .tc := ⟨.hbm, 111, rfl⟩
abbrev main_call0_cst_0 : Ref sig .tc := ⟨.hbm, 112, rfl⟩
abbrev main_call0_v4 : Ref sig .tc := ⟨.hbm, 113, rfl⟩
abbrev main_call0_v5 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Proof.KernelIdeal.Base.lean ====
/- What the runs of the attention kernel's body share: its operands as owned resources. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The seven input operands, each owned at its contents. -/
abbrev Ins (c : Dev nD) (arg3 : Memref sig .tc .smem S1 .f32) (arg4 arg5 : Memref sig .tc .vmem S1x512x256 .bf16)
    (arg6 arg7 : Memref sig .tc .vmem S1x2048x256 .bf16) (arg8 : Memref sig .tc .vmem S4x128 .f32)
    (arg9 : Memref sig .tc .vmem S512x256 .f32)
    (x0 : Vec F S1 .f32) (x1 x2 : Vec F S1x512x256 .bf16) (x3 x4 : Vec F S1x2048x256 .bf16) (x5 : Vec F S4x128 .f32)
    (x6 : Vec F S512x256 .f32) : sProp 𝕄 :=
  iprop(owns (c : Thread nD τ) arg3 fullShare x0 ∗ owns (c : Thread nD τ) arg4 fullShare x1
    ∗ owns (c : Thread nD τ) arg5 fullShare x2 ∗ owns (c : Thread nD τ) arg6 fullShare x3
    ∗ owns (c : Thread nD τ) arg7 fullShare x4 ∗ owns (c : Thread nD τ) arg8 fullShare x5
    ∗ owns (c : Thread nD τ) arg9 fullShare x6)

/-- The six scratch buffers at some contents. -/
abbrev Scr (c : Dev nD) (arg11 arg12 : Memref sig .tc .vmem S512x128 .f32) (arg13 : Memref sig .tc .vmem S512x256 .f32)
    (arg14 arg15 : Memref sig .tc .vmem S512x128 .f32) (arg16 : Memref sig .tc .vmem S512x256 .f32) : sProp 𝕄 :=
  iprop((∃ d, owns (c : Thread nD τ) arg11 fullShare d) ∗ (∃ d, owns (c : Thread nD τ) arg12 fullShare d)
    ∗ (∃ d, owns (c : Thread nD τ) arg13 fullShare d) ∗ (∃ d, owns (c : Thread nD τ) arg14 fullShare d)
    ∗ (∃ d, owns (c : Thread nD τ) arg15 fullShare d) ∗ (∃ d, owns (c : Thread nD τ) arg16 fullShare d))

/-- The bound the kernel branches on, as its body reads it. -/
abbrev bnd (arg3 : Memref sig .tc .smem S1 .f32) (harg3 : arg3.IsWhole) (x0 : Vec F S1 .f32) : F .f32 :=
  View.readAt (Elt F) arg3.view (Rect.unit (s := S1) ![0] S1.size inb_S1_S1_0).toLoadRect (harg3.unread x0)
    (Shape.Idx.first (by decide))

/-- The general branch is taken. -/
abbrev Big (b : F .f32) : Prop :=
  Scalar.cmpi .ne (Scalar.extui (Scalar.cmpf .ogt b (Scalar.ofBits .f32 0x42700000#32) : BitVec 1) : BitVec 32) 0#32 = 1#1

end Cert.KernelIdeal.Attn

end
-- ==== Proof.KernelIdeal.Loop.lean ====
/- The attention kernel's loop over key blocks: one trip, the trips in order, and the invariant its run takes. -/
module

public import proofs.«01_k».proof.Proof.KernelIdeal.Base
public import Idealize.ShloMosaic.Lib.Affine

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loop over whole key blocks runs as many trips as there are query tiles before this one. -/
theorem trips1 (i : grid0.Coords) : (k0_t1_loop i).trips = (i 2).val := by
  have h : ∀ n : Fin 4, Scf.trips 0#32 (Scalar.addi 0#32 (Scalar.muli (Scalar.divsi (Scalar.subi (Scalar.muli (BitVec.ofNat 32 n.val) 1#32) 0#32) 1#32) 1#32)) 1#32 = n.val := by decide +kernel
  exact h (i 2)

/-- The remainder loop makes no trip. -/
theorem trips2 (i : grid0.Coords) : (k0_t2_loop i).trips = 0 := by
  have h : ∀ n : Fin 4, Scf.trips (Scalar.addi 0#32 (Scalar.muli (Scalar.divsi (Scalar.subi (Scalar.muli (BitVec.ofNat 32 n.val) 1#32) 0#32) 1#32) 1#32)) (Scalar.addi 0#32 (Scalar.subi (Scalar.muli (BitVec.ofNat 32 n.val) 1#32) 0#32)) 1#32 = 0 := by decide +kernel
  exact h (i 2)

section Trip

variable (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S4x128 .f32) (harg8 : arg8.IsWhole) (arg9 : Memref sig .tc .vmem S512x256 .f32) (harg9 : arg9.IsWhole) (arg10 : Memref sig .tc .vmem S1x512x256 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x256 .f32) (harg16 : arg16.IsWhole)
  (arg2 : BitVec 32) (v2 v3 : FVec F S512x128 .bf16) (x3 x4 : Vec F S1x2048x256 .bf16)

/-- What the six running buffers hold: maximum, sum and weighted values, of the first and of the second map. -/
abbrev Bufs : Type :=
  Buf (Elt F) (arg11.view.loc (c : Thread nD τ)) × Buf (Elt F) (arg12.view.loc (c : Thread nD τ))
    × Buf (Elt F) (arg13.view.loc (c : Thread nD τ)) × Buf (Elt F) (arg14.view.loc (c : Thread nD τ))
    × Buf (Elt F) (arg15.view.loc (c : Thread nD τ)) × Buf (Elt F) (arg16.view.loc (c : Thread nD τ))

/-- What a trip of the loop needs: keys, values and the running buffers. -/
abbrev Trip (g1 : Buf (Elt F) (arg11.view.loc (c : Thread nD τ))) (g2 : Buf (Elt F) (arg12.view.loc (c : Thread nD τ))) (g3 : Buf (Elt F) (arg13.view.loc (c : Thread nD τ))) (g4 : Buf (Elt F) (arg14.view.loc (c : Thread nD τ))) (g5 : Buf (Elt F) (arg15.view.loc (c : Thread nD τ))) (g6 : Buf (Elt F) (arg16.view.loc (c : Thread nD τ))) : sProp 𝕄 :=
  iprop((arg6.view.loc (c : Thread nD τ) ↦[arg6.view.set]{fullShare} harg6.unread x3)
    ∗ (arg7.view.loc (c : Thread nD τ) ↦[arg7.view.set]{fullShare} harg7.unread x4)
    ∗ (arg11.view.loc (c : Thread nD τ) ↦[arg11.view.set]{fullShare} g1)
    ∗ (arg12.view.loc (c : Thread nD τ) ↦[arg12.view.set]{fullShare} g2)
    ∗ (arg13.view.loc (c : Thread nD τ) ↦[arg13.view.set]{fullShare} g3)
    ∗ (arg14.view.loc (c : Thread nD τ) ↦[arg14.view.set]{fullShare} g4)
    ∗ (arg15.view.loc (c : Thread nD τ) ↦[arg15.view.set]{fullShare} g5)
    ∗ (arg16.view.loc (c : Thread nD τ) ↦[arg16.view.set]{fullShare} g6))

set_option backward.proofsInPublic true in
/-- One trip at any key block, with what it leaves in the running buffers. -/
@[irreducible] def trip (k : Fin (k0_t1_loop i).trips) (g : Bufs (F := F) c arg11 arg12 arg13 arg14 arg15 arg16) :
    { g' : Bufs (F := F) c arg11 arg12 arg13 arg14 arg15 arg16 //
      Trip c arg6 harg6 arg7 harg7 arg11 arg12 arg13 arg14 arg15 arg16 x3 x4 g.1 g.2.1 g.2.2.1 g.2.2.2.1 g.2.2.2.2.1 g.2.2.2.2.2
        ⊢ wp frame (wpE (defs₀ (F := F)) Variants.none (c : Thread nD τ) none) Set.univ
            (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v2 v3 k ())
            (fun _ => Trip c arg6 harg6 arg7 harg7 arg11 arg12 arg13 arg14 arg15 arg16 x3 x4 g'.1 g'.2.1 g'.2.2.1 g'.2.2.2.1 g'.2.2.2.2.1 g'.2.2.2.2.2) } := by
  refine ⟨(?_, ?_, ?_, ?_, ?_, ?_), ?run⟩
  case run =>
    unfold Trip
    iintro ⟨H3, H4, HS0, HS1, HS2, HS3, HS4, HS5⟩
    unfold k0_t1_body
    simp only [k0_part14_eq_skeleton, k0_part15_eq_skeleton]
    sl_exec
    sl_step
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iexact HS5

/-- The running buffers before trip `k`, from what they hold at the loop's entry. -/
def acc (g : Bufs (F := F) c arg11 arg12 arg13 arg14 arg15 arg16) : ℕ → Bufs (F := F) c arg11 arg12 arg13 arg14 arg15 arg16
  | 0 => g
  | k + 1 =>
    if h : k < (k0_t1_loop i).trips then
      (trip c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 ⟨k, h⟩ (acc g k)).1
    else acc g k

/-- `acc` buffer by buffer, each at the loop's entry plainly what it is given. -/
@[reducible] def at1 (g : Bufs (F := F) c arg11 arg12 arg13 arg14 arg15 arg16) : ℕ → Buf (Elt F) (arg11.view.loc (c : Thread nD τ))
  | 0 => g.1
  | k + 1 => (acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g (k + 1)).1
@[reducible] def at2 (g : Bufs (F := F) c arg11 arg12 arg13 arg14 arg15 arg16) : ℕ → Buf (Elt F) (arg12.view.loc (c : Thread nD τ))
  | 0 => g.2.1
  | k + 1 => (acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g (k + 1)).2.1
@[reducible] def at3 (g : Bufs (F := F) c arg11 arg12 arg13 arg14 arg15 arg16) : ℕ → Buf (Elt F) (arg13.view.loc (c : Thread nD τ))
  | 0 => g.2.2.1
  | k + 1 => (acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g (k + 1)).2.2.1
@[reducible] def at4 (g : Bufs (F := F) c arg11 arg12 arg13 arg14 arg15 arg16) : ℕ → Buf (Elt F) (arg14.view.loc (c : Thread nD τ))
  | 0 => g.2.2.2.1
  | k + 1 => (acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g (k + 1)).2.2.2.1
@[reducible] def at5 (g : Bufs (F := F) c arg11 arg12 arg13 arg14 arg15 arg16) : ℕ → Buf (Elt F) (arg15.view.loc (c : Thread nD τ))
  | 0 => g.2.2.2.2.1
  | k + 1 => (acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g (k + 1)).2.2.2.2.1
@[reducible] def at6 (g : Bufs (F := F) c arg11 arg12 arg13 arg14 arg15 arg16) : ℕ → Buf (Elt F) (arg16.view.loc (c : Thread nD τ))
  | 0 => g.2.2.2.2.2
  | k + 1 => (acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g (k + 1)).2.2.2.2.2

/-- The six together are `acc`. -/
theorem at_eq (g : Bufs (F := F) c arg11 arg12 arg13 arg14 arg15 arg16) (k : ℕ) :
    (at1 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g k, at2 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g k, at3 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g k, at4 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g k, at5 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g k, at6 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g k)
      = acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 g k := by
  cases k <;> rfl

set_option warn.classDefReducibility false in
/-- The main loop's invariant. -/
@[sl_loop] def loopInv1 (g1 : Buf (Elt F) (arg11.view.loc (c : Thread nD τ))) (g2 : Buf (Elt F) (arg12.view.loc (c : Thread nD τ)))
    (g3 : Buf (Elt F) (arg13.view.loc (c : Thread nD τ))) (g4 : Buf (Elt F) (arg14.view.loc (c : Thread nD τ)))
    (g5 : Buf (Elt F) (arg15.view.loc (c : Thread nD τ))) (g6 : Buf (Elt F) (arg16.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg2 v2 v3 where
  inv k _ := Trip c arg6 harg6 arg7 harg7 arg11 arg12 arg13 arg14 arg15 arg16 x3 x4
    (at1 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) k)
    (at2 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) k)
    (at3 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) k)
    (at4 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) k)
    (at5 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) k)
    (at6 c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) k)
  step k _ := by
    have h := (trip c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 k (acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) k)).2
    have e : (trip c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 k (acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) k)).1
        = acc c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) (k.val + 1) := by
      rw [acc, dif_pos k.isLt]
    rw [e, ← at_eq c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) k.val, ← at_eq c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 (g1, g2, g3, g4, g5, g6) (k.val + 1)] at h
    exact h

set_option warn.classDefReducibility false in
/-- The remainder loop's invariant: nothing, since it makes no trip. -/
@[sl_loop] def loopInv2 (v57 : BitVec 32) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg2 v2 v3 v57 where
  inv _ _ := iprop(emp)
  step k _ := (Nat.not_lt_zero _ (Nat.lt_of_lt_of_eq k.isLt (trips2 i))).elim

end Trip

end Cert.KernelIdeal.Attn

end
-- ==== Proof.KernelIdeal.Run.lean ====
/- The attention kernel's body run once on whole staging buffers, every branch on the bound and on the query tile included. -/
module

public import proofs.«01_k».proof.Proof.KernelIdeal.Loop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option backward.proofsInPublic true in
set_option maxHeartbeats 1000000 in
/-- What the body leaves in the output's staging buffer, from what it found there, with the proof that it does. -/
def runSmall (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S4x128 .f32) (harg8 : arg8.IsWhole) (arg9 : Memref sig .tc .vmem S512x256 .f32) (harg9 : arg9.IsWhole) (arg10 : Memref sig .tc .vmem S1x512x256 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x256 .f32) (harg16 : arg16.IsWhole)
    (x0 : Vec F S1 .f32) (x1 x2 : Vec F S1x512x256 .bf16) (x3 x4 : Vec F S1x2048x256 .bf16) (x5 : Vec F S4x128 .f32)
    (x6 : Vec F S512x256 .f32) (hc : ¬Big (bnd arg3 harg3 x0)) :
    { O : Buf (Elt F) (arg10.view.loc (c : Thread nD τ)) → Buf (Elt F) (arg10.view.loc (c : Thread nD τ)) // ∀ (K : PUnit → sProp 𝕄) f,
      iprop(Ins c arg3 arg4 arg5 arg6 arg7 arg8 arg9 x0 x1 x2 x3 x4 x5 x6
          ∗ (arg10.view.loc (c : Thread nD τ) ↦[arg10.view.set]{fullShare} f)
          ∗ Scr c arg11 arg12 arg13 arg14 arg15 arg16
          ∗ (iprop(Ins c arg3 arg4 arg5 arg6 arg7 arg8 arg9 x0 x1 x2 x3 x4 x5 x6
              ∗ (arg10.view.loc (c : Thread nD τ) ↦[arg10.view.set]{fullShare} O f)
              ∗ Scr c arg11 arg12 arg13 arg14 arg15 arg16) -∗ K ⟨⟩))
        ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun K f => ?run⟩
  case run =>
    simp only [cc0_diff_attention_eq_skeleton]; unfold cc0_diff_attention_skel
    unfold Ins Scr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, H7, ⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := sl_exact hc)
    sl_step
    iapply Hk
    sl_close

set_option backward.proofsInPublic true in
set_option maxHeartbeats 1000000 in
/-- What the body leaves in the output's staging buffer, from what it found there, with the proof that it does. -/
def runBig (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S4x128 .f32) (harg8 : arg8.IsWhole) (arg9 : Memref sig .tc .vmem S512x256 .f32) (harg9 : arg9.IsWhole) (arg10 : Memref sig .tc .vmem S1x512x256 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x256 .f32) (harg16 : arg16.IsWhole)
    (x0 : Vec F S1 .f32) (x1 x2 : Vec F S1x512x256 .bf16) (x3 x4 : Vec F S1x2048x256 .bf16) (x5 : Vec F S4x128 .f32)
    (x6 : Vec F S512x256 .f32) (hc : Big (bnd arg3 harg3 x0)) :
    { O : Buf (Elt F) (arg10.view.loc (c : Thread nD τ)) → Buf (Elt F) (arg10.view.loc (c : Thread nD τ)) // ∀ (K : PUnit → sProp 𝕄) f,
      iprop(Ins c arg3 arg4 arg5 arg6 arg7 arg8 arg9 x0 x1 x2 x3 x4 x5 x6
          ∗ (arg10.view.loc (c : Thread nD τ) ↦[arg10.view.set]{fullShare} f)
          ∗ Scr c arg11 arg12 arg13 arg14 arg15 arg16
          ∗ (iprop(Ins c arg3 arg4 arg5 arg6 arg7 arg8 arg9 x0 x1 x2 x3 x4 x5 x6
              ∗ (arg10.view.loc (c : Thread nD τ) ↦[arg10.view.set]{fullShare} O f)
              ∗ Scr c arg11 arg12 arg13 arg14 arg15 arg16) -∗ K ⟨⟩))
        ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun K f => ?run⟩
  case run =>
    simp only [cc0_diff_attention_eq_skeleton]; unfold cc0_diff_attention_skel
    simp only [k0_part18_eq_skeleton, k0_part19_eq_skeleton, k0_part20_eq_skeleton, k0_part21_eq_skeleton,
      k0_part22_eq_skeleton, k0_part23_eq_skeleton]
    unfold Ins Scr owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, H7, ⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := sl_exact hc)
    sl_exec (disch := sl_exact hc)
    sl_step
    iapply Hk
    sl_close

section Either

variable (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S4x128 .f32) (harg8 : arg8.IsWhole) (arg9 : Memref sig .tc .vmem S512x256 .f32) (harg9 : arg9.IsWhole) (arg10 : Memref sig .tc .vmem S1x512x256 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x256 .f32) (harg16 : arg16.IsWhole)
    (x0 : Vec F S1 .f32) (x1 x2 : Vec F S1x512x256 .bf16) (x3 x4 : Vec F S1x2048x256 .bf16) (x5 : Vec F S4x128 .f32)
    (x6 : Vec F S512x256 .f32)

open Classical in
/-- What the body leaves in the output's staging buffer, on either side of the bound's threshold. -/
def outBuf (f : Buf (Elt F) (arg10.view.loc (c : Thread nD τ))) : Buf (Elt F) (arg10.view.loc (c : Thread nD τ)) :=
  if hc : Big (bnd arg3 harg3 x0) then (runBig c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc).1 f
  else (runSmall c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc).1 f

/-- The body's run, on either side of the bound's threshold. -/
theorem run (K : PUnit → sProp 𝕄) (f : Buf (Elt F) (arg10.view.loc (c : Thread nD τ))) :
    iprop(Ins c arg3 arg4 arg5 arg6 arg7 arg8 arg9 x0 x1 x2 x3 x4 x5 x6
        ∗ (arg10.view.loc (c : Thread nD τ) ↦[arg10.view.set]{fullShare} f)
        ∗ Scr c arg11 arg12 arg13 arg14 arg15 arg16
        ∗ (iprop(Ins c arg3 arg4 arg5 arg6 arg7 arg8 arg9 x0 x1 x2 x3 x4 x5 x6
            ∗ (arg10.view.loc (c : Thread nD τ) ↦[arg10.view.set]{fullShare}
                outBuf c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f)
            ∗ Scr c arg11 arg12 arg13 arg14 arg15 arg16) -∗ K ⟨⟩))
      ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13 arg14 harg14 arg15 harg15 arg16 harg16) K := by
  unfold outBuf
  split
  next hc => exact (runBig c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc).2 K f
  next hc => exact (runSmall c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc).2 K f

end Either

end Cert.KernelIdeal.Attn

end
-- ==== Proof.KernelIdeal.Frame.lean ====
/- The attention kernel's launch: the proof data of its pipeline, the body at a grid point, and the whole program's run with
   the argument arrays unchanged. -/
module

public import proofs.«01_k».proof.Proof.KernelIdeal.Run
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at a grid point -/

abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x256 .bf16 := win0_7.stage (cfg0.slots t 7)
abbrev hs0_7 (t : Fin cfg0.N) : (ms0_7 t).IsWhole := hstage0_7 ((cfg0.slots t 7).cast nbuf0_7)
abbrev scM0_0 : Memref sig .tc .vmem S512x128 .f32 := Memref.whole cc0_scratch0
abbrev scM0_1 : Memref sig .tc .vmem S512x128 .f32 := Memref.whole cc0_scratch1
abbrev scM0_2 : Memref sig .tc .vmem S512x256 .f32 := Memref.whole cc0_scratch2
abbrev scM0_3 : Memref sig .tc .vmem S512x128 .f32 := Memref.whole cc0_scratch3
abbrev scM0_4 : Memref sig .tc .vmem S512x128 .f32 := Memref.whole cc0_scratch4
abbrev scM0_5 : Memref sig .tc .vmem S512x256 .f32 := Memref.whole cc0_scratch5

/-- What the pipeline keeps between points: the scratch buffers and the generator register, each at some contents. -/
theorem PhiA0_eq (c : Dev nD) :
    (Pipeline.ΦA spec0 c : sProp 𝕄)
      = iprop(Scr c scM0_0 scM0_1 scM0_2 scM0_3 scM0_4 scM0_5 ∗ (∃ r, prngReg c r)) := by
  unfold Pipeline.ΦA Scr; rw [scopedRest0_eq]; simp only [scM0_0, scM0_1, scM0_2, scM0_3, scM0_4, scM0_5, owns_whole]; try rfl

/-! ## The pipeline's proof data -/

/-- The proof data: the arrays as the region finds them; after the body each input's buffer at its block, the output's at `o t`. -/
def dats (o : Dev nD → Fin cfg0.N → S1x512x256.Idx → Elt F .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => o c t
  Φ _ := Pipeline.ΦA spec0 c
  q w := Pipeline.shareOf spec0 w
  owed _ := 0

variable (o : Dev nD → Fin cfg0.N → S1x512x256.Idx → Elt F .bf16)

theorem A_eq (c : Dev nD) (w : Fin cfg0.W) : (dats m o 0 c).A w = V m c (Pipeline.arrRef spec0 w) := by
  dsimp only [dats]

theorem after0_0 (c : Dev nD) (t : Fin cfg0.N) : (dats m o 0 c).after 0 t = iblk m c 0 t := by dsimp only [dats]
theorem after0_1 (c : Dev nD) (t : Fin cfg0.N) : (dats m o 0 c).after 1 t = iblk m c 1 t := by dsimp only [dats]
theorem after0_2 (c : Dev nD) (t : Fin cfg0.N) : (dats m o 0 c).after 2 t = iblk m c 2 t := by dsimp only [dats]
theorem after0_3 (c : Dev nD) (t : Fin cfg0.N) : (dats m o 0 c).after 3 t = iblk m c 3 t := by dsimp only [dats]
theorem after0_4 (c : Dev nD) (t : Fin cfg0.N) : (dats m o 0 c).after 4 t = iblk m c 4 t := by dsimp only [dats]
theorem after0_5 (c : Dev nD) (t : Fin cfg0.N) : (dats m o 0 c).after 5 t = iblk m c 5 t := by dsimp only [dats]
theorem after0_6 (c : Dev nD) (t : Fin cfg0.N) : (dats m o 0 c).after 6 t = iblk m c 6 t := by dsimp only [dats]
theorem after0_7 (c : Dev nD) (t : Fin cfg0.N) : (dats m o 0 c).after 7 t = o c t := by dsimp only [dats]

theorem before0_0 (c : Dev nD) (t : Fin cfg0.N) (d) : (dats m o 0 c).before 0 t d = iblk m c 0 t :=
  before0_0_of m (dats m o 0 c) (A_eq m o c 0) (after0_0 m o c) t d
theorem before0_1 (c : Dev nD) (t : Fin cfg0.N) (d) : (dats m o 0 c).before 1 t d = iblk m c 1 t :=
  before0_1_of m (dats m o 0 c) (A_eq m o c 1) (after0_1 m o c) t d
theorem before0_2 (c : Dev nD) (t : Fin cfg0.N) (d) : (dats m o 0 c).before 2 t d = iblk m c 2 t :=
  before0_2_of m (dats m o 0 c) (A_eq m o c 2) (after0_2 m o c) t d
theorem before0_3 (c : Dev nD) (t : Fin cfg0.N) (d) : (dats m o 0 c).before 3 t d = iblk m c 3 t :=
  before0_3_of m (dats m o 0 c) (A_eq m o c 3) (after0_3 m o c) t d
theorem before0_4 (c : Dev nD) (t : Fin cfg0.N) (d) : (dats m o 0 c).before 4 t d = iblk m c 4 t :=
  before0_4_of m (dats m o 0 c) (A_eq m o c 4) (after0_4 m o c) t d
theorem before0_5 (c : Dev nD) (t : Fin cfg0.N) (d) : (dats m o 0 c).before 5 t d = iblk m c 5 t :=
  before0_5_of m (dats m o 0 c) (A_eq m o c 5) (after0_5 m o c) t d
theorem before0_6 (c : Dev nD) (t : Fin cfg0.N) (d) : (dats m o 0 c).before 6 t d = iblk m c 6 t :=
  before0_6_of m (dats m o 0 c) (A_eq m o c 6) (after0_6 m o c) t d

/-! ## The body at a grid point -/

theorem liveAt0_0 : ∀ t : Fin cfg0.N, cfg0.idle 0 (cfg0.grid.coords t) = false := fun _ => rfl
theorem liveAt0_1 : ∀ t : Fin cfg0.N, cfg0.idle 1 (cfg0.grid.coords t) = false := fun _ => rfl
theorem liveAt0_2 : ∀ t : Fin cfg0.N, cfg0.idle 2 (cfg0.grid.coords t) = false := fun _ => rfl
theorem liveAt0_3 : ∀ t : Fin cfg0.N, cfg0.idle 3 (cfg0.grid.coords t) = false := fun _ => rfl
theorem liveAt0_4 : ∀ t : Fin cfg0.N, cfg0.idle 4 (cfg0.grid.coords t) = false := fun _ => rfl
theorem liveAt0_5 : ∀ t : Fin cfg0.N, cfg0.idle 5 (cfg0.grid.coords t) = false := fun _ => rfl
theorem liveAt0_6 : ∀ t : Fin cfg0.N, cfg0.idle 6 (cfg0.grid.coords t) = false := fun _ => rfl
theorem liveAt0_7 : ∀ t : Fin cfg0.N, cfg0.idle 7 (cfg0.grid.coords t) = false := fun _ => rfl

/-- What the body leaves in the output's staging buffer at point `t`, which it found at `f`. -/
abbrev outAt (c : Dev nD) (t : Fin cfg0.N) (f : Buf (Elt F) ((ms0_7 t).view.loc (c : Thread nD τ))) :
    Buf (Elt F) ((ms0_7 t).view.loc (c : Thread nD τ)) :=
  outBuf c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) f

/-- What the body is called with at point `t`. -/
def bodyPre (c : Dev nD) (t : Fin cfg0.N) : sProp 𝕄 :=
  iprop((dats m o 0 c).Φ t.castSucc ∗ (dats m o 0 c).owesAt () t.castSucc
    ∗ (∃ d, owns (c : Thread nD τ) (ms0_0 t) fullShare ((dats m o 0 c).before 0 t d))
    ∗ (∃ d, owns (c : Thread nD τ) (ms0_1 t) fullShare ((dats m o 0 c).before 1 t d))
    ∗ (∃ d, owns (c : Thread nD τ) (ms0_2 t) fullShare ((dats m o 0 c).before 2 t d))
    ∗ (∃ d, owns (c : Thread nD τ) (ms0_3 t) fullShare ((dats m o 0 c).before 3 t d))
    ∗ (∃ d, owns (c : Thread nD τ) (ms0_4 t) fullShare ((dats m o 0 c).before 4 t d))
    ∗ (∃ d, owns (c : Thread nD τ) (ms0_5 t) fullShare ((dats m o 0 c).before 5 t d))
    ∗ (∃ d, owns (c : Thread nD τ) (ms0_6 t) fullShare ((dats m o 0 c).before 6 t d))
    ∗ (∃ d, owns (c : Thread nD τ) (ms0_7 t) fullShare d))

/-- What it returns, the output's buffer as `R` says. -/
def bodyPost (c : Dev nD) (t : Fin cfg0.N) (R : sProp 𝕄) : sProp 𝕄 :=
  iprop((dats m o 0 c).Φ t.succ ∗ (dats m o 0 c).owesAt () t.succ
    ∗ (dats m o 0 c).leavesExact 0 t
    ∗ (dats m o 0 c).leavesExact 1 t
    ∗ (dats m o 0 c).leavesExact 2 t
    ∗ (dats m o 0 c).leavesExact 3 t
    ∗ (dats m o 0 c).leavesExact 4 t
    ∗ (dats m o 0 c).leavesExact 5 t
    ∗ (dats m o 0 c).leavesExact 6 t
    ∗ R)

set_option maxHeartbeats 4800000 in
/-- The body at any point, `R` whatever follows from the buffer it leaves in the output's window. -/
theorem sound_body (c : Dev nD) (t : Fin cfg0.N) (R : sProp 𝕄)
    (hR : ∀ f, owns (c : Thread nD τ) (ms0_7 t) fullShare ((ms0_7 t).view.read (Elt F) (outAt m c t f)) ⊢ R) :
    bodyPre m o c t ⊢ wp frame (wpE (defs₀ (F := F)) Variants.none c none) Set.univ (bodyAt0 t) (fun _ => bodyPost m o c t R) := by
  unfold bodyPre bodyPost bodyAt0
  simp only [before0_0, before0_1, before0_2, before0_3, before0_4, before0_5, before0_6]
  rw [show (dats m o 0 c).Φ t.succ = (dats m o 0 c).Φ t.castSucc from rfl,
    show (dats m o 0 c).owesAt () t.succ = (dats m o 0 c).owesAt () t.castSucc from rfl]
  rw [show (dats m o 0 c).Φ t.castSucc = Pipeline.ΦA spec0 c from rfl, PhiA0_eq]
  rw [show (dats m o 0 c).leavesExact 0 t = owns (c : Thread nD τ) (ms0_0 t) fullShare ((dats m o 0 c).after 0 t) from by
    unfold Dat.leavesExact; rw [liveAt0_0 t], after0_0]
  rw [show (dats m o 0 c).leavesExact 1 t = owns (c : Thread nD τ) (ms0_1 t) fullShare ((dats m o 0 c).after 1 t) from by
    unfold Dat.leavesExact; rw [liveAt0_1 t], after0_1]
  rw [show (dats m o 0 c).leavesExact 2 t = owns (c : Thread nD τ) (ms0_2 t) fullShare ((dats m o 0 c).after 2 t) from by
    unfold Dat.leavesExact; rw [liveAt0_2 t], after0_2]
  rw [show (dats m o 0 c).leavesExact 3 t = owns (c : Thread nD τ) (ms0_3 t) fullShare ((dats m o 0 c).after 3 t) from by
    unfold Dat.leavesExact; rw [liveAt0_3 t], after0_3]
  rw [show (dats m o 0 c).leavesExact 4 t = owns (c : Thread nD τ) (ms0_4 t) fullShare ((dats m o 0 c).after 4 t) from by
    unfold Dat.leavesExact; rw [liveAt0_4 t], after0_4]
  rw [show (dats m o 0 c).leavesExact 5 t = owns (c : Thread nD τ) (ms0_5 t) fullShare ((dats m o 0 c).after 5 t) from by
    unfold Dat.leavesExact; rw [liveAt0_5 t], after0_5]
  rw [show (dats m o 0 c).leavesExact 6 t = owns (c : Thread nD τ) (ms0_6 t) fullShare ((dats m o 0 c).after 6 t) from by
    unfold Dat.leavesExact; rw [liveAt0_6 t], after0_6]
  rw [show (iprop(∃ d, owns (c : Thread nD τ) (ms0_7 t) fullShare d) : sProp 𝕄)
    = iprop(∃ d f, ⌜(ms0_7 t).view.read (Elt F) f = d⌝ ∗ ((ms0_7 t).view.loc (c : Thread nD τ) ↦[(ms0_7 t).view.set]{fullShare} f)) from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, %f7, -, H7⟩⟩
  iapply (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) _ f7)
  isplitl [H0 H1 H2 H3 H4 H5 H6]
  · sl_close
  isplitl [H7]; · iexact H7
  isplitl [HS]; · iexact HS
  iintro ⟨⟨H0, H1, H2, H3, H4, H5, H6⟩, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (hR f7)
  unfold owns
  iexists _; isplitr
  swap; · iexact H7
  ipureintro; rfl

/-- The body table's row at point `t`'s slots is the body as the pipeline calls it. -/
theorem defs₀_row (t : Fin cfg0.N) :
    defs₀ (F := F) .tc cfg0.body (cfg0.bodyArgs t (cfg0.slots t)) = bodyAt0 t := by
  unfold defs₀; rw [Defs.onTc_tc]

/-! ## The run with the output's contents left unsaid, and the frame -/

/-- The window whose contents nothing is said of: the output's. -/
def forgets0 : Fin 8 → Bool := fun w => w.val == 7

/-- Some contents, for a window nothing is said of. -/
def anyOut : Dev nD → Fin cfg0.N → S1x512x256.Idx → Elt F .bf16 := fun _ _ _ => FloatOps.ofBits .bf16 0#16

theorem body_obligation (c : Dev nD) :
    BodyObligation (dats (F := F) m anyOut 0 c) (defs₀ (F := F)) Variants.none () Set.univ forgets0 := fun t => by
  rw [bigSep_W0, bigSep_W0, defs₀_row]
  exact triple_restated (sound_body m anyOut c t (iprop(∃ d, owns (c : Thread nD τ) (ms0_7 t) fullShare d))
    (fun f => by iintro H; iexists _; iexact H)) rfl .rfl fun _ => .rfl

set_option backward.isDefEq.respectTransparency.types false in
/-- The launch: it terminates with every buffer the region does not stage at its contents at the region's entry. -/
theorem run_main_quiescent : θ_run defs (onTc (τ := τ) (main (F := F))) (s₀ m ρ) (fun r => (Pipeline.RDat.FramePost (cfgs 0) (fun c => (dats m anyOut 0 c).toRForget forgets0) (V m)) r ∧ r.2.sem = fun _ => 0) :=
  Pipeline.θ_run_frame_forget_shared (Q' := _) cfgs (dats m anyOut) (0 : Fin 1) launch₀0 defs₀ Variants.none forgets0 m ρ main
    (hbody := fun c => (body_obligation m c).loose) (hq := fun _ _ _ => rfl)
    (howed := fun _ _ => rfl) (V := V m) (hmain := hmain m Variants.none) (hA := A_eq m anyOut) (hΦ := fun _ _ => rfl)

/-- The frame: the program terminates, its argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩)
    (run_main_quiescent m ρ)

end Cert.KernelIdeal.Attn

end
-- ==== Proof.KernelIdeal.Ops.lean ====
/- Two-axis arrays of any extent: slices, joins, products and row reductions read at an index, and arrays of real numbers. -/
module

public import proofs.«01_k».proof.Proof.KernelIdeal.Run
public import Idealize.ShloMosaic.Lib.Pointwise
public import Idealize.ShloMosaic.Lib.Pipeline.Value
public import Idealize.ShloMosaic.Lib.MatmulPlain

@[expose] public section

set_option maxRecDepth 16384

noncomputable section

namespace Cert.KernelIdeal.Attn

open Idealize.ShloMosaic Idealize.ShloMosaic.TcCoe Idealize.ShloMosaic.Tactic

/-- The shape of a two-axis array. -/
abbrev Mx (a b : ℕ) : Shape := ⟨2, ![a, b]⟩

theorem slices_Mx {a b c d x y : ℕ} (h : x + c ≤ a) (h' : y + d ≤ b) : (Mx a b).Slices ![x, y] (Mx c d) :=
  ⟨rfl, fun t => by fin_cases t; exacts [h, h']⟩

theorem join1_Mx {a b d : ℕ} : Shape.Concatenates [Mx a b, Mx a d] (Mx a (b + d)) 1 :=
  ⟨le_rfl, by intro s hs; fin_cases hs <;> exact ⟨rfl, fun t ht => by fin_cases t <;> simp_all⟩, by simp⟩

theorem join0_Mx {a b d : ℕ} : Shape.Concatenates [Mx a b, Mx d b] (Mx (a + d) b) 0 :=
  ⟨le_rfl, by intro s hs; fin_cases hs <;> exact ⟨rfl, fun t ht => by fin_cases t <;> simp_all⟩, by simp⟩

theorem reduces_Mx {a b : ℕ} : (Mx a b).Reduces [1] ⟨1, ![a]⟩ :=
  ⟨rfl, Nat.one_pos, fun t => by fin_cases t; rfl⟩

section Reads

variable {α : Type}

theorem slice_apply {a b c d x y : ℕ} (q : (Mx a b).Idx → α) (h : (Mx a b).Slices ![x, y] (Mx c d)) (r : Fin c) (k : Fin d)
    (hr : x + r.val < a) (hk : y + k.val < b) :
    extractStridedSlice (Mx c d) ![x, y] q h (ix2 r k) = q (ix2 ⟨x + r.val, hr⟩ ⟨y + k.val, hk⟩) :=
  extractStridedSlice_apply ![x, y] q h (ix2 r k) _ (by intro t; fin_cases t <;> rfl)

theorem join1_left {a b d n : ℕ} (p : (Mx a b).Idx → α) (q : (Mx a d).Idx → α) (h : Shape.Concatenates [Mx a b, Mx a d] (Mx a n) 1)
    (r : Fin a) (k : Fin n) (hk : k.val < b) :
    concatenate (Mx a n) 1 [⟨Mx a b, p⟩, ⟨Mx a d, q⟩] h (ix2 r k) = p (ix2 r ⟨k.val, hk⟩) :=
  concatenate_pair_apply_left (s₁ := Mx a b) (s₂ := Mx a d) 1 p q h (ix2 r k) rfl (ix2 r ⟨k.val, hk⟩) (by intro t; fin_cases t <;> rfl)

theorem join1_right {a b d n : ℕ} (p : (Mx a b).Idx → α) (q : (Mx a d).Idx → α) (h : Shape.Concatenates [Mx a b, Mx a d] (Mx a n) 1)
    (r : Fin a) (k : Fin n) (j : Fin d) (hk : j.val + b = k.val) :
    concatenate (Mx a n) 1 [⟨Mx a b, p⟩, ⟨Mx a d, q⟩] h (ix2 r k) = q (ix2 r j) :=
  concatenate_pair_apply_right (s₁ := Mx a b) (s₂ := Mx a d) 1 p q h (ix2 r k) rfl rfl (ix2 r j)
    (by intro t ht; fin_cases t <;> first | rfl | exact absurd rfl ht) hk

theorem join0_left {a b d n : ℕ} (p : (Mx a b).Idx → α) (q : (Mx d b).Idx → α) (h : Shape.Concatenates [Mx a b, Mx d b] (Mx n b) 0)
    (r : Fin n) (k : Fin b) (hr : r.val < a) :
    concatenate (Mx n b) 0 [⟨Mx a b, p⟩, ⟨Mx d b, q⟩] h (ix2 r k) = p (ix2 ⟨r.val, hr⟩ k) :=
  concatenate_pair_apply_left (s₁ := Mx a b) (s₂ := Mx d b) 0 p q h (ix2 r k) rfl (ix2 ⟨r.val, hr⟩ k) (by intro t; fin_cases t <;> rfl)

theorem join0_right {a b d n : ℕ} (p : (Mx a b).Idx → α) (q : (Mx d b).Idx → α) (h : Shape.Concatenates [Mx a b, Mx d b] (Mx n b) 0)
    (r : Fin n) (k : Fin b) (j : Fin d) (hr : j.val + a = r.val) :
    concatenate (Mx n b) 0 [⟨Mx a b, p⟩, ⟨Mx d b, q⟩] h (ix2 r k) = q (ix2 j k) :=
  concatenate_pair_apply_right (s₁ := Mx a b) (s₂ := Mx d b) 0 p q h (ix2 r k) rfl rfl (ix2 j k)
    (by intro t ht; fin_cases t <;> first | rfl | exact absurd rfl ht) hr

end Reads

theorem index_eq {a b : ℕ} (r : Fin a) (c : Fin b) : (ValueIdx.ix2 r c : (Mx a b).Idx) = ix2 r c := by
  funext t; fin_cases t <;> rfl

theorem dotT_apply (R W K : ℕ) (q : FVec Ideal (Mx R K) .bf16) (k : FVec Ideal (Mx W K) .bf16) (r : Fin R) (c : Fin W) :
    matmul (DotDims.transposedRhs R K W) none q k (constant _ .f32 0x00000000#32) (ix2 r c) = ∑ e, q (ix2 r e) * k (ix2 c e) := by
  have h := Ideal.matmul_transposedRhs_apply none q k (constant (Mx R W) .f32 0x00000000#32) r c
  rw [show (constant (F := Ideal) (Mx R W) .f32 0x00000000#32) (ValueIdx.ix2 r c) = 0 from Ideal.ofBits_zero_f32, zero_add] at h
  simpa only [index_eq] using h

theorem dotP_apply (R W D : ℕ) (q : FVec Ideal (Mx R W) .bf16) (k : FVec Ideal (Mx W D) .bf16) (r : Fin R) (c : Fin D) :
    matmul (DotDims.plain R W D) none q k (constant _ .f32 0x00000000#32) (ix2 r c) = ∑ e, q (ix2 r e) * k (ix2 e c) := by
  have h := Ideal.matmul_plain_apply none q k (constant (Mx R D) .f32 0x00000000#32) r c
  rw [show (constant (F := Ideal) (Mx R D) .f32 0x00000000#32) (ValueIdx.ix2 r c) = 0 from Ideal.ofBits_zero_f32, zero_add] at h
  simpa only [index_eq] using h

theorem rowSum_apply {R C : ℕ} (q : FVec Ideal (Mx R C) .f32) (h : (Mx R C).Reduces [1] ⟨1, ![R]⟩) (r : Fin R) :
    multiReduction .add [1] ⟨1, ![R]⟩ q 0x00000000#32 h (.inl rfl) rfl (ix1 r) = ∑ c, q (ix2 r c) := by
  pointwise

theorem rowMax_apply {R C : ℕ} (q : FVec Ideal (Mx R C) .f32) (h : (Mx R C).Reduces [1] ⟨1, ![R]⟩) (r : Fin R) :
    multiReduction .maximumf [1] ⟨1, ![R]⟩ q 0xFF800000#32 h (.inl rfl) rfl (ix1 r)
      = Finset.univ.fold max (Ideal.ofBits .f32 0xFF800000#32) fun c => q (ix2 r c) := by
  pointwise

theorem column_apply {R C : ℕ} {α : Type} (q : (⟨1, ![R]⟩ : Shape).Idx → α) (h : (⟨1, ![R]⟩ : Shape).ShapeCasts (Mx R 1)) (h' : (Mx R 1).Broadcasts (Mx R C))
    (r : Fin R) (c : Fin C) : broadcastTo (Mx R C) (shapeCast (Mx R 1) q h) h' (ix2 r c) = q (ix1 r) := by
  rw [broadcastTo_apply (shapeCast (Mx R 1) q h) h' (ix2 r c) (ix2 r (0 : Fin 1)) (by
    intro a
    match a with
    | ⟨0, _⟩ =>
      show r.val = if R = 1 then 0 else r.val
      split
      · have := r.isLt; omega
      · rfl
    | ⟨1, _⟩ => rfl)]
  exact shapeCast_apply q h _ _ (by
    show (Shape.rowMajorPi ![R] (ix1 r)).val = (Shape.rowMajorPi ![R, 1] (ix2 r (0 : Fin 1))).val
    simp only [Shape.rowMajorPi, Shape.rankPi, ix1, ix2]
    rfl)

/-- A sum of real numbers, taken among the extended reals. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih fun k => f k.succ, EReal.coe_add]

/-- The same over the first natural numbers. -/
theorem coe_sum_range (n : ℕ) (f : ℕ → ℝ) : ∑ k : Fin n, ((f k.val : ℝ) : EReal) = ((∑ k ∈ Finset.range n, f k : ℝ) : EReal) := by
  rw [coe_sum, Fin.sum_univ_eq_sum_range]

/-- A sum taken in strides of 128 is the whole sum. -/
theorem sum_strides (f : ℕ → ℝ) (n : ℕ) :
    ∑ k ∈ Finset.range 128, ∑ j ∈ Finset.range n, f (128 * j + k) = ∑ c ∈ Finset.range (128 * n), f c := by
  induction n with
  | zero => simp
  | succ n ih =>
    rw [Nat.mul_succ, Finset.sum_range_add, ← ih, ← Finset.sum_add_distrib]
    exact Finset.sum_congr rfl fun k _ => Finset.sum_range_succ _ n

/-- The average of `v` with weights `w`, over the first `n` places. -/
def avg (w v : ℕ → ℝ) (n : ℕ) : ℝ := (∑ c ∈ Finset.range n, w c * v c) / ∑ c ∈ Finset.range n, w c

/-- Weights past the last place that has one do not count. -/
theorem avg_more (w v : ℕ → ℝ) {n N : ℕ} (h : n ≤ N) (hw : ∀ c, n ≤ c → w c = 0) : avg w v N = avg w v n := by
  unfold avg
  have hs : Finset.range n ⊆ Finset.range N := Finset.range_mono h
  rw [Finset.sum_subset hs fun c _ hc => hw c (by simpa using hc),
    Finset.sum_subset hs fun c _ hc => by rw [hw c (by simpa using hc), zero_mul]]

/-- A common factor of the weights does not count. -/
theorem avg_scale (w w' v : ℕ → ℝ) {n : ℕ} (x : ℝ) (hx : x ≠ 0) (hw : ∀ c, c < n → w' c = x * w c) : avg w' v n = avg w v n := by
  unfold avg
  rw [Finset.sum_congr rfl fun c hc => by rw [hw c (Finset.mem_range.1 hc), mul_assoc],
    Finset.sum_congr (g := fun c => x * w c) rfl fun c hc => hw c (Finset.mem_range.1 hc), ← Finset.mul_sum, ← Finset.mul_sum,
    mul_div_mul_left _ _ hx]

end Cert.KernelIdeal.Attn

end
-- ==== Proof.KernelIdeal.Stream.lean ====
/- One query tile's attention over all its keys at once, as the bounded branches compute it: the operations, and what they give over the reals. -/
module

public import proofs.«01_k».proof.Proof.KernelIdeal.Ops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section Terms

variable {F : FTy → Type} [FloatOps F]

/-- The lane-wise sum of the first `t + 1` blocks of 128 columns. -/
def lanes {R W : ℕ} (p : FVec F (Mx R W) .f32) : (t : ℕ) → 128 * (t + 1) ≤ W → FVec F (Mx R 128) .f32
  | 0, h => extractStridedSlice (Mx R 128) ![0, 0] p (slices_Mx (by omega) (by omega))
  | t + 1, h => addf (lanes p t (by omega)) (extractStridedSlice (Mx R 128) ![0, 128 * (t + 1)] p (slices_Mx (by omega) (by omega)))

/-- Weighted values over summed weights, row by row. -/
def nrm (a : FVec F (Mx 512 256) .f32) (l : FVec F (Mx 512 128) .f32) : FVec F (Mx 512 256) .f32 :=
  mulf a (broadcastTo S512x256 (divf (broadcast S512x1 (Scalar.ofBits .f32 0x3F800000#32))
    (shapeCast S512x1 (multiReduction .add [1] S512 l 0x00000000#32 reduces_S512x128_S512 (.inl rfl) rfl) shapeCasts_S512_S512x1))
    broadcasts_S512x1_S512x256)

/-- The weights of `R` queries on `W` keys, before the mask. -/
def wts {R W : ℕ} (q : FVec F (Mx R 128) .bf16) (k : FVec F (Mx W 128) .bf16) (b : F .f32) : FVec F (Mx R W) .f32 :=
  exp2 (subf (matmul (DotDims.transposedRhs R 128 W) none q k (constant (Mx R W) .f32 0x00000000#32)) (broadcast (Mx R W) b))

/-- The mask put on the last 256 of more columns. -/
def cut {W : ℕ} (p : FVec F (Mx 512 (W + 256)) .f32) (tri : FVec F (Mx 512 256) .f32) : FVec F (Mx 512 (W + 256)) .f32 :=
  concatenate (Mx 512 (W + 256)) 1 [⟨Mx 512 W, extractStridedSlice (Mx 512 W) ![0, 0] p (slices_Mx (by omega) (by omega))⟩,
    ⟨Mx 512 256, mulf (extractStridedSlice (Mx 512 256) ![0, W] p (slices_Mx (by omega) (by omega))) tri⟩] join1_Mx

/-- The tile's average of the values: the lower half of the rows has 256 columns more. -/
def whole {W : ℕ} (t : ℕ) (ht : 128 * (t + 1) ≤ W) (pm : FVec F (Mx 512 W) .f32) (pc : FVec F (Mx 256 256) .f32)
    (vm : FVec F (Mx W 256) .bf16) (vc : FVec F (Mx 256 256) .bf16) : FVec F (Mx 512 256) .f32 :=
  have l := lanes pm t ht
  have a := matmul (DotDims.plain 512 W 256) none (truncf .bf16 pm bitsLt_bf16_f32) vm (constant (Mx 512 256) .f32 0x00000000#32)
  nrm
    (concatenate (Mx 512 256) 0 [⟨Mx 256 256, extractStridedSlice (Mx 256 256) ![0, 0] a (slices_Mx (by omega) (by omega))⟩,
      ⟨Mx 256 256, addf (extractStridedSlice (Mx 256 256) ![256, 0] a (slices_Mx (by omega) (by omega)))
        (matmul (DotDims.plain 256 256 256) none (truncf .bf16 pc bitsLt_bf16_f32) vc (constant (Mx 256 256) .f32 0x00000000#32))⟩] join0_Mx)
    (concatenate (Mx 512 128) 0 [⟨Mx 256 128, extractStridedSlice (Mx 256 128) ![0, 0] l (slices_Mx (by omega) (by omega))⟩,
      ⟨Mx 256 128, addf (extractStridedSlice (Mx 256 128) ![256, 0] l (slices_Mx (by omega) (by omega))) (lanes pc 1 (by omega))⟩] join0_Mx)

end Terms

theorem lanes_apply {R W : ℕ} (p : FVec Ideal (Mx R W) .f32) (r : Fin R) (w : ℕ → ℝ) (hp : ∀ c : Fin W, p (ix2 r c) = ((w c.val : ℝ) : EReal))
    (t : ℕ) (h : 128 * (t + 1) ≤ W) (k : Fin 128) :
    lanes p t h (ix2 r k) = ((∑ j ∈ Finset.range (t + 1), w (128 * j + k.val) : ℝ) : EReal) := by
  induction t with
  | zero =>
    rw [lanes, slice_apply p _ r k (by omega) (by omega)]
    simp only [Nat.zero_add, Finset.range_one, Finset.sum_singleton, Nat.mul_zero]
    exact hp _
  | succ t ih =>
    rw [lanes, addf_apply, Ideal.addf_def, ih (by omega), slice_apply p _ r k (by omega) (by omega), Finset.sum_range_succ _ (t + 1), EReal.coe_add]
    have e : (⟨0 + r.val, by omega⟩ : Fin R) = r := Fin.ext (Nat.zero_add _)
    rw [e, hp]

theorem nrm_apply (a : FVec Ideal (Mx 512 256) .f32) (l : FVec Ideal (Mx 512 128) .f32) (r : Fin 512) (d : Fin 256) (A : ℝ) (L : ℕ → ℝ)
    (ha : a (ix2 r d) = (A : EReal)) (hl : ∀ k : Fin 128, l (ix2 r k) = ((L k.val : ℝ) : EReal)) (hs : ∑ k ∈ Finset.range 128, L k ≠ 0) :
    nrm a l (ix2 r d) = ((A / ∑ k ∈ Finset.range 128, L k : ℝ) : EReal) := by
  unfold nrm
  pointwise
  simp only [hl, ha]
  rw [coe_sum_range, Ideal.div_coe hs, one_mul, ← EReal.coe_mul, mul_one_div]

/-- The bounded branches' average is the average with the masked weights. -/
theorem whole_apply {W : ℕ} (t : ℕ) (hW : W = 128 * (t + 1)) (ht : 128 * (t + 1) ≤ W) (pm : FVec Ideal (Mx 512 W) .f32) (pc : FVec Ideal (Mx 256 256) .f32)
    (vm : FVec Ideal (Mx W 256) .bf16) (vc : FVec Ideal (Mx 256 256) .bf16) (r : Fin 512) (d : Fin 256) (w v : ℕ → ℝ)
    (hpm : ∀ c : Fin W, pm (ix2 r c) = ((w c.val : ℝ) : EReal))
    (hup : r.val < 256 → ∀ c : Fin 256, w (W + c.val) = 0)
    (hlow : ∀ r' : Fin 256, r'.val + 256 = r.val → ∀ c : Fin 256, pc (ix2 r' c) = ((w (W + c.val) : ℝ) : EReal))
    (hvm : ∀ c : Fin W, vm (ix2 c d) = ((v c.val : ℝ) : EReal)) (hvc : ∀ c : Fin 256, vc (ix2 c d) = ((v (W + c.val) : ℝ) : EReal))
    (hs : ∑ c ∈ Finset.range (W + 256), w c ≠ 0) :
    whole t ht pm pc vm vc (ix2 r d) = ((avg w v (W + 256) : ℝ) : EReal) := by
  have hl := lanes_apply pm r w hpm t ht
  have ha : matmul (DotDims.plain 512 W 256) none (truncf .bf16 pm bitsLt_bf16_f32) vm (constant (Mx 512 256) .f32 0x00000000#32) (ix2 r d)
      = ((∑ c ∈ Finset.range W, w c * v c : ℝ) : EReal) := by
    rw [dotP_apply, ← coe_sum_range]
    refine Finset.sum_congr rfl fun c _ => ?_
    rw [EReal.coe_mul, ← hpm, ← hvm]; rfl
  unfold whole
  by_cases hr : r.val < 256
  · have h0 : ∀ c ∈ Finset.range 256, w (W + c) = 0 := fun c hc => hup hr ⟨c, Finset.mem_range.1 hc⟩
    rw [nrm_apply _ _ r d (∑ c ∈ Finset.range W, w c * v c) (fun k => ∑ j ∈ Finset.range (t + 1), w (128 * j + k))]
    · unfold avg
      rw [sum_strides, ← hW, Finset.sum_range_add, Finset.sum_range_add, Finset.sum_eq_zero h0,
        Finset.sum_eq_zero (f := fun c => w (W + c) * v (W + c)) fun c hc => by rw [h0 c hc, zero_mul], add_zero, add_zero]
    · rw [join0_left _ _ _ r d hr, slice_apply _ _ _ _ (by show 0 + r.val < 512; omega) (by omega)]
      simp only [Nat.zero_add, Fin.eta]
      exact ha
    · intro k
      rw [join0_left _ _ _ r k hr, slice_apply _ _ _ _ (by show 0 + r.val < 512; omega) (by omega)]
      simp only [Nat.zero_add, Fin.eta]
      exact hl k
    · rw [sum_strides, ← hW]
      rwa [Finset.sum_range_add, Finset.sum_eq_zero h0, add_zero] at hs
  · obtain ⟨r', hr'⟩ : ∃ r' : Fin 256, r'.val + 256 = r.val := ⟨⟨r.val - 256, by omega⟩, by show r.val - 256 + 256 = r.val; omega⟩
    have er : ∀ h, (⟨256 + r'.val, h⟩ : Fin 512) = r := fun h => Fin.ext (by show 256 + r'.val = r.val; omega)
    have hl' := lanes_apply pc r' (fun c => w (W + c)) (hlow r' hr') 1 (by omega)
    rw [nrm_apply _ _ r d (∑ c ∈ Finset.range W, w c * v c + ∑ c ∈ Finset.range 256, w (W + c) * v (W + c))
      (fun k => ∑ j ∈ Finset.range (t + 1), w (128 * j + k) + ∑ j ∈ Finset.range 2, w (W + (128 * j + k)))]
    · unfold avg
      rw [Finset.sum_add_distrib, sum_strides, sum_strides (fun c => w (W + c)), ← hW, Finset.sum_range_add, Finset.sum_range_add]
    · rw [join0_right _ _ _ r d r' hr', addf_apply, slice_apply _ _ _ _ (by omega) (by omega), er]
      simp only [Nat.zero_add, Fin.eta]
      rw [ha, dotP_apply, Ideal.addf_def, EReal.coe_add, ← coe_sum_range, ← coe_sum_range]
      refine congrArg _ (Finset.sum_congr rfl fun c _ => ?_)
      rw [EReal.coe_mul, ← hlow r' hr', ← hvc]; rfl
    · intro k
      rw [join0_right _ _ _ r k r' hr', addf_apply, slice_apply _ _ _ _ (by omega) (by omega), er]
      simp only [Nat.zero_add, Fin.eta]
      rw [hl, hl', Ideal.addf_def, EReal.coe_add]
    · rw [Finset.sum_add_distrib, sum_strides, sum_strides (fun c => w (W + c)), ← hW]
      rwa [Finset.sum_range_add] at hs

end Cert.KernelIdeal.Attn

end
-- ==== Proof.KernelIdeal.Small.lean ====
/- What the body leaves in the output block where the bound is at most the threshold: one term for each of the four query tiles. -/
module

public import proofs.«01_k».proof.Proof.KernelIdeal.Stream
public import Idealize.ShloMosaic.Lib.WritesUnit
public import Idealize.ShloMosaic.Lib.WholeRead

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-- The query tile of a grid point. -/
def tileOf (i : grid0.Coords) : Fin 4 := i 2

/-- The mixing number, from the four rows of its parameters. -/
def mixing (lp : FVec F S4x128 .f32) : FVec F S1x1 .f32 :=
  addf (subf
      (exp (shapeCast S1x1 (multiReduction .add [1] S1 (mulf (extractStridedSlice S1x128 ![0, 0] lp slices_S4x128_o0_0_S1x128)
        (extractStridedSlice S1x128 ![1, 0] lp slices_S4x128_o1_0_S1x128)) 0x00000000#32 reduces_S1x128_S1 (.inl rfl) rfl) shapeCasts_S1_S1x1))
      (exp (shapeCast S1x1 (multiReduction .add [1] S1 (mulf (extractStridedSlice S1x128 ![2, 0] lp slices_S4x128_o2_0_S1x128)
        (extractStridedSlice S1x128 ![3, 0] lp slices_S4x128_o3_0_S1x128)) 0x00000000#32 reduces_S1x128_S1 (.inl rfl) rfl) shapeCasts_S1_S1x1)))
    (broadcast S1x1 (Scalar.ofBits .f32 0x3EB60549#32))

/-- The first average less the mixed second. -/
def mix (o1 o2 : FVec F S512x256 .f32) (lp : FVec F S4x128 .f32) : FVec F S512x256 .f32 :=
  subf o1 (mulf (broadcastTo S512x256 (mixing lp) broadcasts_S1x1_S512x256) o2)

/-- The difference of the two averages, scaled to unit mean square, and gated. -/
def gated (o : FVec F S512x256 .f32) (g : FVec F S1x512x256 .bf16) : FVec F S1x512x256 .bf16 :=
  shapeCast S1x512x256 (truncf .bf16 (mulf (mulf (mulf o
    (broadcastTo S512x256 (rsqrt (addf (divf (shapeCast S512x1 (multiReduction .add [1] S512 (mulf o o) 0x00000000#32 reduces_S512x256_S512 (.inl rfl) rfl) shapeCasts_S512_S512x1)
      (broadcast S512x1 (Scalar.ofBits .f32 0x43800000#32))) (broadcast S512x1 (Scalar.ofBits .f32 0x358637BD#32)))) broadcasts_S512x1_S512x256))
    (broadcast S512x256 (Scalar.ofBits .f32 0x3F24FD5C#32)))
    (extf .f32 (shapeCast S512x256 g shapeCasts_S1x512x256_S512x256) bitsLt_bf16_f32)) bitsLt_bf16_f32) shapeCasts_S512x256_S1x512x256

theorem rect_ok {o j W D : ℕ} (h : o + W ≤ 2048) (h' : j + D ≤ 256) :
    ∀ a, (![0, o, j] : Fin 3 → ℕ) a + (⟨3, ![1, W, D]⟩ : Shape).size a ≤ S1x2048x256.size a := fun a => by
  fin_cases a; exacts [le_rfl, h, h']

theorem plane_ok {W D : ℕ} : (⟨3, ![1, W, D]⟩ : Shape).ShapeCasts (Mx W D) := by
  show Shape.numel _ = Shape.numel _
  unfold Shape.numel
  simp only [Fin.prod_univ_succ]
  simp

/-- Rows and columns of one staged plane, as loaded from any offsets. -/
def planeAt (arg : Memref sig .tc .vmem S1x2048x256 .bf16) (h : arg.IsWhole) (x : Vec F S1x2048x256 .bf16) (W D : ℕ) (off : Fin 3 → ℕ)
    (hin : ∀ a, off a + (⟨3, ![1, W, D]⟩ : Shape).size a ≤ S1x2048x256.size a) : FVec F (Mx W D) .bf16 :=
  shapeCast (Mx W D) (arg.view.readAt (Elt F) (Rect.unit (s := S1x2048x256) off (⟨3, ![1, W, D]⟩ : Shape).size hin).toLoadRect (h.unread x)) plane_ok

theorem planeAt_apply (arg : Memref sig .tc .vmem S1x2048x256 .bf16) (h : arg.IsWhole) (x : Vec F S1x2048x256 .bf16) (W D : ℕ) (off : Fin 3 → ℕ)
    (hin : ∀ a, off a + (⟨3, ![1, W, D]⟩ : Shape).size a ≤ S1x2048x256.size a) (o j : ℕ) (he : off = ![0, o, j]) (c : Fin W) (d : Fin D)
    (hc : o + c.val < 2048) (hd : j + d.val < 256) :
    planeAt arg h x W D off hin (ix2 c d) = x (ix3 (0 : Fin 1) ⟨o + c.val, hc⟩ ⟨j + d.val, hd⟩) := by
  subst he
  unfold planeAt
  rw [shapeCast_apply _ plane_ok (ix2 c d) (ix3 (0 : Fin 1) c d : (⟨3, ![1, W, D]⟩ : Shape).Idx) (by
    show (Shape.rowMajorPi ![1, W, D] (ix3 (0 : Fin 1) c d)).val = (Shape.rowMajorPi ![W, D] (ix2 c d)).val
    simp only [Shape.rowMajorPi, Shape.rankPi, ix2, ix3]
    simp), h.readAt_unread]
  refine congrArg x (funext fun a => Fin.ext ?_)
  fin_cases a
  · rfl
  · show o + 1 * c.val = o + c.val; omega
  · show j + 1 * d.val = j + d.val; omega

/-- The same from literal offsets. -/
def part (arg : Memref sig .tc .vmem S1x2048x256 .bf16) (h : arg.IsWhole) (x : Vec F S1x2048x256 .bf16) (W D o j : ℕ) (ho : o + W ≤ 2048) (hj : j + D ≤ 256) :
    FVec F (Mx W D) .bf16 :=
  planeAt arg h x W D ![0, o, j] (rect_ok ho hj)

section Reads

variable (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S4x128 .f32) (harg8 : arg8.IsWhole) (arg9 : Memref sig .tc .vmem S512x256 .f32) (harg9 : arg9.IsWhole) (arg10 : Memref sig .tc .vmem S1x512x256 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x256 .f32) (harg16 : arg16.IsWhole)
    (x0 : Vec F S1 .f32) (x1 x2 : Vec F S1x512x256 .bf16) (x3 x4 : Vec F S1x2048x256 .bf16) (x5 : Vec F S4x128 .f32)
    (x6 : Vec F S512x256 .f32)

/-- The queries of one of the two maps. -/
def qry (j : ℕ) (hj : j + 128 ≤ 256) : FVec F (Mx 512 128) .bf16 :=
  extractStridedSlice (Mx 512 128) ![0, j] (shapeCast S512x256
    (arg4.view.readAt (Elt F) (Rect.unit (s := S1x512x256) ![0, 0, 0] S1x512x256.size inb_S1x512x256_S1x512x256_0_0_0).toLoadRect (harg4.unread x1))
    shapeCasts_S1x512x256_S512x256) (slices_Mx (by omega) hj)

def tri512 : FVec F (Mx 512 256) .f32 :=
  shapeCast S512x256 (arg9.view.readAt (Elt F) (Rect.unit (s := S512x256) ![0, 0] S512x256.size inb_S512x256_S512x256_0_0).toLoadRect (harg9.unread x6)) shapeCasts_S512x256_S512x256

def tri256 : FVec F (Mx 256 256) .f32 :=
  shapeCast S256x256 (arg9.view.readAt (Elt F) (Rect.unit (s := S512x256) ![0, 0] S256x256.size inb_S512x256_S256x256_0_0).toLoadRect (harg9.unread x6)) shapeCasts_S256x256_S256x256

/-- The weights of the lower half's last 256 columns, masked. -/
def late (W j : ℕ) (hW : W + 256 ≤ 2048) (hj : j + 128 ≤ 256) : FVec F (Mx 256 256) .f32 :=
  mulf (wts (extractStridedSlice (Mx 256 128) ![256, 0] (qry arg4 harg4 x1 j hj) (slices_Mx (by omega) (by omega)))
    (part arg6 harg6 x3 256 128 W j hW hj) (bnd arg3 harg3 x0)) (tri256 arg9 harg9 x6)

/-- The first tile's average in one of the two maps. -/
def first (j : ℕ) (hj : j + 128 ≤ 256) : FVec F (Mx 512 256) .f32 :=
  whole 1 (by omega) (mulf (wts (qry arg4 harg4 x1 j hj) (part arg6 harg6 x3 256 128 0 j (by omega) hj) (bnd arg3 harg3 x0)) (tri512 arg9 harg9 x6))
    (late arg3 harg3 arg4 harg4 arg6 harg6 arg9 harg9 x0 x1 x3 x6 256 j (by omega) hj)
    (part arg7 harg7 x4 256 256 0 0 (by omega) (by omega)) (part arg7 harg7 x4 256 256 256 0 (by omega) (by omega))

/-- A later tile's average in one of the two maps, with `W` keys before its own. -/
def later (W t j : ℕ) (ht : 128 * (t + 1) ≤ W + 256) (hW : W + 256 + 256 ≤ 2048) (hj : j + 128 ≤ 256) : FVec F (Mx 512 256) .f32 :=
  whole t ht (cut (wts (qry arg4 harg4 x1 j hj) (part arg6 harg6 x3 (W + 256) 128 0 j (by omega) hj) (bnd arg3 harg3 x0)) (tri512 arg9 harg9 x6))
    (late arg3 harg3 arg4 harg4 arg6 harg6 arg9 harg9 x0 x1 x3 x6 (W + 256) j hW hj)
    (part arg7 harg7 x4 (W + 256) 256 0 0 (by omega) (by omega)) (part arg7 harg7 x4 256 256 (W + 256) 0 hW (by omega))

/-- The parameters of the mixing number, and the gate, as loaded. -/
def lamRows : FVec F S4x128 .f32 :=
  shapeCast S4x128 (arg8.view.readAt (Elt F) (Rect.unit (s := S4x128) ![0, 0] S4x128.size inb_S4x128_S4x128_0_0).toLoadRect (harg8.unread x5)) shapeCasts_S4x128_S4x128

def gateRows : FVec F S1x512x256 .bf16 :=
  arg5.view.readAt (Elt F) (Rect.unit (s := S1x512x256) ![0, 0, 0] S1x512x256.size inb_S1x512x256_S1x512x256_0_0_0).toLoadRect (harg5.unread x2)

theorem small0 : k0_pay4 (runSmall.sl.v153 c arg3 harg3 arg4 harg4 arg6 harg6 arg7 harg7 arg8 harg8 arg9 harg9 x0 x1 x3 x4 x5 x6) (gateRows arg5 harg5 x2)
    = gated (mix (first arg3 harg3 arg4 harg4 arg6 harg6 arg7 harg7 arg9 harg9 x0 x1 x3 x4 x6 0 (by omega))
        (first arg3 harg3 arg4 harg4 arg6 harg6 arg7 harg7 arg9 harg9 x0 x1 x3 x4 x6 128 (by omega)) (lamRows arg8 harg8 x5)) (gateRows arg5 harg5 x2) := rfl

theorem small1 : k0_pay5 (runSmall.sl.v85_1 c arg3 harg3 arg4 harg4 arg6 harg6 arg7 harg7 arg9 harg9 x0 x1 x3 x4 x6)
      (runSmall.sl.v143_1 c arg3 harg3 arg4 harg4 arg6 harg6 arg7 harg7 arg9 harg9 x0 x1 x3 x4 x6)
      (runSmall.sl.v136 c arg8 harg8 x5) runSmall.sl.cst_58 (gateRows arg5 harg5 x2)
    = gated (mix (later arg3 harg3 arg4 harg4 arg6 harg6 arg7 harg7 arg9 harg9 x0 x1 x3 x4 x6 512 5 0 (by omega) (by omega) (by omega))
        (later arg3 harg3 arg4 harg4 arg6 harg6 arg7 harg7 arg9 harg9 x0 x1 x3 x4 x6 512 5 128 (by omega) (by omega) (by omega)) (lamRows arg8 harg8 x5)) (gateRows arg5 harg5 x2) := rfl

theorem small2 : k0_pay6 (runSmall.sl.v93_1 c arg3 harg3 arg4 harg4 arg6 harg6 arg7 harg7 arg9 harg9 x0 x1 x3 x4 x6)
      (runSmall.sl.v159 c arg3 harg3 arg4 harg4 arg6 harg6 arg7 harg7 arg9 harg9 x0 x1 x3 x4 x6)
      (runSmall.sl.v123 c arg8 harg8 x5) (gateRows arg5 harg5 x2)
    = gated (mix (later arg3 harg3 arg4 harg4 arg6 harg6 arg7 harg7 arg9 harg9 x0 x1 x3 x4 x6 1024 9 0 (by omega) (by omega) (by omega))
        (later arg3 harg3 arg4 harg4 arg6 harg6 arg7 harg7 arg9 harg9 x0 x1 x3 x4 x6 1024 9 128 (by omega) (by omega) (by omega)) (lamRows arg8 harg8 x5)) (gateRows arg5 harg5 x2) := rfl

theorem small3 : k0_pay7 (runSmall.sl.v211 c arg3 harg3 arg4 harg4 arg5 harg5 arg6 harg6 arg7 harg7 arg8 harg8 arg9 harg9 x0 x1 x2 x3 x4 x5 x6)
    = gated (mix (later arg3 harg3 arg4 harg4 arg6 harg6 arg7 harg7 arg9 harg9 x0 x1 x3 x4 x6 1536 13 0 (by omega) (by omega) (by omega))
        (later arg3 harg3 arg4 harg4 arg6 harg6 arg7 harg7 arg9 harg9 x0 x1 x3 x4 x6 1536 13 128 (by omega) (by omega) (by omega)) (lamRows arg8 harg8 x5)) (gateRows arg5 harg5 x2) := rfl

/-- The average of query tile `n` in one of the two maps. -/
def tileAvg (n : Fin 4) (j : ℕ) (hj : j + 128 ≤ 256) : FVec F (Mx 512 256) .f32 :=
  match n with
  | 0 => first arg3 harg3 arg4 harg4 arg6 harg6 arg7 harg7 arg9 harg9 x0 x1 x3 x4 x6 j hj
  | 1 => later arg3 harg3 arg4 harg4 arg6 harg6 arg7 harg7 arg9 harg9 x0 x1 x3 x4 x6 512 5 j (by omega) (by omega) hj
  | 2 => later arg3 harg3 arg4 harg4 arg6 harg6 arg7 harg7 arg9 harg9 x0 x1 x3 x4 x6 1024 9 j (by omega) (by omega) hj
  | 3 => later arg3 harg3 arg4 harg4 arg6 harg6 arg7 harg7 arg9 harg9 x0 x1 x3 x4 x6 1536 13 j (by omega) (by omega) hj

/-- What the body leaves in the output block where the bound is small. -/
def smallOut (n : Fin 4) : FVec F S1x512x256 .bf16 :=
  gated (mix (tileAvg arg3 harg3 arg4 harg4 arg6 harg6 arg7 harg7 arg9 harg9 x0 x1 x3 x4 x6 n 0 (by omega)) (tileAvg arg3 harg3 arg4 harg4 arg6 harg6 arg7 harg7 arg9 harg9 x0 x1 x3 x4 x6 n 128 (by omega)) (lamRows arg8 harg8 x5)) (gateRows arg5 harg5 x2)

theorem read_full (f : Buf (Elt F) (arg10.view.loc (c : Thread nD τ))) (w : S1x512x256.Idx → Elt F .bf16) :
    arg10.view.read (Elt F) (arg10.view.writes (Elt F) f [⟨Rect.unit ![0, 0, 0] ![1, 512, 256] inb_S1x512x256_S1x512x256_0_0_0, w⟩]) = w := by
  funext y
  exact View.read_writes_cons_unit_of_mem arg10.view f inb_S1x512x256_S1x512x256_0_0_0 w [] y y rfl fun a => by fin_cases a <;> exact (Nat.zero_add _).symm

/-- Which of the four branches is taken. -/
theorem cond_iff (b : F .f32) (hb : Scalar.cmpf .ole b (Scalar.ofBits .f32 0x42700000#32) = 1#1) (n k : Fin 4) :
    Scalar.cmpi .ne (Scalar.extui (Scalar.andi (Scalar.cmpf .ole b (Scalar.ofBits .f32 0x42700000#32)) (Scalar.cmpi .eq (BitVec.ofNat 32 n.val) (BitVec.ofNat 32 k.val))) : BitVec 32) 0#32 = 1#1
      ↔ n = k := by
  rw [hb]; revert n k; decide +kernel

set_option maxHeartbeats 1000000 in
/-- The output block, as the body leaves it where the bound is small, holds the gated difference of the tile's two averages. -/
theorem small_read (hc : ¬Big (bnd arg3 harg3 x0)) (hb : Scalar.cmpf .ole (bnd arg3 harg3 x0) (Scalar.ofBits .f32 0x42700000#32) = 1#1) (f) :
    arg10.view.read (Elt F) ((runSmall c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc).1 f)
      = smallOut arg3 harg3 arg4 harg4 arg5 harg5 arg6 harg6 arg7 harg7 arg8 harg8 arg9 harg9 x0 x1 x2 x3 x4 x5 x6 (tileOf i) := by
  have e9 : runSmall.sl.v9 c i arg3 harg3 x0 = 1#1 ↔ tileOf i = 0 := cond_iff _ hb (tileOf i) 0
  have e14 : runSmall.sl.v14 c i arg3 harg3 x0 = 1#1 ↔ tileOf i = 1 := cond_iff _ hb (tileOf i) 1
  have e19 : runSmall.sl.v19 c i arg3 harg3 x0 = 1#1 ↔ tileOf i = 2 := cond_iff _ hb (tileOf i) 2
  have e24 : runSmall.sl.v24 c i arg3 harg3 x0 = 1#1 ↔ tileOf i = 3 := cond_iff _ hb (tileOf i) 3
  dsimp only [runSmall]
  generalize tileOf i = n at *
  match n with
  | 0 =>
    rw [dif_neg (by rw [e24]; decide), dif_neg (by rw [e19]; decide), dif_neg (by rw [e14]; decide), dif_pos (e9.2 rfl)]
    exact (read_full c arg10 f _).trans (small0 c arg3 harg3 arg4 harg4 arg5 harg5 arg6 harg6 arg7 harg7 arg8 harg8 arg9 harg9 x0 x1 x2 x3 x4 x5 x6)
  | 1 =>
    rw [dif_neg (by rw [e24]; decide), dif_neg (by rw [e19]; decide), dif_pos (e14.2 rfl)]
    exact (read_full c arg10 _ _).trans (small1 c arg3 harg3 arg4 harg4 arg5 harg5 arg6 harg6 arg7 harg7 arg8 harg8 arg9 harg9 x0 x1 x2 x3 x4 x5 x6)
  | 2 =>
    rw [dif_neg (by rw [e24]; decide), dif_pos (e19.2 rfl)]
    exact (read_full c arg10 _ _).trans (small2 c arg3 harg3 arg4 harg4 arg5 harg5 arg6 harg6 arg7 harg7 arg8 harg8 arg9 harg9 x0 x1 x2 x3 x4 x5 x6)
  | 3 =>
    rw [dif_pos (e24.2 rfl)]
    exact (read_full c arg10 _ _).trans (small3 c arg3 harg3 arg4 harg4 arg5 harg5 arg6 harg6 arg7 harg7 arg8 harg8 arg9 harg9 x0 x1 x2 x3 x4 x5 x6)

end Reads

end Cert.KernelIdeal.Attn

end
-- ==== Proof.KernelIdeal.Flash.lean ====
/- One block of keys taken into a running maximum, sum and weighted values: the operations, and the invariant each row keeps. -/
module

public import proofs.«01_k».proof.Proof.KernelIdeal.Stream

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section Terms

variable {F : FTy → Type} [FloatOps F]

theorem casts_Mx {R : ℕ} : (⟨1, ![R]⟩ : Shape).ShapeCasts (Mx R 1) := by
  show Shape.numel _ = Shape.numel _
  unfold Shape.numel
  simp only [Fin.prod_univ_succ]
  simp

theorem broadcasts_Mx {R C : ℕ} : (Mx R 1).Broadcasts (Mx R C) :=
  ⟨le_rfl, fun a => by fin_cases a <;> simp⟩

/-- The maximum, raised to the new scores. -/
def rise {R W : ℕ} (s : FVec F (Mx R W) .f32) (m : FVec F (Mx R 128) .f32) : FVec F (Mx R 128) .f32 :=
  maximumf m (broadcastTo (Mx R 128) (shapeCast (Mx R 1) (multiReduction .maximumf [1] ⟨1, ![R]⟩ s 0xFF800000#32 reduces_Mx (.inl rfl) rfl) casts_Mx) broadcasts_Mx)

/-- The factor by which what was summed so far shrinks. -/
def fade {R W : ℕ} (s : FVec F (Mx R W) .f32) (m : FVec F (Mx R 128) .f32) : FVec F (Mx R 128) .f32 := exp2 (subf m (rise s m))

/-- Lanes repeated to twice and to four times their number. -/
def wide2 {R : ℕ} (m : FVec F (Mx R 128) .f32) : FVec F (Mx R 256) .f32 :=
  concatenate (Mx R 256) 1 [⟨Mx R 128, m⟩, ⟨Mx R 128, m⟩] join1_Mx
def wide4 (m : FVec F (Mx 512 128) .f32) : FVec F (Mx 512 512) .f32 :=
  concatenate S512x512 1 [⟨S512x128, m⟩, ⟨S512x128, m⟩, ⟨S512x128, m⟩, ⟨S512x128, m⟩] concatenates_S512x128_S512x128_S512x128_S512x128_S512x512_d1

variable {R W : ℕ} (wide : FVec F (Mx R 128) .f32 → FVec F (Mx R W) .f32)

/-- The new columns' weights, relative to the raised maximum. -/
def gain (s : FVec F (Mx R W) .f32) (m : FVec F (Mx R 128) .f32) : FVec F (Mx R W) .f32 := exp2 (subf s (wide (rise s m)))

def sums (t : ℕ) (ht : 128 * (t + 1) ≤ W) (s : FVec F (Mx R W) .f32) (m l : FVec F (Mx R 128) .f32) : FVec F (Mx R 128) .f32 :=
  addf (mulf (fade s m) l) (lanes (gain wide s m) t ht)

def vals (s : FVec F (Mx R W) .f32) (m : FVec F (Mx R 128) .f32) (a : FVec F (Mx R 256) .f32) (v : FVec F (Mx W 256) .bf16) : FVec F (Mx R 256) .f32 :=
  addf (mulf (wide2 (fade s m)) a)
    (matmul (DotDims.plain R W 256) none (truncf .bf16 (gain wide s m) bitsLt_bf16_f32) v (constant (Mx R 256) .f32 0x00000000#32))

end Terms

theorem wide2_apply {R : ℕ} (m : FVec Ideal (Mx R 128) .f32) (r : Fin R) (x : EReal) (h : ∀ k, m (ix2 r k) = x) (c : Fin 256) :
    wide2 m (ix2 r c) = x := by
  by_cases hc : c.val < 128
  · exact (join1_left m m _ r c hc).trans (h _)
  · exact (join1_right m m _ r c ⟨c.val - 128, by omega⟩ (by show c.val - 128 + 128 = c.val; omega)).trans (h _)

theorem wide4_apply (m : FVec Ideal (Mx 512 128) .f32) (r : Fin 512) (x : EReal) (h : ∀ k, m (ix2 r k) = x) (c : Fin 512) :
    wide4 m (ix2 r c) = x := by
  refine (concatenate_replicate_apply (s₁ := S512x128) (t := S512x512) 1 4 m concatenates_S512x128_S512x128_S512x128_S512x128_S512x512_d1 rfl (ix2 r c)
    (ix2 r ⟨c.val % 128, Nat.mod_lt _ (by decide)⟩) rfl ?_).trans (h _)
  intro b hb
  fin_cases b
  · rfl
  · exact absurd rfl hb

/-- The largest of some entries, each real or least, is real or least. -/
theorem fold_max {n : ℕ} (f : Fin n → EReal) (hf : ∀ c, f c = ⊥ ∨ ∃ x : ℝ, f c = (x : EReal)) :
    Finset.univ.fold max (⊥ : EReal) f = ⊥ ∨ ∃ x : ℝ, Finset.univ.fold max (⊥ : EReal) f = (x : EReal) := by
  generalize (Finset.univ : Finset (Fin n)) = S
  induction S using Finset.induction_on with
  | empty => exact .inl rfl
  | insert a S ha ih =>
    rw [Finset.fold_insert ha]
    rcases hf a with h | ⟨x, h⟩ <;> rcases ih with h' | ⟨y, h'⟩ <;> rw [h, h']
    · exact .inl (max_self _)
    · exact .inr ⟨y, bot_sup_eq _⟩
    · exact .inr ⟨x, sup_bot_eq _⟩
    · exact .inr ⟨max x y, by exact (EReal.coe_strictMono.monotone.map_max).symm⟩

/-- What a row's running maximum, sum and weighted values stand for once `N` columns are in. -/
def Row {R : ℕ} (r : Fin R) (m l : FVec Ideal (Mx R 128) .f32) (a : FVec Ideal (Mx R 256) .f32) (w : ℕ → ℝ) (v : ℕ → ℕ → ℝ) (N : ℕ) : Prop :=
  ∃ (μ : ℝ) (L : ℕ → ℝ), (∀ k, m (ix2 r k) = (μ : EReal)) ∧ (∀ k : Fin 128, l (ix2 r k) = ((L k.val : ℝ) : EReal))
    ∧ ∑ k ∈ Finset.range 128, L k = (2 : ℝ) ^ (-μ) * ∑ c ∈ Finset.range N, w c
    ∧ ∀ d : Fin 256, a (ix2 r d) = (((2 : ℝ) ^ (-μ) * ∑ c ∈ Finset.range N, w c * v c d.val : ℝ) : EReal)

theorem Row.step {R W : ℕ} {wide : FVec Ideal (Mx R 128) .f32 → FVec Ideal (Mx R W) .f32} {r : Fin R}
    (hwide : ∀ (m : FVec Ideal (Mx R 128) .f32) (x : EReal), (∀ k, m (ix2 r k) = x) → ∀ c, wide m (ix2 r c) = x)
    (t : ℕ) (hW : W = 128 * (t + 1)) (ht : 128 * (t + 1) ≤ W)
    {m l : FVec Ideal (Mx R 128) .f32} {a : FVec Ideal (Mx R 256) .f32} {w : ℕ → ℝ} {v : ℕ → ℕ → ℝ} {N : ℕ} (h : Row r m l a w v N)
    (s : FVec Ideal (Mx R W) .f32) (V : FVec Ideal (Mx W 256) .bf16)
    (hs : ∀ c : Fin W, (s (ix2 r c) = ⊥ ∧ w (N + c.val) = 0) ∨ ∃ x : ℝ, s (ix2 r c) = (x : EReal) ∧ w (N + c.val) = (2 : ℝ) ^ x)
    (hV : ∀ (c : Fin W) (d : Fin 256), V (ix2 c d) = ((v (N + c.val) d.val : ℝ) : EReal)) :
    Row r (rise s m) (sums wide t ht s m l) (vals wide s m a V) w v (N + W) := by
  obtain ⟨μ, L, hm, hl, hL, ha⟩ := h
  obtain ⟨μ', hμ'⟩ : ∃ μ' : ℝ, ∀ k, rise s m (ix2 r k) = (μ' : EReal) := by
    have hf := fold_max (fun c : Fin W => s (ix2 r c)) fun c => (hs c).imp (fun h => h.1) fun ⟨x, h, _⟩ => ⟨x, h⟩
    have e : ∀ k, rise s m (ix2 r k) = max (μ : EReal) (Finset.univ.fold max (⊥ : EReal) fun c => s (ix2 r c)) := fun k => by
      unfold rise
      rw [maximumf_apply, column_apply, rowMax_apply, hm]
      rfl
    rcases hf with hf | ⟨x, hf⟩
    · exact ⟨μ, fun k => (e k).trans (by rw [hf]; exact sup_bot_eq _)⟩
    · exact ⟨max μ x, fun k => (e k).trans (by rw [hf]; exact (EReal.coe_strictMono.monotone.map_max).symm)⟩
  have two : (0 : ℝ) < 2 := two_pos
  have hfade : ∀ k, fade s m (ix2 r k) = (((2 : ℝ) ^ (μ - μ') : ℝ) : EReal) := fun k => by
    show Ideal.exp2 (m (ix2 r k) - rise s m (ix2 r k)) = _
    rw [hm, hμ', ← EReal.coe_sub, Ideal.exp2_coe]
    rfl
  have hgain : ∀ c : Fin W, gain wide s m (ix2 r c) = (((2 : ℝ) ^ (-μ') * w (N + c.val) : ℝ) : EReal) := fun c => by
    show Ideal.exp2 (s (ix2 r c) - wide (rise s m) (ix2 r c)) = _
    rw [hwide _ _ hμ']
    rcases hs c with ⟨h, h'⟩ | ⟨x, h, h'⟩
    · rw [h, h', mul_zero, EReal.bot_sub, Ideal.exp2_bot, EReal.coe_zero]
    · rw [h, h', ← EReal.coe_sub, Ideal.exp2_coe, ← Real.rpow_add two, show -μ' + x = x - μ' by ring]
      rfl
  have hlan := lanes_apply (gain wide s m) r (fun c => (2 : ℝ) ^ (-μ') * w (N + c)) hgain t ht
  have scale : (2 : ℝ) ^ (μ - μ') * (2 : ℝ) ^ (-μ) = (2 : ℝ) ^ (-μ') := by
    rw [← Real.rpow_add two]; congr 1; ring
  refine ⟨μ', fun k => (2 : ℝ) ^ (μ - μ') * L k + ∑ j ∈ Finset.range (t + 1), (2 : ℝ) ^ (-μ') * w (N + (128 * j + k)), hμ', fun k => ?_, ?_, fun d => ?_⟩
  · show fade s m (ix2 r k) * l (ix2 r k) + lanes (gain wide s m) t ht (ix2 r k) = _
    rw [hfade, hl, hlan, ← EReal.coe_mul, ← EReal.coe_add]
  · rw [Finset.sum_add_distrib, ← Finset.mul_sum, hL, sum_strides (fun c => (2 : ℝ) ^ (-μ') * w (N + c)), ← hW, ← mul_assoc, scale, ← Finset.mul_sum, ← mul_add,
      ← Finset.sum_range_add]
  · show wide2 (fade s m) (ix2 r d) * a (ix2 r d)
      + matmul (DotDims.plain R W 256) none (truncf .bf16 (gain wide s m) bitsLt_bf16_f32) V (constant (Mx R 256) .f32 0x00000000#32) (ix2 r d) = _
    rw [wide2_apply _ r _ hfade, ha, dotP_apply]
    have e : ∑ c : Fin W, truncf .bf16 (gain wide s m) bitsLt_bf16_f32 (ix2 r c) * V (ix2 c d)
        = ((∑ c ∈ Finset.range W, (2 : ℝ) ^ (-μ') * (w (N + c) * v (N + c) d.val) : ℝ) : EReal) := by
      rw [← coe_sum_range]
      refine Finset.sum_congr rfl fun c _ => ?_
      rw [← mul_assoc, EReal.coe_mul, ← hgain, ← hV]; rfl
    rw [e, ← EReal.coe_mul, ← EReal.coe_add, ← mul_assoc, scale, ← Finset.mul_sum, ← mul_add, ← Finset.sum_range_add (fun c => w c * v c d.val)]

/-- Dividing by the sum leaves the average. -/
theorem Row.average {r : Fin 512} {m l : FVec Ideal (Mx 512 128) .f32} {a : FVec Ideal (Mx 512 256) .f32} {w : ℕ → ℝ} {v : ℕ → ℕ → ℝ} {N : ℕ}
    (h : Row r m l a w v N) (hs : ∑ c ∈ Finset.range N, w c ≠ 0) (d : Fin 256) :
    nrm a l (ix2 r d) = ((avg w (fun c => v c d.val) N : ℝ) : EReal) := by
  obtain ⟨μ, L, -, hl, hL, ha⟩ := h
  have h2 : (2 : ℝ) ^ (-μ) ≠ 0 := (Real.rpow_pos_of_pos two_pos _).ne'
  rw [nrm_apply a l r d _ L (ha d) hl (by rw [hL]; exact mul_ne_zero h2 hs), hL, avg, mul_div_mul_left _ _ h2]

end Cert.KernelIdeal.Attn

end
-- ==== Proof.KernelIdeal.General.lean ====
/- The general branch: its loop over whole key blocks and its two steps on the diagonal, each as one block taken into the running values. -/
module

public import proofs.«01_k».proof.Proof.KernelIdeal.Small
public import proofs.«01_k».proof.Proof.KernelIdeal.Flash
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section Terms

variable {F : FTy → Type} [FloatOps F] [Named F]

/-- The scores of `R` queries on `W` keys, in the map whose lanes begin at `j`. -/
def score {R W : ℕ} (q : FVec F (Mx R 128) .bf16) (K : FVec F (Mx W 256) .bf16) (j : ℕ) (hj : j + 128 ≤ 256) : FVec F (Mx R W) .f32 :=
  matmul (DotDims.transposedRhs R 128 W) none q (extractStridedSlice (Mx W 128) ![0, j] K (slices_Mx (by omega) hj)) (constant (Mx R W) .f32 0x00000000#32)

/-- The lower half of the query rows. -/
def lowq (q : FVec F (Mx 512 128) .bf16) : FVec F (Mx 256 128) .bf16 := extractStridedSlice (Mx 256 128) ![256, 0] q (slices_Mx (by omega) (by omega))

/-- The bias that keeps later keys out. -/
def bias512 : FVec F (Mx 512 256) .f32 :=
  select (cmpi .sge (iota .tc S512x256 32 [0] iota_S512x256_d0_w32) (iota .tc S512x256 32 [1] iota_S512x256_d1_w32))
    (broadcast S512x256 (Scalar.ofBits .f32 0x00000000#32)) (broadcast S512x256 (Named.named κ "mask" 0xF149F2CA#32 : F .f32))
def bias256 : FVec F (Mx 256 256) .f32 :=
  select (cmpi .sge (iota .tc S256x256 32 [0] iota_S256x256_d0_w32) (iota .tc S256x256 32 [1] iota_S256x256_d1_w32))
    (broadcast S256x256 (Scalar.ofBits .f32 0x00000000#32)) (broadcast S256x256 (Named.named κ "mask" 0xF149F2CA#32 : F .f32))

theorem all_ok {N : ℕ} : ∀ a, (![0, 0] : Fin 2 → ℕ) a + (Mx 512 N).size a ≤ (Mx 512 N).size a := fun a => by
  fin_cases a; exacts [(Nat.zero_add _).le, (Nat.zero_add _).le]

theorem low_ok {N : ℕ} : ∀ a, (![256, 0] : Fin 2 → ℕ) a + (Mx 256 N).size a ≤ (Mx 512 N).size a := fun a => by
  fin_cases a; exacts [le_rfl, (Nat.zero_add _).le]

variable {N : ℕ} (arg : Memref sig .tc .vmem (Mx 512 N) .f32)

/-- A running buffer, loaded whole. -/
def ld (f : arg.view.ty.Contents (Elt F)) : FVec F (Mx 512 N) .f32 := arg.view.readAt (Elt F) (Rect.unit (s := Mx 512 N) ![0, 0] (Mx 512 N).size all_ok).toLoadRect f

/-- The lower half of the rows of a buffer just stored whole. -/
def rows (x : FVec F (Mx 512 N) .f32) : FVec F (Mx 256 N) .f32 :=
  arg.view.readCov (Val := Elt F) [⟨Rect.unit (s := Mx 512 N) ![0, 0] (Mx 512 N).size all_ok, shapeCast (Mx 512 N) x rfl⟩]
    (Rect.unit (s := Mx 512 N) ![256, 0] (Mx 256 N).size low_ok).toLoadRect

/-- A buffer stored whole and then in its lower half of the rows. -/
def joined (x : FVec F (Mx 512 N) .f32) (y : FVec F (Mx 256 N) .f32) : FVec F (Mx 512 N) .f32 :=
  arg.view.readCov (Val := Elt F) [⟨Rect.unit (s := Mx 512 N) ![256, 0] (Mx 256 N).size low_ok, shapeCast (Mx 256 N) y rfl⟩,
    ⟨Rect.unit (s := Mx 512 N) ![0, 0] (Mx 512 N).size all_ok, shapeCast (Mx 512 N) x rfl⟩] (Rect.unit (s := Mx 512 N) ![0, 0] (Mx 512 N).size all_ok).toLoadRect

theorem ld_store (f : arg.view.ty.Contents (Elt F)) (w : FVec F (Mx 512 N) .f32) :
    ld arg (arg.view.writes (Elt F) f [⟨Rect.unit (s := Mx 512 N) ![0, 0] (Mx 512 N).size all_ok, shapeCast (Mx 512 N) w rfl⟩]) = w :=
  (View.readAt_writes_full arg.view f all_ok all_ok _ []).trans (shapeCast_self w rfl)

theorem rows_apply (x : FVec F (Mx 512 N) .f32) (r : Fin 256) (k : Fin N) : rows arg x (ix2 r k) = x (ix2 ⟨256 + r.val, by omega⟩ k) := by
  unfold rows View.readCov
  rw [View.readAt_apply, View.read_writes_full]
  rw [shapeCast_self]
  refine congrArg x (funext fun a => Fin.ext ?_)
  fin_cases a
  · show 256 + 1 * r.val = 256 + r.val; omega
  · show 0 + 1 * k.val = k.val; omega

theorem joined_low (x : FVec F (Mx 512 N) .f32) (y : FVec F (Mx 256 N) .f32) (r : Fin 512) (r' : Fin 256) (h : r'.val + 256 = r.val) (k : Fin N) :
    joined arg x y (ix2 r k) = y (ix2 r' k) := by
  unfold joined View.readCov
  rw [View.readAt_full]
  refine (View.read_writes_cons_unit_of_mem arg.view (Val := Elt F) arg.view.junk (off' := ![256, 0]) low_ok _ _ (ix2 r k) (ix2 r' k) rfl ?_).trans ?_
  · intro a
    fin_cases a
    · show r.val = 256 + r'.val; omega
    · show k.val = 0 + k.val; omega
  · exact congrFun (shapeCast_self y rfl) _

theorem joined_up (x : FVec F (Mx 512 N) .f32) (y : FVec F (Mx 256 N) .f32) (r : Fin 512) (h : r.val < 256) (k : Fin N) :
    joined arg x y (ix2 r k) = x (ix2 r k) := by
  unfold joined View.readCov
  rw [View.readAt_full]
  refine (View.read_writes_cons_unit_of_not_mem arg.view (Val := Elt F) arg.view.junk (off' := ![256, 0]) low_ok _ _ (ix2 r k) rfl 0 (.inl h)).trans ?_
  rw [View.read_writes_full]
  exact congrFun (shapeCast_self x rfl) _

end Terms

variable {F : FTy → Type} [FloatOps F] [Named F]

section Steps

variable (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S4x128 .f32) (harg8 : arg8.IsWhole) (arg9 : Memref sig .tc .vmem S512x256 .f32) (harg9 : arg9.IsWhole) (arg10 : Memref sig .tc .vmem S1x512x256 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x256 .f32) (harg16 : arg16.IsWhole)
    (x1 : Vec F S1x512x256 .bf16) (x3 x4 : Vec F S1x2048x256 .bf16)

section OneTrip

variable (arg2 : BitVec 32) (v2 v3 : FVec F S512x128 .bf16) (k : Fin (k0_t1_loop i).trips) (g : Bufs (F := F) c arg11 arg12 arg13 arg14 arg15 arg16)

/-- The keys and values of a trip. -/
def keyBlk : FVec F (Mx 512 256) .bf16 := planeAt arg6 harg6 x3 512 256 (k0_off1 i k) (k0_off1_inb i k)
def valBlk : FVec F (Mx 512 256) .bf16 := planeAt arg7 harg7 x4 512 256 (k0_off1 i k) (k0_off1_inb i k)

set_option maxHeartbeats 1000000 in
/-- One trip takes one block into both maps' running values. -/
theorem trip_ld :
    let s := score v2 (keyBlk i arg6 harg6 x3 k) 0 (by omega)
    let s' := score v3 (keyBlk i arg6 harg6 x3 k) 128 (by omega)
    let g' := (trip c i arg3 harg3 arg4 harg4 arg5 harg5 arg6 harg6 arg7 harg7 arg8 harg8 arg9 harg9 arg10 harg10 arg11 harg11 arg12 harg12 arg13 harg13 arg14 harg14 arg15 harg15 arg16 harg16 arg2 v2 v3 x3 x4 k g).1
    ld arg11 g'.1 = rise s (ld arg11 g.1) ∧ ld arg12 g'.2.1 = sums wide4 3 (by omega) s (ld arg11 g.1) (ld arg12 g.2.1)
      ∧ ld arg13 g'.2.2.1 = vals wide4 s (ld arg11 g.1) (ld arg13 g.2.2.1) (valBlk i arg7 harg7 x4 k)
      ∧ ld arg14 g'.2.2.2.1 = rise s' (ld arg14 g.2.2.2.1) ∧ ld arg15 g'.2.2.2.2.1 = sums wide4 3 (by omega) s' (ld arg14 g.2.2.2.1) (ld arg15 g.2.2.2.2.1)
      ∧ ld arg16 g'.2.2.2.2.2 = vals wide4 s' (ld arg14 g.2.2.2.1) (ld arg16 g.2.2.2.2.2) (valBlk i arg7 harg7 x4 k) := by
  intro s s' g'
  unfold g' trip
  exact ⟨ld_store arg11 g.1 (rise s (ld arg11 g.1)), ld_store arg12 g.2.1 (sums wide4 3 (by omega) s (ld arg11 g.1) (ld arg12 g.2.1)),
    ld_store arg13 g.2.2.1 (vals wide4 s (ld arg11 g.1) (ld arg13 g.2.2.1) (valBlk i arg7 harg7 x4 k)),
    ld_store arg14 g.2.2.2.1 (rise s' (ld arg14 g.2.2.2.1)), ld_store arg15 g.2.2.2.2.1 (sums wide4 3 (by omega) s' (ld arg14 g.2.2.2.1) (ld arg15 g.2.2.2.2.1)),
    ld_store arg16 g.2.2.2.2.2 (vals wide4 s' (ld arg14 g.2.2.2.1) (ld arg16 g.2.2.2.2.2) (valBlk i arg7 harg7 x4 k))⟩

end OneTrip

/-- The running buffers as the loop finds them. -/
def entry : Bufs (F := F) c arg11 arg12 arg13 arg14 arg15 arg16 :=
  (arg11.view.writes (Elt F) arg11.view.junk runBig.sl.HS0_1, arg12.view.writes (Elt F) arg12.view.junk runBig.sl.HS1_1,
    arg13.view.writes (Elt F) arg13.view.junk runBig.sl.HS2_1, arg14.view.writes (Elt F) arg14.view.junk runBig.sl.HS3_1,
    arg15.view.writes (Elt F) arg15.view.junk runBig.sl.HS4_1, arg16.view.writes (Elt F) arg16.view.junk runBig.sl.HS5_1)

set_option maxHeartbeats 1000000 in
/-- What they hold: the least maximum, and nothing summed. -/
theorem entry_ld :
    ld arg11 (entry (F := F) c arg11 arg12 arg13 arg14 arg15 arg16).1 = broadcast (Mx 512 128) (Scalar.ofBits .f32 0xEFA18F08#32)
      ∧ ld arg12 (entry (F := F) c arg11 arg12 arg13 arg14 arg15 arg16).2.1 = broadcast (Mx 512 128) (Scalar.ofBits .f32 0x00000000#32)
      ∧ ld arg13 (entry (F := F) c arg11 arg12 arg13 arg14 arg15 arg16).2.2.1 = broadcast (Mx 512 256) (Scalar.ofBits .f32 0x00000000#32)
      ∧ ld arg14 (entry (F := F) c arg11 arg12 arg13 arg14 arg15 arg16).2.2.2.1 = broadcast (Mx 512 128) (Scalar.ofBits .f32 0xEFA18F08#32)
      ∧ ld arg15 (entry (F := F) c arg11 arg12 arg13 arg14 arg15 arg16).2.2.2.2.1 = broadcast (Mx 512 128) (Scalar.ofBits .f32 0x00000000#32)
      ∧ ld arg16 (entry (F := F) c arg11 arg12 arg13 arg14 arg15 arg16).2.2.2.2.2 = broadcast (Mx 512 256) (Scalar.ofBits .f32 0x00000000#32) :=
  ⟨ld_store arg11 arg11.view.junk (broadcast (Mx 512 128) (Scalar.ofBits .f32 0xEFA18F08#32)), ld_store arg12 arg12.view.junk (broadcast (Mx 512 128) (Scalar.ofBits .f32 0x00000000#32)), ld_store arg13 arg13.view.junk (broadcast (Mx 512 256) (Scalar.ofBits .f32 0x00000000#32)), ld_store arg14 arg14.view.junk (broadcast (Mx 512 128) (Scalar.ofBits .f32 0xEFA18F08#32)), ld_store arg15 arg15.view.junk (broadcast (Mx 512 128) (Scalar.ofBits .f32 0x00000000#32)), ld_store arg16 arg16.view.junk (broadcast (Mx 512 256) (Scalar.ofBits .f32 0x00000000#32))⟩

/-- The running buffers as the loop leaves them. -/
def leave : Bufs (F := F) c arg11 arg12 arg13 arg14 arg15 arg16 :=
  acc c i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) (qry arg4 harg4 x1 0 (by omega)) (qry arg4 harg4 x1 128 (by omega)) x3 x4
    (entry c arg11 arg12 arg13 arg14 arg15 arg16) (k0_t1_loop i).trips

/-- The keys and values of the two steps on the diagonal. -/
def keyDiag (u : Fin 2) : FVec F (Mx 256 256) .bf16 := planeAt arg6 harg6 x3 256 256 (k0_off3 i (BitVec.ofNat 32 (256 * u.val))) (k0_off3_inb i u)
def valDiag (u : Fin 2) : FVec F (Mx 256 256) .bf16 := planeAt arg7 harg7 x4 256 256 (k0_off3 i (BitVec.ofNat 32 (256 * u.val))) (k0_off3_inb i u)

/-- The two steps on the diagonal, and the average they leave. -/
def diag (argm argl : Memref sig .tc .vmem S512x128 .f32) (arga : Memref sig .tc .vmem S512x256 .f32) (q : FVec F (Mx 512 128) .bf16) (j : ℕ) (hj : j + 128 ≤ 256)
    (K0 V0 K1 V1 : FVec F (Mx 256 256) .bf16) (m l : FVec F (Mx 512 128) .f32) (a : FVec F (Mx 512 256) .f32) : FVec F (Mx 512 256) .f32 :=
  have s0 := addf (score q K0 j hj) bias512
  have m1 := rise s0 m
  have l1 := sums wide2 1 (by omega) s0 m l
  have a1 := vals wide2 s0 m a V0
  have s1 := addf (score (lowq q) K1 j hj) bias256
  nrm (joined arga a1 (vals wide2 s1 (rows argm m1) (rows arga a1) V1)) (joined argl l1 (sums wide2 1 (by omega) s1 (rows argm m1) (rows argl l1)))

set_option maxHeartbeats 1000000 in
theorem big1 : runBig.sl.r_17 c i arg3 harg3 arg4 harg4 arg5 harg5 arg6 harg6 arg7 harg7 arg8 harg8 arg9 harg9 arg10 harg10 arg11 harg11 arg12 harg12 arg13 harg13 arg14 harg14 arg15 harg15 arg16 harg16 x1 x3 x4
    = diag arg11 arg12 arg13 (qry arg4 harg4 x1 0 (by omega)) 0 (by omega) (keyDiag i arg6 harg6 x3 0) (valDiag i arg7 harg7 x4 0)
        (keyDiag i arg6 harg6 x3 1) (valDiag i arg7 harg7 x4 1) (ld arg11 (leave c i arg3 harg3 arg4 harg4 arg5 harg5 arg6 harg6 arg7 harg7 arg8 harg8 arg9 harg9 arg10 harg10 arg11 harg11 arg12 harg12 arg13 harg13 arg14 harg14 arg15 harg15 arg16 harg16 x1 x3 x4).1) (ld arg12 (leave c i arg3 harg3 arg4 harg4 arg5 harg5 arg6 harg6 arg7 harg7 arg8 harg8 arg9 harg9 arg10 harg10 arg11 harg11 arg12 harg12 arg13 harg13 arg14 harg14 arg15 harg15 arg16 harg16 x1 x3 x4).2.1)
        (ld arg13 (leave c i arg3 harg3 arg4 harg4 arg5 harg5 arg6 harg6 arg7 harg7 arg8 harg8 arg9 harg9 arg10 harg10 arg11 harg11 arg12 harg12 arg13 harg13 arg14 harg14 arg15 harg15 arg16 harg16 x1 x3 x4).2.2.1) := by
  unfold leave
  rw [← at_eq]
  rfl

set_option maxHeartbeats 1000000 in
theorem big2 : runBig.sl.r_18 c i arg3 harg3 arg4 harg4 arg5 harg5 arg6 harg6 arg7 harg7 arg8 harg8 arg9 harg9 arg10 harg10 arg11 harg11 arg12 harg12 arg13 harg13 arg14 harg14 arg15 harg15 arg16 harg16 x1 x3 x4
    = diag arg14 arg15 arg16 (qry arg4 harg4 x1 128 (by omega)) 128 (by omega) (keyDiag i arg6 harg6 x3 0) (valDiag i arg7 harg7 x4 0)
        (keyDiag i arg6 harg6 x3 1) (valDiag i arg7 harg7 x4 1) (ld arg14 (leave c i arg3 harg3 arg4 harg4 arg5 harg5 arg6 harg6 arg7 harg7 arg8 harg8 arg9 harg9 arg10 harg10 arg11 harg11 arg12 harg12 arg13 harg13 arg14 harg14 arg15 harg15 arg16 harg16 x1 x3 x4).2.2.2.1) (ld arg15 (leave c i arg3 harg3 arg4 harg4 arg5 harg5 arg6 harg6 arg7 harg7 arg8 harg8 arg9 harg9 arg10 harg10 arg11 harg11 arg12 harg12 arg13 harg13 arg14 harg14 arg15 harg15 arg16 harg16 x1 x3 x4).2.2.2.2.1)
        (ld arg16 (leave c i arg3 harg3 arg4 harg4 arg5 harg5 arg6 harg6 arg7 harg7 arg8 harg8 arg9 harg9 arg10 harg10 arg11 harg11 arg12 harg12 arg13 harg13 arg14 harg14 arg15 harg15 arg16 harg16 x1 x3 x4).2.2.2.2.2) := by
  unfold leave
  rw [← at_eq]
  rfl

variable (x0 : Vec F S1 .f32) (x2 : Vec F S1x512x256 .bf16) (x5 : Vec F S4x128 .f32) (x6 : Vec F S512x256 .f32)

/-- What the body leaves in the output block where the bound is large. -/
def bigOut : FVec F S1x512x256 .bf16 :=
  gated (mix (runBig.sl.r_17 c i arg3 harg3 arg4 harg4 arg5 harg5 arg6 harg6 arg7 harg7 arg8 harg8 arg9 harg9 arg10 harg10 arg11 harg11 arg12 harg12 arg13 harg13 arg14 harg14 arg15 harg15 arg16 harg16 x1 x3 x4) (runBig.sl.r_18 c i arg3 harg3 arg4 harg4 arg5 harg5 arg6 harg6 arg7 harg7 arg8 harg8 arg9 harg9 arg10 harg10 arg11 harg11 arg12 harg12 arg13 harg13 arg14 harg14 arg15 harg15 arg16 harg16 x1 x3 x4) (lamRows arg8 harg8 x5)) (gateRows arg5 harg5 x2)

set_option maxHeartbeats 1000000 in
theorem big_read (hc : Big (bnd arg3 harg3 x0)) (f) :
    arg10.view.read (Elt F) ((runBig c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc).1 f) = bigOut c i arg3 harg3 arg4 harg4 arg5 harg5 arg6 harg6 arg7 harg7 arg8 harg8 arg9 harg9 arg10 harg10 arg11 harg11 arg12 harg12 arg13 harg13 arg14 harg14 arg15 harg15 arg16 harg16 x1 x3 x4 x2 x5 := by
  dsimp only [runBig]
  exact read_full c arg10 _ _

end Steps

end Cert.KernelIdeal.Attn

end
-- ==== Proof.KernelIdeal.Value.lean ====
/- A query tile's averages over the reals: with masked weights, on either side of the bound's threshold. -/
module

public import proofs.«01_k».proof.Proof.KernelIdeal.General

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The score of query row `r` on key row `c`, in the map whose lanes begin at `j`. -/
def dot (Q K : ℕ → ℕ → ℝ) (j r c : ℕ) : ℝ := ∑ e ∈ Finset.range 128, Q r (j + e) * K c (j + e)

/-- The weight it gives, nothing after the query's own place. -/
def wt (Q K : ℕ → ℕ → ℝ) (n j r c : ℕ) : ℝ := if c ≤ 512 * n + r then (2 : ℝ) ^ dot Q K j r c else 0

theorem wt_sum (Q K : ℕ → ℕ → ℝ) (n j r : ℕ) {N : ℕ} (hN : 0 < N) : 0 < ∑ c ∈ Finset.range N, wt Q K n j r c := by
  refine Finset.sum_pos' (fun c _ => ?_) ⟨0, Finset.mem_range.2 hN, ?_⟩
  · unfold wt; split
    · exact (Real.rpow_pos_of_pos two_pos _).le
    · exact le_rfl
  · unfold wt; rw [if_pos (Nat.zero_le _)]; exact Real.rpow_pos_of_pos two_pos _

section Tile

variable (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S4x128 .f32) (harg8 : arg8.IsWhole) (arg9 : Memref sig .tc .vmem S512x256 .f32) (harg9 : arg9.IsWhole) (arg10 : Memref sig .tc .vmem S1x512x256 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x256 .f32) (harg16 : arg16.IsWhole)
    (x0 : Vec Ideal S1 .f32) (x1 x2 : Vec Ideal S1x512x256 .bf16) (x3 x4 : Vec Ideal S1x2048x256 .bf16) (x5 : Vec Ideal S4x128 .f32)
    (x6 : Vec Ideal S512x256 .f32) (Q K V : ℕ → ℕ → ℝ)

theorem qry_apply (j : ℕ) (hj : j + 128 ≤ 256) (hQ : ∀ (r : Fin 512) (d : Fin 256), x1 (ix3 (0 : Fin 1) r d) = ((Q r.val d.val : ℝ) : EReal)) (r : Fin 512) (e : Fin 128) :
    qry arg4 harg4 x1 j hj (ix2 r e) = ((Q r.val (j + e.val) : ℝ) : EReal) := by
  unfold qry
  rw [slice_apply _ _ r e (by omega) (by omega), ← hQ r ⟨j + e.val, by omega⟩]
  refine (shapeCast_apply _ _ _ (ix3 (0 : Fin 1) ⟨0 + r.val, by omega⟩ ⟨j + e.val, by omega⟩ : S1x512x256.Idx) ?_).trans ?_
  · show (Shape.rowMajorPi ![1, 512, 256] (ix3 (0 : Fin 1) (⟨0 + r.val, by omega⟩ : Fin 512) (⟨j + e.val, by omega⟩ : Fin 256))).val
      = (Shape.rowMajorPi ![512, 256] (ix2 (⟨0 + r.val, by omega⟩ : Fin 512) (⟨j + e.val, by omega⟩ : Fin 256))).val
    simp only [Shape.rowMajorPi, Shape.rankPi, ix2, ix3]
    simp
  · rw [harg4.readAt_unread]
    refine congrArg x1 (funext fun a => Fin.ext ?_)
    fin_cases a
    · rfl
    · show 0 + 1 * (0 + r.val) = r.val; omega
    · show 0 + 1 * (j + e.val) = j + e.val; omega

theorem score_apply {R W : ℕ} (q : FVec Ideal (Mx R 128) .bf16) (k : FVec Ideal (Mx W 256) .bf16) (j : ℕ) (hj : j + 128 ≤ 256) (r : Fin R) (r₀ : ℕ) (o : ℕ)
    (hq : ∀ e : Fin 128, q (ix2 r e) = ((Q r₀ (j + e.val) : ℝ) : EReal)) (cc : Fin W) (hk : ∀ d : Fin 256, k (ix2 cc d) = ((K (o + cc.val) d.val : ℝ) : EReal)) :
    score q k j hj (ix2 r cc) = ((dot Q K j r₀ (o + cc.val) : ℝ) : EReal) := by
  unfold score dot
  rw [dotT_apply, ← coe_sum_range]
  refine Finset.sum_congr rfl fun e _ => ?_
  rw [hq, slice_apply _ _ cc e (by omega) (by omega), EReal.coe_mul]
  have ec : (⟨0 + cc.val, by omega⟩ : Fin W) = cc := Fin.ext (Nat.zero_add _)
  rw [ec, hk]

theorem wts_apply {R W : ℕ} (q : FVec Ideal (Mx R 128) .bf16) (k : FVec Ideal (Mx W 128) .bf16) (j : ℕ) (r : Fin R) (r₀ : ℕ) (o : ℕ) (b : ℝ)
    (hq : ∀ e : Fin 128, q (ix2 r e) = ((Q r₀ (j + e.val) : ℝ) : EReal)) (cc : Fin W) (hk : ∀ e : Fin 128, k (ix2 cc e) = ((K (o + cc.val) (j + e.val) : ℝ) : EReal)) :
    wts q k (b : EReal) (ix2 r cc) = (((2 : ℝ) ^ (-b) * (2 : ℝ) ^ dot Q K j r₀ (o + cc.val) : ℝ) : EReal) := by
  have h : matmul (DotDims.transposedRhs R 128 W) none q k (constant (Mx R W) .f32 0x00000000#32) (ix2 r cc) = ((dot Q K j r₀ (o + cc.val) : ℝ) : EReal) := by
    unfold dot
    rw [dotT_apply, ← coe_sum_range]
    refine Finset.sum_congr rfl fun e _ => ?_
    rw [hq, hk, EReal.coe_mul]
  show Ideal.exp2 (matmul (DotDims.transposedRhs R 128 W) none q k (constant (Mx R W) .f32 0x00000000#32) (ix2 r cc) - (b : EReal)) = _
  rw [h, ← EReal.coe_sub, Ideal.exp2_coe, ← Real.rpow_add two_pos, show -b + dot Q K j r₀ (o + cc.val) = dot Q K j r₀ (o + cc.val) - b by ring]
  rfl

theorem tri512_apply (r : Fin 512) (d : Fin 256) : tri512 arg9 harg9 x6 (ix2 r d) = x6 (ix2 r d) := by
  unfold tri512
  refine (congrFun (shapeCast_self _ _) _).trans ?_
  rw [harg9.readAt_unread]
  refine congrArg x6 (funext fun a => Fin.ext ?_)
  fin_cases a
  · show 0 + 1 * r.val = r.val; omega
  · show 0 + 1 * d.val = d.val; omega

theorem tri256_apply (r d : Fin 256) : tri256 arg9 harg9 x6 (ix2 r d) = x6 (ix2 (⟨r.val, by omega⟩ : Fin 512) d) := by
  unfold tri256
  refine (congrFun (shapeCast_self _ _) _).trans ?_
  rw [harg9.readAt_unread]
  refine congrArg x6 (funext fun a => Fin.ext ?_)
  fin_cases a
  · show 0 + 1 * r.val = r.val; omega
  · show 0 + 1 * d.val = d.val; omega

variable (hQ : ∀ (r : Fin 512) (d : Fin 256), x1 (ix3 (0 : Fin 1) r d) = ((Q r.val d.val : ℝ) : EReal))
  (hK : ∀ (r : Fin 2048) (d : Fin 256), x3 (ix3 (0 : Fin 1) r d) = ((K r.val d.val : ℝ) : EReal))
  (hV : ∀ (r : Fin 2048) (d : Fin 256), x4 (ix3 (0 : Fin 1) r d) = ((V r.val d.val : ℝ) : EReal))
  (hT : ∀ (r : Fin 512) (d : Fin 256), x6 (ix2 r d) = (((if d.val ≤ r.val then 1 else 0 : ℝ)) : EReal))
include hQ hK hV hT

theorem part_real (j : ℕ) (arg : Memref sig .tc .vmem S1x2048x256 .bf16) (h : arg.IsWhole) (x : Vec Ideal S1x2048x256 .bf16) (X : ℕ → ℕ → ℝ)
    (hX : ∀ (r : Fin 2048) (d : Fin 256), x (ix3 (0 : Fin 1) r d) = ((X r.val d.val : ℝ) : EReal)) (W D : ℕ) (off : Fin 3 → ℕ)
    (hin : ∀ a, off a + (⟨3, ![1, W, D]⟩ : Shape).size a ≤ S1x2048x256.size a) (o : ℕ) (he : off = ![0, o, j]) (cc : Fin W) (d : Fin D) :
    planeAt arg h x W D off hin (ix2 cc d) = ((X (o + cc.val) (j + d.val) : ℝ) : EReal) := by
  have h1 : o + W ≤ 2048 := by have := hin 1; rw [he] at this; exact this
  have h2 : j + D ≤ 256 := by have := hin 2; rw [he] at this; exact this
  rw [planeAt_apply arg h x W D off hin o j he cc d (by omega) (by omega), hX]

theorem late_apply (n W j : ℕ) (e : W = 512 * n + 256) (hW : W + 256 ≤ 2048) (hj : j + 128 ≤ 256) (b : ℝ) (hb : bnd arg3 harg3 x0 = (b : EReal)) (r : Fin 256) (cc : Fin 256) :
    late arg3 harg3 arg4 harg4 arg6 harg6 arg9 harg9 x0 x1 x3 x6 W j hW hj (ix2 r cc)
      = (((2 : ℝ) ^ (-b) * wt Q K n j (r.val + 256) (W + cc.val) : ℝ) : EReal) := by
  unfold late part
  rw [mulf_apply, hb, wts_apply Q K _ _ j r (r.val + 256) W b (fun e => by
      rw [slice_apply _ _ r e (by omega) (by omega), qry_apply arg4 harg4 x1 Q j hj hQ]
      simp only [Nat.zero_add, Nat.add_comm 256]) cc
    (fun e => part_real x1 x3 x4 x6 Q K V hQ hK hV hT j arg6 harg6 x3 K hK 256 128 _ _ W rfl cc e), tri256_apply, hT, Ideal.mulf_def, ← EReal.coe_mul]
  congr 1
  unfold wt
  by_cases h : cc.val ≤ r.val
  · rw [if_pos (by exact h), if_pos (by omega), mul_one]
  · rw [if_neg (by exact h), if_neg (by omega), mul_zero, mul_zero]

theorem tileAvg_apply (n : Fin 4) (j : ℕ) (hj : j + 128 ≤ 256) (b : ℝ) (hb : bnd arg3 harg3 x0 = (b : EReal)) (r : Fin 512) (d : Fin 256) :
    tileAvg arg3 harg3 arg4 harg4 arg6 harg6 arg7 harg7 arg9 harg9 x0 x1 x3 x4 x6 n j hj (ix2 r d) = ((avg (wt Q K n.val j r.val) (fun cc => V cc d.val) (512 * n.val + 512) : ℝ) : EReal) := by
  have two : (2 : ℝ) ^ (-b) ≠ 0 := (Real.rpow_pos_of_pos two_pos _).ne'
  have main : ∀ (W t : ℕ) (hW : W = 128 * (t + 1)) (ht : 128 * (t + 1) ≤ W) (e : W = 512 * n.val + 256) (h2 : W + 256 ≤ 2048) (pm : FVec Ideal (Mx 512 W) .f32)
      (hpm : ∀ cc : Fin W, pm (ix2 r cc) = (((2 : ℝ) ^ (-b) * wt Q K n.val j r.val cc.val : ℝ) : EReal)),
      whole t ht pm (late arg3 harg3 arg4 harg4 arg6 harg6 arg9 harg9 x0 x1 x3 x6 W j h2 hj)
        (part arg7 harg7 x4 W 256 0 0 (by omega) (by omega)) (part arg7 harg7 x4 256 256 W 0 h2 (by omega)) (ix2 r d)
        = ((avg (wt Q K n.val j r.val) (fun cc => V cc d.val) (512 * n.val + 512) : ℝ) : EReal) := by
    intro W t hW ht e h2 pm hpm
    rw [whole_apply t hW ht pm _ _ _ r d (fun cc => (2 : ℝ) ^ (-b) * wt Q K n.val j r.val cc) (fun cc => V cc d.val) hpm]
    · rw [show W + 256 = 512 * n.val + 512 by omega, avg_scale (wt Q K n.val j r.val) _ _ _ two fun _ _ => rfl]
    · intro hr cc
      show (2 : ℝ) ^ (-b) * wt Q K n.val j r.val (W + cc.val) = 0
      unfold wt; rw [if_neg (by omega), mul_zero]
    · intro r' hr' cc
      rw [late_apply arg3 harg3 arg4 harg4 arg6 harg6 arg9 harg9 x0 x1 x3 x4 x6 Q K V hQ hK hV hT n.val W j e h2 hj b hb r' cc, hr']
    · intro cc
      refine (part_real x1 x3 x4 x6 Q K V hQ hK hV hT 0 arg7 harg7 x4 V hV W 256 _ _ 0 rfl cc d).trans ?_
      simp only [Nat.zero_add]
    · intro cc
      refine (part_real x1 x3 x4 x6 Q K V hQ hK hV hT 0 arg7 harg7 x4 V hV 256 256 _ _ W rfl cc d).trans ?_
      simp only [Nat.zero_add]
    · rw [← Finset.mul_sum]
      exact mul_ne_zero two (wt_sum Q K n.val j r.val (by omega)).ne'
  have weight : ∀ (W : ℕ) (hW : 0 + W ≤ 2048) (cc : Fin W),
      wts (qry arg4 harg4 x1 j hj) (part arg6 harg6 x3 W 128 0 j hW hj) (bnd arg3 harg3 x0) (ix2 r cc)
        = (((2 : ℝ) ^ (-b) * (2 : ℝ) ^ dot Q K j r.val cc.val : ℝ) : EReal) := by
    intro W hW cc
    unfold part
    rw [hb, wts_apply Q K _ _ j r r.val 0 b (fun e => qry_apply arg4 harg4 x1 Q j hj hQ r e) cc
      (fun e => part_real x1 x3 x4 x6 Q K V hQ hK hV hT j arg6 harg6 x3 K hK W 128 _ _ 0 rfl cc e), Nat.zero_add]
  have lat : ∀ (W t : ℕ) (e : W = 512 * n.val) (ht : W + 256 = 128 * (t + 1)) (ht' : 128 * (t + 1) ≤ W + 256) (h2 : W + 256 + 256 ≤ 2048),
      later arg3 harg3 arg4 harg4 arg6 harg6 arg7 harg7 arg9 harg9 x0 x1 x3 x4 x6 W t j ht' h2 hj (ix2 r d) = ((avg (wt Q K n.val j r.val) (fun cc => V cc d.val) (512 * n.val + 512) : ℝ) : EReal) := by
    intro W t e ht ht' h2
    unfold later
    refine main (W + 256) t ht ht' (by omega) h2 _ fun cc => ?_
    unfold cut
    by_cases hc : cc.val < W
    · rw [join1_left _ _ _ r cc hc, slice_apply _ _ _ _ (by show 0 + r.val < 512; omega) (by show 0 + cc.val < W + 256; omega)]
      simp only [Nat.zero_add, Fin.eta]
      rw [weight]
      unfold wt; rw [if_pos (by omega)]
    · obtain ⟨k, hk⟩ : ∃ k : Fin 256, k.val + W = cc.val := ⟨⟨cc.val - W, by omega⟩, by show cc.val - W + W = cc.val; omega⟩
      rw [join1_right _ _ _ r cc k hk, mulf_apply, slice_apply _ _ _ _ (by show 0 + r.val < 512; omega) (by show W + k.val < W + 256; omega), tri512_apply, hT]
      simp only [Nat.zero_add, Fin.eta]
      rw [weight, Ideal.mulf_def, ← EReal.coe_mul]
      congr 1
      show (2 : ℝ) ^ (-b) * (2 : ℝ) ^ dot Q K j r.val (W + k.val) * _ = _
      rw [Nat.add_comm W, hk]
      unfold wt
      by_cases h : k.val ≤ r.val
      · rw [if_pos (by exact h), if_pos (by omega), mul_one]
      · rw [if_neg (by exact h), if_neg (by omega), mul_zero, mul_zero]
  fin_cases n
  · show first arg3 harg3 arg4 harg4 arg6 harg6 arg7 harg7 arg9 harg9 x0 x1 x3 x4 x6 j hj (ix2 r d) = _
    unfold first
    refine main 256 1 rfl (by omega) rfl (by omega) _ fun cc => ?_
    rw [mulf_apply, weight, tri512_apply, hT, Ideal.mulf_def, ← EReal.coe_mul]
    congr 1
    unfold wt
    by_cases h : cc.val ≤ r.val
    · rw [if_pos (by exact h), if_pos (by show cc.val ≤ 512 * 0 + r.val; omega), mul_one]
    · rw [if_neg (by exact h), if_neg (by show ¬ cc.val ≤ 512 * 0 + r.val; omega), mul_zero, mul_zero]
  · exact lat 512 5 rfl rfl (by omega) (by omega)
  · exact lat 1024 9 rfl rfl (by omega) (by omega)
  · exact lat 1536 13 rfl rfl (by omega) (by omega)

end Tile

end Cert.KernelIdeal.Attn

end
-- ==== Proof.KernelIdeal.Big.lean ====
/- The general branch over the reals: the loop's and the diagonal steps' invariant, and the average they leave. -/
module

public import proofs.«01_k».proof.Proof.KernelIdeal.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

theorem mask_bot : (Named.named κ "mask" 0xF149F2CA#32 : Ideal .f32) = ⊥ := IdealRules.named_const.ideal_named_scalar _ _ _ _ rfl

theorem pick {a b : ℕ} (ha : a < 512) (hb : b < 512) (x y : EReal) :
    Scalar.select (IntOp.cmpi .sge (BitVec.ofNat 32 a) (BitVec.ofNat 32 b)) x y = if b ≤ a then x else y := by
  rw [Scalar.select]
  refine if_congr ?_ rfl rfl
  exact Idealize.ShloMosaic.WordCmp.cmpi_sge_ofNat_eq_one_iff (w := 32) (by omega) (by omega)

theorem bias512_apply (r : Fin 512) (c : Fin 256) : bias512 (F := Ideal) (ix2 r c) = if c.val ≤ r.val then 0 else ⊥ := by
  show Scalar.select (IntOp.cmpi .sge (BitVec.ofNat 32 (0 + r.val)) (BitVec.ofNat 32 (0 + c.val))) (Ideal.ofBits .f32 0x00000000#32) (Named.named κ "mask" 0xF149F2CA#32 : Ideal .f32) = _
  rw [Nat.zero_add, Nat.zero_add, pick (by omega) (by omega), mask_bot, Ideal.ofBits_zero_f32]

theorem bias256_apply (r c : Fin 256) : bias256 (F := Ideal) (ix2 r c) = if c.val ≤ r.val then 0 else ⊥ := by
  show Scalar.select (IntOp.cmpi .sge (BitVec.ofNat 32 (0 + r.val)) (BitVec.ofNat 32 (0 + c.val))) (Ideal.ofBits .f32 0x00000000#32) (Named.named κ "mask" 0xF149F2CA#32 : Ideal .f32) = _
  rw [Nat.zero_add, Nat.zero_add, pick (by omega) (by omega), mask_bot, Ideal.ofBits_zero_f32]

theorem Row.congr {R R' : ℕ} {r : Fin R} {r' : Fin R'} {m l : FVec Ideal (Mx R 128) .f32} {a : FVec Ideal (Mx R 256) .f32}
    {m' l' : FVec Ideal (Mx R' 128) .f32} {a' : FVec Ideal (Mx R' 256) .f32} {w : ℕ → ℝ} {v : ℕ → ℕ → ℝ} {N : ℕ} (h : Row r m l a w v N)
    (hm : ∀ k, m' (ix2 r' k) = m (ix2 r k)) (hl : ∀ k, l' (ix2 r' k) = l (ix2 r k)) (ha : ∀ k, a' (ix2 r' k) = a (ix2 r k)) : Row r' m' l' a' w v N := by
  obtain ⟨μ, L, h1, h2, h3, h4⟩ := h
  exact ⟨μ, L, fun k => (hm k).trans (h1 k), fun k => (hl k).trans (h2 k), h3, fun k => (ha k).trans (h4 k)⟩

variable (Q K V : ℕ → ℕ → ℝ)

/-- A score with its bias is the logarithm of its weight. -/
theorem biased {R W : ℕ} (n j r₀ o : ℕ) (s bias : FVec Ideal (Mx R W) .f32) (r : Fin R) (c : Fin W) (hs : s (ix2 r c) = ((dot Q K j r₀ (o + c.val) : ℝ) : EReal))
    (b : ℕ) (hr : r₀ = b + r.val) (ho : o = 512 * n + b) (hb : bias (ix2 r c) = if c.val ≤ r.val then 0 else ⊥) :
    (addf s bias (ix2 r c) = ⊥ ∧ wt Q K n j r₀ (o + c.val) = 0) ∨ ∃ x : ℝ, addf s bias (ix2 r c) = (x : EReal) ∧ wt Q K n j r₀ (o + c.val) = (2 : ℝ) ^ x := by
  rw [addf_apply, hs, hb, Ideal.addf_def]
  by_cases h : c.val ≤ r.val
  · right
    refine ⟨dot Q K j r₀ (o + c.val), ?_, ?_⟩
    · rw [if_pos h, add_zero]
    · unfold wt; rw [if_pos (by omega)]
  · left
    refine ⟨?_, ?_⟩
    · rw [if_neg h, EReal.add_bot]
    · unfold wt; rw [if_neg (by omega)]

theorem diag_apply (argm argl : Memref sig .tc .vmem S512x128 .f32) (arga : Memref sig .tc .vmem S512x256 .f32) (q : FVec Ideal (Mx 512 128) .bf16) (j : ℕ) (hj : j + 128 ≤ 256)
    (K0 V0 K1 V1 : FVec Ideal (Mx 256 256) .bf16) (m l : FVec Ideal (Mx 512 128) .f32) (a : FVec Ideal (Mx 512 256) .f32) (n : ℕ)
    (hq : ∀ (r : Fin 512) (e : Fin 128), q (ix2 r e) = ((Q r.val (j + e.val) : ℝ) : EReal))
    (hK0 : ∀ (c d : Fin 256), K0 (ix2 c d) = ((K (512 * n + c.val) d.val : ℝ) : EReal)) (hV0 : ∀ (c d : Fin 256), V0 (ix2 c d) = ((V (512 * n + c.val) d.val : ℝ) : EReal))
    (hK1 : ∀ (c d : Fin 256), K1 (ix2 c d) = ((K (512 * n + 256 + c.val) d.val : ℝ) : EReal)) (hV1 : ∀ (c d : Fin 256), V1 (ix2 c d) = ((V (512 * n + 256 + c.val) d.val : ℝ) : EReal))
    (h : ∀ r : Fin 512, Row r m l a (wt Q K n j r.val) V (512 * n)) (r : Fin 512) (d : Fin 256) :
    diag argm argl arga q j hj K0 V0 K1 V1 m l a (ix2 r d) = ((avg (wt Q K n j r.val) (fun c => V c d.val) (512 * n + 512) : ℝ) : EReal) := by
  have step0 := fun r : Fin 512 => Row.step (wide := wide2) (fun m x h c => wide2_apply m r x h c) 1 rfl (by omega) (h r) (addf (score q K0 j hj) bias512) V0
    (fun c => biased Q K n j r.val (512 * n) _ _ r c (score_apply Q K _ _ j hj r r.val (512 * n) (hq r) c (hK0 c)) 0 (Nat.zero_add _).symm rfl (bias512_apply r c)) hV0
  unfold diag
  by_cases hr : r.val < 256
  · rw [avg_more _ _ (n := 512 * n + 256) (by omega) (fun c hc => by unfold wt; rw [if_neg (by omega)])]
    exact (Row.congr (r' := r) (m' := rise (addf (score q K0 j hj) bias512) m) (step0 r) (fun _ => rfl) (fun k => joined_up argl _ _ r hr k) (fun k => joined_up arga _ _ r hr k)).average
      (wt_sum Q K n j r.val (by omega)).ne' d
  · have e : r.val = 256 + (r.val - 256) := by omega
    let r' : Fin 256 := ⟨r.val - 256, by omega⟩
    have er : (⟨256 + r'.val, by omega⟩ : Fin 512) = r := Fin.ext e.symm
    have h1 := Row.congr (r' := r') (m' := rows argm _) (l' := rows argl _) (a' := rows arga _) (step0 r)
      (fun k => (rows_apply argm _ r' k).trans (by rw [er])) (fun k => (rows_apply argl _ r' k).trans (by rw [er])) (fun k => (rows_apply arga _ r' k).trans (by rw [er]))
    have h2 := Row.step (wide := wide2) (fun m x h c => wide2_apply m r' x h c) 1 rfl (by omega) h1 (addf (score (lowq q) K1 j hj) bias256) V1
      (fun c => biased Q K n j r.val (512 * n + 256) _ _ r' c (score_apply Q K _ _ j hj r' r.val (512 * n + 256) (fun x => by
        unfold lowq
        rw [slice_apply _ _ r' x (by omega) (by omega), ← hq r x]
        refine congrArg q (funext fun a => Fin.ext ?_)
        fin_cases a
        · exact e.symm
        · exact Nat.zero_add _) c (hK1 c)) 256 e rfl (bias256_apply r' c)) hV1
    exact (Row.congr (r' := r) (m' := joined argm (rise (addf (score q K0 j hj) bias512) m) _) h2 (fun k => joined_low argm _ _ r r' (by show r.val - 256 + 256 = r.val; omega) k)
      (fun k => joined_low argl _ _ r r' (by show r.val - 256 + 256 = r.val; omega) k) (fun k => joined_low arga _ _ r r' (by show r.val - 256 + 256 = r.val; omega) k)).average
      (wt_sum Q K n j r.val (by omega)).ne' d

section Loop

variable (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S4x128 .f32) (harg8 : arg8.IsWhole) (arg9 : Memref sig .tc .vmem S512x256 .f32) (harg9 : arg9.IsWhole) (arg10 : Memref sig .tc .vmem S1x512x256 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x256 .f32) (harg16 : arg16.IsWhole)
    (x1 : Vec Ideal S1x512x256 .bf16) (x3 x4 : Vec Ideal S1x2048x256 .bf16) (x6 : Vec Ideal S512x256 .f32)

variable (hQ : ∀ (r : Fin 512) (d : Fin 256), x1 (ix3 (0 : Fin 1) r d) = ((Q r.val d.val : ℝ) : EReal))
  (hK : ∀ (r : Fin 2048) (d : Fin 256), x3 (ix3 (0 : Fin 1) r d) = ((K r.val d.val : ℝ) : EReal))
  (hV : ∀ (r : Fin 2048) (d : Fin 256), x4 (ix3 (0 : Fin 1) r d) = ((V r.val d.val : ℝ) : EReal))

theorem plane_real (arg : Memref sig .tc .vmem S1x2048x256 .bf16) (h : arg.IsWhole) (x : Vec Ideal S1x2048x256 .bf16) (X : ℕ → ℕ → ℝ)
    (hX : ∀ (r : Fin 2048) (d : Fin 256), x (ix3 (0 : Fin 1) r d) = ((X r.val d.val : ℝ) : EReal)) (W : ℕ) (off : Fin 3 → ℕ)
    (hin : ∀ a, off a + (⟨3, ![1, W, 256]⟩ : Shape).size a ≤ S1x2048x256.size a) (o : ℕ) (he : off = ![0, o, 0]) (cc : Fin W) (d : Fin 256) :
    planeAt arg h x W 256 off hin (ix2 cc d) = ((X (o + cc.val) d.val : ℝ) : EReal) := by
  have h1 : o + W ≤ 2048 := by have := hin 1; rw [he] at this; exact this
  rw [planeAt_apply arg h x W 256 off hin o 0 he cc d (by omega) (by omega), hX]
  simp only [Nat.zero_add]

theorem least_real : ∃ x : ℝ, Ideal.ofBits .f32 0xEFA18F08#32 = (x : EReal) := by
  refine ⟨(Ideal.ofBits .f32 0xEFA18F08#32).toReal, (EReal.coe_toReal ?_ ?_).symm⟩ <;> (simp [Ideal.ofBits, Ideal.ieee]; first | exact EReal.coe_ne_bot (10587912 * 2 ^ 73) | exact EReal.coe_ne_top (10587912 * 2 ^ 73))

theorem entry_row : (∀ r : Fin 512, Row r (ld arg11 (entry (F := Ideal) c arg11 arg12 arg13 arg14 arg15 arg16).1) (ld arg12 (entry (F := Ideal) c arg11 arg12 arg13 arg14 arg15 arg16).2.1) (ld arg13 (entry (F := Ideal) c arg11 arg12 arg13 arg14 arg15 arg16).2.2.1) (wt Q K (i 2).val 0 r.val) V (512 * 0))
      ∧ ∀ r : Fin 512, Row r (ld arg14 (entry (F := Ideal) c arg11 arg12 arg13 arg14 arg15 arg16).2.2.2.1) (ld arg15 (entry (F := Ideal) c arg11 arg12 arg13 arg14 arg15 arg16).2.2.2.2.1) (ld arg16 (entry (F := Ideal) c arg11 arg12 arg13 arg14 arg15 arg16).2.2.2.2.2) (wt Q K (i 2).val 128 r.val) V (512 * 0) := by
  obtain ⟨h1, h2, h3, h4, h5, h6⟩ := entry_ld (F := Ideal) c arg11 arg12 arg13 arg14 arg15 arg16
  rw [h1, h2, h3, h4, h5, h6]
  obtain ⟨x, hx⟩ := least_real
  have z : Ideal.ofBits .f32 0x00000000#32 = ((0 : ℝ) : EReal) := Ideal.ofBits_zero_f32
  refine ⟨fun r => ⟨x, fun _ => 0, fun _ => hx, fun _ => z, by simp, fun d => z.trans (by simp)⟩, fun r => ⟨x, fun _ => 0, fun _ => hx, fun _ => z, by simp, fun d => z.trans (by simp)⟩⟩

include hQ hK hV in
theorem acc_row (arg2 : BitVec 32) (k : ℕ) (hk : k ≤ (k0_t1_loop i).trips) :
    (∀ r : Fin 512, Row r (ld arg11 (acc c i arg3 harg3 arg4 harg4 arg5 harg5 arg6 harg6 arg7 harg7 arg8 harg8 arg9 harg9 arg10 harg10 arg11 harg11 arg12 harg12 arg13 harg13 arg14 harg14 arg15 harg15 arg16 harg16 arg2 (qry arg4 harg4 x1 0 (by omega)) (qry arg4 harg4 x1 128 (by omega)) x3 x4 (entry (F := Ideal) c arg11 arg12 arg13 arg14 arg15 arg16) k).1) (ld arg12 (acc c i arg3 harg3 arg4 harg4 arg5 harg5 arg6 harg6 arg7 harg7 arg8 harg8 arg9 harg9 arg10 harg10 arg11 harg11 arg12 harg12 arg13 harg13 arg14 harg14 arg15 harg15 arg16 harg16 arg2 (qry arg4 harg4 x1 0 (by omega)) (qry arg4 harg4 x1 128 (by omega)) x3 x4 (entry (F := Ideal) c arg11 arg12 arg13 arg14 arg15 arg16) k).2.1) (ld arg13 (acc c i arg3 harg3 arg4 harg4 arg5 harg5 arg6 harg6 arg7 harg7 arg8 harg8 arg9 harg9 arg10 harg10 arg11 harg11 arg12 harg12 arg13 harg13 arg14 harg14 arg15 harg15 arg16 harg16 arg2 (qry arg4 harg4 x1 0 (by omega)) (qry arg4 harg4 x1 128 (by omega)) x3 x4 (entry (F := Ideal) c arg11 arg12 arg13 arg14 arg15 arg16) k).2.2.1) (wt Q K (i 2).val 0 r.val) V (512 * k))
      ∧ ∀ r : Fin 512, Row r (ld arg14 (acc c i arg3 harg3 arg4 harg4 arg5 harg5 arg6 harg6 arg7 harg7 arg8 harg8 arg9 harg9 arg10 harg10 arg11 harg11 arg12 harg12 arg13 harg13 arg14 harg14 arg15 harg15 arg16 harg16 arg2 (qry arg4 harg4 x1 0 (by omega)) (qry arg4 harg4 x1 128 (by omega)) x3 x4 (entry (F := Ideal) c arg11 arg12 arg13 arg14 arg15 arg16) k).2.2.2.1) (ld arg15 (acc c i arg3 harg3 arg4 harg4 arg5 harg5 arg6 harg6 arg7 harg7 arg8 harg8 arg9 harg9 arg10 harg10 arg11 harg11 arg12 harg12 arg13 harg13 arg14 harg14 arg15 harg15 arg16 harg16 arg2 (qry arg4 harg4 x1 0 (by omega)) (qry arg4 harg4 x1 128 (by omega)) x3 x4 (entry (F := Ideal) c arg11 arg12 arg13 arg14 arg15 arg16) k).2.2.2.2.1) (ld arg16 (acc c i arg3 harg3 arg4 harg4 arg5 harg5 arg6 harg6 arg7 harg7 arg8 harg8 arg9 harg9 arg10 harg10 arg11 harg11 arg12 harg12 arg13 harg13 arg14 harg14 arg15 harg15 arg16 harg16 arg2 (qry arg4 harg4 x1 0 (by omega)) (qry arg4 harg4 x1 128 (by omega)) x3 x4 (entry (F := Ideal) c arg11 arg12 arg13 arg14 arg15 arg16) k).2.2.2.2.2) (wt Q K (i 2).val 128 r.val) V (512 * k) := by
  have tr := trips1 i
  induction k with
  | zero => exact entry_row Q K V c i arg11 arg12 arg13 arg14 arg15 arg16
  | succ k ih =>
    have ih := ih (by omega)
    have hk' : k < (k0_t1_loop i).trips := hk
    rw [acc, dif_pos hk']
    generalize acc c i arg3 harg3 arg4 harg4 arg5 harg5 arg6 harg6 arg7 harg7 arg8 harg8 arg9 harg9 arg10 harg10 arg11 harg11 arg12 harg12 arg13 harg13 arg14 harg14 arg15 harg15 arg16 harg16 arg2 _ _ x3 x4 _ k = g at ih ⊢
    obtain ⟨h1, h2, h3, h4, h5, h6⟩ := trip_ld c i arg3 harg3 arg4 harg4 arg5 harg5 arg6 harg6 arg7 harg7 arg8 harg8 arg9 harg9 arg10 harg10 arg11 harg11 arg12 harg12 arg13 harg13 arg14 harg14 arg15 harg15 arg16 harg16 x3 x4 arg2 (qry arg4 harg4 x1 0 (by omega)) (qry arg4 harg4 x1 128 (by omega)) ⟨k, hk⟩ g
    rw [h1, h2, h3, h4, h5, h6]
    clear h1 h2 h3 h4 h5 h6
    have kb := plane_real arg6 harg6 x3 K hK 512 _ (k0_off1_inb i ⟨k, hk⟩) (512 * k) (k0_off1_eq i ⟨k, hk⟩)
    have vb := plane_real arg7 harg7 x4 V hV 512 _ (k0_off1_inb i ⟨k, hk⟩) (512 * k) (k0_off1_eq i ⟨k, hk⟩)
    exact ⟨fun r => Row.step (wide := wide4) (fun m x h c => wide4_apply m r x h c) 3 rfl (by omega) (ih.1 r) _ _ (fun cc => .inr ⟨dot Q K 0 r.val (512 * k + cc.val),
        score_apply Q K _ _ 0 (by omega) r r.val (512 * k) (qry_apply arg4 harg4 x1 Q 0 (by omega) hQ r) cc (kb cc), by unfold wt; rw [if_pos (by omega)]⟩) vb,
      fun r => Row.step (wide := wide4) (fun m x h c => wide4_apply m r x h c) 3 rfl (by omega) (ih.2 r) _ _ (fun cc => .inr ⟨dot Q K 128 r.val (512 * k + cc.val),
        score_apply Q K _ _ 128 (by omega) r r.val (512 * k) (qry_apply arg4 harg4 x1 Q 128 (by omega) hQ r) cc (kb cc), by unfold wt; rw [if_pos (by omega)]⟩) vb⟩

include hQ hK hV in
theorem big_avg (r : Fin 512) (d : Fin 256) :
    runBig.sl.r_17 c i arg3 harg3 arg4 harg4 arg5 harg5 arg6 harg6 arg7 harg7 arg8 harg8 arg9 harg9 arg10 harg10 arg11 harg11 arg12 harg12 arg13 harg13 arg14 harg14 arg15 harg15 arg16 harg16 x1 x3 x4 (ix2 r d) = ((avg (wt Q K (i 2).val 0 r.val) (fun cc => V cc d.val) (512 * (i 2).val + 512) : ℝ) : EReal)
      ∧ runBig.sl.r_18 c i arg3 harg3 arg4 harg4 arg5 harg5 arg6 harg6 arg7 harg7 arg8 harg8 arg9 harg9 arg10 harg10 arg11 harg11 arg12 harg12 arg13 harg13 arg14 harg14 arg15 harg15 arg16 harg16 x1 x3 x4 (ix2 r d) = ((avg (wt Q K (i 2).val 128 r.val) (fun cc => V cc d.val) (512 * (i 2).val + 512) : ℝ) : EReal) := by
  have h := acc_row Q K V c i arg3 harg3 arg4 harg4 arg5 harg5 arg6 harg6 arg7 harg7 arg8 harg8 arg9 harg9 arg10 harg10 arg11 harg11 arg12 harg12 arg13 harg13 arg14 harg14 arg15 harg15 arg16 harg16 x1 x3 x4 hQ hK hV (BitVec.ofNat 32 (i 2).val) (k0_t1_loop i).trips le_rfl
  rw [trips1 i] at h
  rw [big1, big2]
  unfold leave
  rw [trips1 i]
  have k0 := plane_real arg6 harg6 x3 K hK 256 _ (k0_off3_inb i 0) (512 * (i 2).val) (k0_off3_eq i 0)
  have v0 := plane_real arg7 harg7 x4 V hV 256 _ (k0_off3_inb i 0) (512 * (i 2).val) (k0_off3_eq i 0)
  have k1 := plane_real arg6 harg6 x3 K hK 256 _ (k0_off3_inb i 1) (512 * (i 2).val + 256) (k0_off3_eq i 1)
  have v1 := plane_real arg7 harg7 x4 V hV 256 _ (k0_off3_inb i 1) (512 * (i 2).val + 256) (k0_off3_eq i 1)
  exact ⟨diag_apply Q K V arg11 arg12 arg13 _ 0 (by omega) _ _ _ _ _ _ _ _ (qry_apply arg4 harg4 x1 Q 0 (by omega) hQ) k0 v0 k1 v1 h.1 r d,
    diag_apply Q K V arg14 arg15 arg16 _ 128 (by omega) _ _ _ _ _ _ _ _ (qry_apply arg4 harg4 x1 Q 128 (by omega) hQ) k0 v0 k1 v1 h.2 r d⟩

end Loop

end Cert.KernelIdeal.Attn

end
-- ==== Proof.KernelIdeal.Output.lean ====
/- The body's output over the reals: the difference of two averages, scaled and gated, on either side of the bound's threshold. -/
module

public import proofs.«01_k».proof.Proof.KernelIdeal.Big
public import proofs.«01_k».proof.Proof.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- A head's row `o` at lane `d`: to unit mean square, by the constant factor, and gated by `g`. -/
def fin (o : ℕ → ℝ) (d : ℕ) (g : EReal) : EReal :=
  (o d : EReal) * Ideal.rsqrt (Ideal.div ((∑ x ∈ Finset.range 256, o x * o x : ℝ) : EReal) (Ideal.ofBits .f32 0x43800000#32) + Ideal.ofBits .f32 0x358637BD#32)
    * Ideal.ofBits .f32 0x3F24FD5C#32 * g

theorem gated_apply (o : FVec Ideal S512x256 .f32) (g : FVec Ideal S1x512x256 .bf16) (r : Fin 512) (d : Fin 256) (O : ℕ → ℝ)
    (h : ∀ x : Fin 256, o (ix2 r x) = ((O x.val : ℝ) : EReal)) : gated o g (ix3 (0 : Fin 1) r d) = fin O d.val (g (ix3 (0 : Fin 1) r d)) := by
  pointwise [gated]
  simp only [h, ← EReal.coe_mul, coe_sum_range 256 fun x => O x * O x]
  rfl

theorem mix_apply (o1 o2 : FVec Ideal S512x256 .f32) (lp : FVec Ideal S4x128 .f32) (r : Fin 512) (d : Fin 256) :
    mix o1 o2 lp (ix2 r d) = o1 (ix2 r d) - mixing lp (ix2 (0 : Fin 1) (0 : Fin 1)) * o2 (ix2 r d) := by
  pointwise [mix]

theorem mixing_apply (lp : FVec Ideal S4x128 .f32) :
    mixing lp (ix2 (0 : Fin 1) (0 : Fin 1)) = Ideal.exp (∑ x : Fin 128, lp (ix2 (0 : Fin 4) x) * lp (ix2 (1 : Fin 4) x))
      - Ideal.exp (∑ x : Fin 128, lp (ix2 (2 : Fin 4) x) * lp (ix2 (3 : Fin 4) x)) + Ideal.ofBits .f32 0x3EB60549#32 := by
  pointwise [mixing]

theorem big_iff (b : Ideal .f32) : Big (F := Ideal) b ↔ Ideal.ofBits .f32 0x42700000#32 < b := by
  unfold Big
  rw [← Ideal.cmp_ogt_eq_one]
  show IntOp.cmpi .ne ((Ideal.cmp .ogt b (Ideal.ofBits .f32 0x42700000#32)).setWidth 32) 0#32 = 1#1 ↔ _
  generalize Ideal.cmp .ogt b (Ideal.ofBits .f32 0x42700000#32) = w
  revert w
  decide

theorem sixty_real : Ideal.ofBits .f32 0x42700000#32 ≠ ⊤ := by
  simp [Ideal.ofBits, Ideal.ieee]
  exact EReal.coe_ne_top (15728640 * 2 ^ (-18 : ℤ))

section Value

variable (Q K V : ℕ → ℕ → ℝ) (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S4x128 .f32) (harg8 : arg8.IsWhole) (arg9 : Memref sig .tc .vmem S512x256 .f32) (harg9 : arg9.IsWhole) (arg10 : Memref sig .tc .vmem S1x512x256 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x256 .f32) (harg16 : arg16.IsWhole)
    (x0 : Vec Ideal S1 .f32) (x1 x2 : Vec Ideal S1x512x256 .bf16) (x3 x4 : Vec Ideal S1x2048x256 .bf16) (x5 : Vec Ideal S4x128 .f32) (x6 : Vec Ideal S512x256 .f32)

theorem lamRows_eq : lamRows arg8 harg8 x5 = x5 := by
  unfold lamRows
  refine (shapeCast_self _ _).trans ?_
  funext y
  rw [harg8.readAt_unread]
  refine congrArg x5 (funext fun a => Fin.ext ?_)
  fin_cases a
  · show 0 + 1 * (y 0).val = (y 0).val; omega
  · show 0 + 1 * (y 1).val = (y 1).val; omega

theorem gateRows_eq : gateRows arg5 harg5 x2 = x2 := by
  unfold gateRows
  funext y
  rw [harg5.readAt_unread]
  refine congrArg x2 (funext fun a => Fin.ext ?_)
  fin_cases a
  · show 0 + 1 * (y 0).val = (y 0).val; omega
  · show 0 + 1 * (y 1).val = (y 1).val; omega
  · show 0 + 1 * (y 2).val = (y 2).val; omega

theorem bnd_eq : bnd arg3 harg3 x0 = x0 (ix1 (0 : Fin 1)) := by
  unfold bnd
  rw [harg3.readAt_unread]
  refine congrArg x0 (funext fun a => Fin.ext ?_)
  fin_cases a
  rfl

/-- The row of a query: the first map's average less the mixed second. -/
def row (n r : ℕ) (lam : ℝ) (d : ℕ) : ℝ :=
  avg (wt Q K n 0 r) (fun cc => V cc d) (512 * n + 512) - lam * avg (wt Q K n 128 r) (fun cc => V cc d) (512 * n + 512)

theorem out_value (hQ : ∀ (r : Fin 512) (d : Fin 256), x1 (ix3 (0 : Fin 1) r d) = ((Q r.val d.val : ℝ) : EReal))
    (hK : ∀ (r : Fin 2048) (d : Fin 256), x3 (ix3 (0 : Fin 1) r d) = ((K r.val d.val : ℝ) : EReal))
    (hV : ∀ (r : Fin 2048) (d : Fin 256), x4 (ix3 (0 : Fin 1) r d) = ((V r.val d.val : ℝ) : EReal))
    (hT : ∀ (r : Fin 512) (d : Fin 256), x6 (ix2 r d) = (((if d.val ≤ r.val then 1 else 0 : ℝ)) : EReal))
    (hb : x0 (ix1 (0 : Fin 1)) ≠ (⊥ : EReal)) (lam : ℝ) (hl : mixing (F := Ideal) x5 (ix2 (0 : Fin 1) (0 : Fin 1)) = ((lam : ℝ) : EReal)) (f) (r : Fin 512) (d : Fin 256) :
    arg10.view.read (Elt Ideal) (outBuf c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 f) (ix3 (0 : Fin 1) r d)
      = fin (row Q K V (i 2).val r.val lam) d.val (x2 (ix3 (0 : Fin 1) r d)) := by
  have e := bnd_eq arg3 harg3 x0
  unfold outBuf
  split
  next hc =>
    rw [big_read, bigOut, gateRows_eq, lamRows_eq]
    refine gated_apply _ _ r d _ fun x => ?_
    obtain ⟨h1, h2⟩ := big_avg Q K V c i arg3 harg3 arg4 harg4 arg5 harg5 arg6 harg6 arg7 harg7 arg8 harg8 arg9 harg9 arg10 harg10 arg11 harg11 arg12 harg12 arg13 harg13 arg14 harg14 arg15 harg15 arg16 harg16 x1 x3 x4 hQ hK hV r x
    rw [mix_apply, h1, h2, hl, row, EReal.coe_sub, EReal.coe_mul]
  next hc =>
    have h60 : bnd arg3 harg3 x0 ≤ Ideal.ofBits .f32 0x42700000#32 := not_lt.1 fun h => hc ((big_iff _).2 h)
    have hle : Scalar.cmpf .ole (bnd arg3 harg3 x0) (Scalar.ofBits .f32 0x42700000#32) = 1#1 := (Ideal.cmp_ole_eq_one _ _).2 h60
    have hne : bnd arg3 harg3 x0 ≠ ⊤ := fun h => sixty_real (top_le_iff.1 (h ▸ h60))
    have hr : bnd arg3 harg3 x0 = ((bnd arg3 harg3 x0).toReal : EReal) := (EReal.coe_toReal hne (by rw [e]; exact hb)).symm
    rw [small_read (hb := hle), smallOut, gateRows_eq, lamRows_eq]
    refine gated_apply _ _ r d _ fun x => ?_
    rw [mix_apply, tileAvg_apply arg3 harg3 arg4 harg4 arg6 harg6 arg7 harg7 arg9 harg9 x0 x1 x3 x4 x6 Q K V hQ hK hV hT (tileOf i) 0 (by omega) _ hr r x,
      tileAvg_apply arg3 harg3 arg4 harg4 arg6 harg6 arg7 harg7 arg9 harg9 x0 x1 x3 x4 x6 Q K V hQ hK hV hT (tileOf i) 128 (by omega) _ hr r x, hl, row, EReal.coe_sub, EReal.coe_mul]
    rfl

end Value

end Cert.KernelIdeal.Attn

end
-- ==== Proof.KernelIdeal.Host.lean ====
/- What the host hands the launch over the reals: the projections joined, the mixing rows, the bound and the triangle. -/
module

public import proofs.«01_k».proof.Proof.KernelIdeal.Output
public import Idealize.ShloMosaic.Lib.Claim
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem idx : ∀ t : Fin cfg0.N, win0_0.index t = ![0] ∧ win0_1.index t = ![(grid0.coords t 0).val, (grid0.coords t 2).val, (grid0.coords t 1).val]
    ∧ win0_2.index t = ![(grid0.coords t 0).val, (grid0.coords t 2).val, 24 + (grid0.coords t 1).val] ∧ win0_3.index t = ![(grid0.coords t 0).val, 0, 8 + (grid0.coords t 1).val]
    ∧ win0_4.index t = ![(grid0.coords t 0).val, 0, 16 + (grid0.coords t 1).val] ∧ win0_5.index t = ![0, 0] ∧ win0_6.index t = ![0, 0]
    ∧ win0_7.index t = ![(grid0.coords t 0).val, (grid0.coords t 2).val, (grid0.coords t 1).val] :=
  (by decide +kernel : ∀ t : Fin grid0.N, _)

/-- The gate `x` times its logistic, written as a half of `x` plus that half times its hyperbolic tangent. -/
def silu {F : FTy → Type} [FloatOps F] (x : FVec F S4x2048x2048 .f32) : FVec F S4x2048x2048 .f32 :=
  addf (mulf (broadcastInDim S4x2048x2048 ![] bcast_S_S4x2048x2048 (constant S_ FTy.f32 1056964608#32)) x)
    (mulf (mulf (broadcastInDim S4x2048x2048 ![] bcast_S_S4x2048x2048 (constant S_ FTy.f32 1056964608#32)) x)
      (Host.tanh (mulf (broadcastInDim S4x2048x2048 ![] bcast_S_S4x2048x2048 (constant S_ FTy.f32 1056964608#32)) x)))

theorem proj_eq {F : FTy → Type} [FloatOps F] [Named F] (m : (ℓ : Loc nD τ sig) → Buf (Elt F) ℓ) (c : Dev nD) : V m c main_v11 =
   truncf .bf16 (concatenate S4x2048x8192 2
     [⟨S4x2048x2048, (Host.divf (m (c, Proc.tc.devRef main_arg0))
        (broadcastInDim S4x2048x2048 ![] bcast_S_S4x2048x2048
          (mulf (Host.sqrt (constant S_ FTy.f32 1124073472#32)) (Host.log (constant S_ FTy.f32 1073741824#32)))) :
          FVec F S4x2048x2048 .f32)⟩,
      ⟨S4x2048x2048, (m (c, Proc.tc.devRef main_arg1) : FVec F S4x2048x2048 .f32)⟩,
      ⟨S4x2048x2048, (m (c, Proc.tc.devRef main_arg2) : FVec F S4x2048x2048 .f32)⟩,
      ⟨S4x2048x2048, (silu (m (c, Proc.tc.devRef main_arg3)) : FVec F S4x2048x2048 .f32)⟩]
     concatenates_S4x2048x2048_S4x2048x2048_S4x2048x2048_S4x2048x2048_S4x2048x8192_d2) bitsLt_bf16_f32 := by
  unfold V
  simp only [StableHlo.after_cons, StableHlo.after_nil]
  repeat (first
    | rw [StableHlo.nary4_result] | rw [StableHlo.nullary_result] | rw [StableHlo.unary_result]
    | rw [StableHlo.binary_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide))
  rfl

theorem lam_eq {F : FTy → Type} [FloatOps F] [Named F] (m : (ℓ : Loc nD τ sig) → Buf (Elt F) ℓ) (c : Dev nD) : V m c main_v16 =
   concatenate S4x128 0
     [⟨S1x128, (broadcastInDim S1x128 ![1] bcast_S128_S1x128_1 (m (c, Proc.tc.devRef main_arg6)) : FVec F S1x128 .f32)⟩,
      ⟨S1x128, (broadcastInDim S1x128 ![1] bcast_S128_S1x128_1 (m (c, Proc.tc.devRef main_arg7)) : FVec F S1x128 .f32)⟩,
      ⟨S1x128, (broadcastInDim S1x128 ![1] bcast_S128_S1x128_1 (m (c, Proc.tc.devRef main_arg8)) : FVec F S1x128 .f32)⟩,
      ⟨S1x128, (broadcastInDim S1x128 ![1] bcast_S128_S1x128_1 (m (c, Proc.tc.devRef main_arg9)) : FVec F S1x128 .f32)⟩]
     concatenates_S1x128_S1x128_S1x128_S1x128_S4x128_d0 := by
  unfold V
  simp only [StableHlo.after_cons, StableHlo.after_nil]
  repeat (first
    | rw [StableHlo.nary4_result] | rw [StableHlo.nullary_result] | rw [StableHlo.unary_result]
    | rw [StableHlo.binary_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide))
  rfl

theorem proj_q (b : Fin 4) (r j : Fin 2048) : V m c main_v11 (ix3 b r (⟨j.val, by omega⟩ : Fin 8192))
    = Ideal.div (m (c, Proc.tc.devRef main_arg0) (ix3 b r j)) (Ideal.sqrt (Ideal.ofBits FTy.f32 0x43000000#32) * Ideal.log (Ideal.ofBits FTy.f32 0x40000000#32)) := by
  rw [proj_eq]
  pointwise

theorem proj_k (b : Fin 4) (r j : Fin 2048) : V m c main_v11 (ix3 b r (⟨2048 + j.val, by omega⟩ : Fin 8192)) = m (c, Proc.tc.devRef main_arg1) (ix3 b r j) := by
  rw [proj_eq]
  pointwise

theorem proj_v (b : Fin 4) (r j : Fin 2048) : V m c main_v11 (ix3 b r (⟨4096 + j.val, by omega⟩ : Fin 8192)) = m (c, Proc.tc.devRef main_arg2) (ix3 b r j) := by
  rw [proj_eq]
  pointwise
  rw [dif_neg (by omega), dif_neg (by omega), dif_pos (by omega)]
  exact congrArg (m (c, Proc.tc.devRef main_arg2)) (congrArg (ix3 b r) (Fin.ext (by show 4096 + j.val - 2048 - 2048 = j.val; omega)))

theorem proj_g (b : Fin 4) (r j : Fin 2048) : V m c main_v11 (ix3 b r (⟨6144 + j.val, by omega⟩ : Fin 8192))
    = Ideal.ofBits FTy.f32 0x3F000000#32 * m (c, Proc.tc.devRef main_arg3) (ix3 b r j)
      + Ideal.ofBits FTy.f32 0x3F000000#32 * m (c, Proc.tc.devRef main_arg3) (ix3 b r j)
        * Ideal.tanh (Ideal.ofBits FTy.f32 0x3F000000#32 * m (c, Proc.tc.devRef main_arg3) (ix3 b r j)) := by
  have e : (⟨6144 + j.val - 2048 - 2048 - 2048, by omega⟩ : Fin 2048) = j := Fin.ext (by show 6144 + j.val - 2048 - 2048 - 2048 = j.val; omega)
  rw [proj_eq]
  pointwise [silu]
  rw [dif_neg (by omega), dif_neg (by omega), dif_neg (by omega)]
  simp only [e]

theorem lam_row0 (j : Fin 128) : V m c main_v16 (ix2 (0 : Fin 4) j) = m (c, Proc.tc.devRef main_arg6) (ix1 j) := by
  rw [lam_eq]
  pointwise

theorem lam_row1 (j : Fin 128) : V m c main_v16 (ix2 (1 : Fin 4) j) = m (c, Proc.tc.devRef main_arg7) (ix1 j) := by
  rw [lam_eq]
  pointwise

theorem lam_row2 (j : Fin 128) : V m c main_v16 (ix2 (2 : Fin 4) j) = m (c, Proc.tc.devRef main_arg8) (ix1 j) := by
  rw [lam_eq]
  pointwise

theorem lam_row3 (j : Fin 128) : V m c main_v16 (ix2 (3 : Fin 4) j) = m (c, Proc.tc.devRef main_arg9) (ix1 j) := by
  rw [lam_eq]
  pointwise

theorem tri_eq (r : Fin 512) (j : Fin 256) : V m c main_v31 (ix2 r j) = (((if j.val ≤ r.val then 1 else 0 : ℝ)) : EReal) := by
  entry_read
  pointwise
  have hi : IntOp.cmpi .sge (BitVec.ofNat 32 r.val) (BitVec.ofNat 32 j.val) = 1#1 ↔ j.val ≤ r.val :=
    WordCmp.cmpi_sge_ofNat_eq_one_iff (w := 32) (by omega) (by omega)
  generalize IntOp.cmpi .sge (BitVec.ofNat 32 r.val) (BitVec.ofNat 32 j.val) = w at hi
  by_cases h : j.val ≤ r.val
  · rw [if_pos h, hi.2 h]
    show ((((1#1 : BitVec 1).toNat : ℝ)) : EReal) = _
    simp
  · have hw : w = 0#1 := by
      have : w ≠ 1#1 := fun e => h (hi.1 e)
      clear hi; revert this; revert w; decide
    rw [if_neg h, hw]
    show ((((0#1 : BitVec 1).toNat : ℝ)) : EReal) = _
    simp

theorem most_nonneg (x : Fin 128 → EReal) : 0 ≤ Finset.fold max (Ideal.ofBits .f32 0xFF800000#32) (fun k => FloatOps.absf (F := Ideal) (φ := .f32) (x k)) Finset.univ := by
  refine (Finset.le_fold_max _).2 (.inr ⟨0, Finset.mem_univ _, ?_⟩)
  show (0 : EReal) ≤ max (x 0) (-(x 0))
  rcases le_total 0 (x 0) with h | h
  · exact le_max_of_le_left h
  · exact le_max_of_le_right (EReal.neg_nonneg.2 h)

theorem bound_ne : V m c main_v23 (ix1 (0 : Fin 1)) ≠ (⊥ : EReal) := by
  entry_read
  pointwise
  refine ne_of_gt (α := EReal) (lt_of_lt_of_le EReal.bot_lt_zero (mul_nonneg (mul_nonneg ?_ (most_nonneg _)) (most_nonneg _)))
  simp [Ideal.ofBits, Ideal.ieee, ← EReal.coe_mul]

section Points

variable (t : Fin cfg0.N)

/-- The grid point's batch. -/
def pb : Fin 4 := ⟨(grid0.coords t 0).val, (grid0.coords t 0).isLt⟩
/-- The grid point's head. -/
def ph : Fin 8 := ⟨(grid0.coords t 1).val, (grid0.coords t 1).isLt⟩
/-- The grid point's tile of queries. -/
def pq : Fin 4 := ⟨(grid0.coords t 2).val, (grid0.coords t 2).isLt⟩

theorem blk_q (r : Fin 512) (d : Fin 256) : iblk m c 1 t (ix3 (0 : Fin 1) r d)
    = V m c main_v11 (ix3 (pb t) (⟨512 * (pq t).val + r.val, by omega⟩ : Fin 2048) (⟨256 * (ph t).val + d.val, by omega⟩ : Fin 8192)) := by
  blk_ext [iblk, idx t, pb, pq, ph]

theorem blk_g (r : Fin 512) (d : Fin 256) : iblk m c 2 t (ix3 (0 : Fin 1) r d)
    = V m c main_v11 (ix3 (pb t) (⟨512 * (pq t).val + r.val, by omega⟩ : Fin 2048) (⟨6144 + (256 * (ph t).val + d.val), by omega⟩ : Fin 8192)) := by
  blk_ext [iblk, idx t, pb, pq, ph]

theorem blk_k (r : Fin 2048) (d : Fin 256) : iblk m c 3 t (ix3 (0 : Fin 1) r d)
    = V m c main_v11 (ix3 (pb t) r (⟨2048 + (256 * (ph t).val + d.val), by omega⟩ : Fin 8192)) := by
  blk_ext [iblk, idx t, pb, pq, ph]

theorem blk_v (r : Fin 2048) (d : Fin 256) : iblk m c 4 t (ix3 (0 : Fin 1) r d)
    = V m c main_v11 (ix3 (pb t) r (⟨4096 + (256 * (ph t).val + d.val), by omega⟩ : Fin 8192)) := by
  blk_ext [iblk, idx t, pb, pq, ph]

theorem blk_b : iblk m c 0 t (ix1 (0 : Fin 1)) = V m c main_v23 (ix1 (0 : Fin 1)) := by
  blk_ext [iblk, idx t, pb, pq, ph]

theorem blk_l (r : Fin 4) (d : Fin 128) : iblk m c 5 t (ix2 r d) = V m c main_v16 (ix2 r d) := by
  blk_ext [iblk, idx t, pb, pq, ph]

theorem blk_t (r : Fin 512) (d : Fin 256) : iblk m c 6 t (ix2 r d) = V m c main_v31 (ix2 r d) := by
  blk_ext [iblk, idx t, pb, pq, ph]

end Points

end Cert.KernelIdeal.Attn

end
-- ==== Proof.KernelIdeal.Exact.lean ====
/- The launch's run over the reals, the output's blocks at what the body leaves. -/
module

public import proofs.«01_k».proof.Proof.KernelIdeal.Output

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- What the body leaves in the output's block at point `t`. -/
def left (c : Dev nD) (t : Fin cfg0.N) : S1x512x256.Idx → Elt Ideal .bf16 := (ms0_7 t).view.read (Elt Ideal) (outAt m c t (ms0_7 t).view.junk)

/-- It does not depend on what the buffer held. -/
theorem left_eq (c : Dev nD) (t : Fin cfg0.N) (f) : (ms0_7 t).view.read (Elt Ideal) (outAt m c t f) = left m c t := by
  unfold left outAt outBuf
  split
  next hc => rw [big_read, big_read]
  next hc =>
    have hle : Scalar.cmpf .ole (bnd (ms0_0 t) (hs0_0 t) (iblk m c 0 t)) (Scalar.ofBits .f32 0x42700000#32) = 1#1 :=
      (Ideal.cmp_ole_eq_one _ _).2 (not_lt.1 fun h => hc ((big_iff _).2 h))
    rw [small_read (hb := hle), small_read (hb := hle)]

theorem body_exact (c : Dev nD) : BodyObligation (dats m (left m) 0 c) (defs₀ (F := Ideal)) Variants.none () Set.univ := fun t => by
  rw [bigSep_W0, bigSep_W0, defs₀_row]
  refine triple_restated (sound_body m (left m) c t ((dats m (left m) 0 c).leavesExact 7 t) (fun f => ?_)) rfl ?_ fun _ => .rfl
  · rw [left_eq]
    unfold Dat.leavesExact
    rw [liveAt0_7 t, after0_7]
  · unfold bodyPre
    dsimp only
    iintro ⟨H, Ho, H0, H1, H2, H3, H4, H5, H6, ⟨%d, H7⟩⟩
    isplitl [H]; · iexact H
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _
    iexact H7

set_option backward.isDefEq.respectTransparency.types false in
theorem run_exact : θ_run defs (onTc (τ := τ) (main (F := Ideal))) (s₀ m ρ) (Pipeline.FramePost cfgs (dats m (left m)) 0 (V m)) :=
  Pipeline.θ_run_frame_shared cfgs (dats m (left m)) (0 : Fin 1) launch₀0 defs₀ Variants.none m ρ main
    (hbody := fun c => (body_exact m c).loose) (hq := fun _ _ _ => rfl)
    (howed := fun _ _ => rfl) (V := V m) (hmain := hmain m Variants.none) (hA := A_eq m (left m)) (hΦ := fun _ _ => rfl)

end Cert.KernelIdeal.Attn

end
-- ==== Proof.ReferenceIdeal.Value.lean ====
/- The reference's result over the reals, read at an index. -/
module

public import proofs.«01_k».proof.Proof.Gen.ReferenceIdeal.Run
public import proofs.«01_k».proof.Proof.KernelIdeal.Output

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.ShloMosaic.Tactic

section Terms

variable {F : FTy → Type} [FloatOps F] (x0 x1 x2 x3 : FVec F S4x2048x2048 .f32) (x6 x7 x8 x9 : FVec F S128 .f32)

/-- The scores of every head's two halves, minus infinity past the diagonal. -/
def scores : FVec F S4x8x2x2048x2048 .f32 :=
  select (broadcastInDim S4x8x2x2048x2048 ![3, 4] bcast_S2048x2048_S4x8x2x2048x2048_3_4 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S4x8x2x2048x128_S4x8x2x2048x128_S4x8x2x2048x2048_4_4_3_3_012_012 none (transpose S4x8x2x2048x128 [0, 2, 3, 1, 4] (shapeCast _ x0 shapeCasts_S4x2048x2048_S4x2048x8x2x128) transposes_S4x2048x8x2x128_S4x8x2x2048x128_0_2_3_1_4) (transpose S4x8x2x2048x128 [0, 2, 3, 1, 4] (shapeCast _ x1 shapeCasts_S4x2048x2048_S4x2048x8x2x128) transposes_S4x2048x8x2x128_S4x8x2x2048x128_0_2_3_1_4)) (broadcastInDim S4x8x2x2048x2048 ![] bcast_S_S4x8x2x2048x2048 (Host.divf (constant S_ .f32 0x3F800000#32) (Host.sqrt (constant S_ .f32 0x43000000#32))))) (broadcastInDim S4x8x2x2048x2048 ![] bcast_S_S4x8x2x2048x2048 (id (constant S_ .f32 0xFF800000#32)))

/-- Each row's largest score. -/
def peak (s : FVec F S4x8x2x2048x2048 .f32) : FVec F S4x8x2x2048 .f32 :=
  Host.reduce FloatOps.maximumf s (constant S_ .f32 0xFF800000#32) reducesTo_S4x8x2x2048x2048_S4x8x2x2048_d4 h_S_

/-- A number per row, spread along the row. -/
def spread (t : FVec F S4x8x2x2048 .f32) : FVec F S4x8x2x2048x2048 .f32 :=
  broadcastInDim S4x8x2x2048x2048 ![0, 1, 2, 3, 4] bcast_S4x8x2x2048x1_S4x8x2x2048x2048_0_1_2_3_4 (broadcastInDim S4x8x2x2048x1 ![0, 1, 2, 3] bcast_S4x8x2x2048_S4x8x2x2048x1_0_1_2_3 (maximumf (broadcastInDim S4x8x2x2048 ![] bcast_S_S4x8x2x2048 (constant S_ .f32 0xFF800000#32)) t))

/-- Each row's largest score, spread along the row. -/
def most (s : FVec F S4x8x2x2048x2048 .f32) : FVec F S4x8x2x2048x2048 .f32 := spread (peak s)

/-- The softmax of the scores. -/
def probs (s : FVec F S4x8x2x2048x2048 .f32) : FVec F S4x8x2x2048x2048 .f32 :=
  Host.divf (Host.exp (subf s (most s))) (broadcastInDim S4x8x2x2048x2048 ![0, 1, 2, 3, 4] bcast_S4x8x2x2048x1_S4x8x2x2048x2048_0_1_2_3_4 (broadcastInDim S4x8x2x2048x1 ![0, 1, 2, 3] bcast_S4x8x2x2048_S4x8x2x2048x1_0_1_2_3 (Host.reduceAdd (Host.exp (subf s (most s))) (constant S_ .f32 0x00000000#32) reducesTo_S4x8x2x2048x2048_S4x8x2x2048_d4 h_S_)))

/-- The mixing number. -/
def lam : FVec F S_ .f32 :=
  addf (subf (Host.exp (Host.reduceAdd (mulf x6 x7) (constant S_ .f32 0x00000000#32) reducesTo_S128_S_d0 h_S_)) (Host.exp (Host.reduceAdd (mulf x8 x9) (constant S_ .f32 0x00000000#32) reducesTo_S128_S_d0 h_S_))) (constant S_ .f32 0x3EB60549#32)

/-- The two halves mixed, over the values. -/
def mixed (p : FVec F S4x8x2x2048x2048 .f32) : FVec F S4x8x2048x256 .f32 :=
  Host.dotGeneral dot_S4x8x2048x2048_S4x8x2048x256_S4x8x2048x256_3_2_2_3_01_01 none (subf (shapeCast _ (extractStridedSlice S4x8x1x2048x2048 ![0, 0, 0, 0, 0] p slices_S4x8x2x2048x2048_S4x8x1x2048x2048_0_0_0_0_0) shapeCasts_S4x8x1x2048x2048_S4x8x2048x2048) (mulf (broadcastInDim S4x8x2048x2048 ![] bcast_S_S4x8x2048x2048 (lam x6 x7 x8 x9)) (shapeCast _ (extractStridedSlice S4x8x1x2048x2048 ![0, 0, 1, 0, 0] p slices_S4x8x2x2048x2048_S4x8x1x2048x2048_0_0_1_0_0) shapeCasts_S4x8x1x2048x2048_S4x8x2048x2048))) (transpose S4x8x2048x256 [0, 2, 1, 3] (shapeCast _ x2 shapeCasts_S4x2048x2048_S4x2048x8x256) transposes_S4x2048x8x256_S4x8x2048x256_0_2_1_3)

/-- Normed and gated. -/
def result (o : FVec F S4x8x2048x256 .f32) : FVec F S4x2048x2048 .bf16 :=
  truncf .bf16 (mulf (shapeCast _ (transpose S4x2048x8x256 [0, 2, 1, 3] (mulf (mulf o (broadcastInDim S4x8x2048x256 ![0, 1, 2, 3] bcast_S4x8x2048x1_S4x8x2048x256_0_1_2_3 (Host.rsqrt (addf (Host.divf (broadcastInDim S4x8x2048x1 ![0, 1, 2] bcast_S4x8x2048_S4x8x2048x1_0_1_2 (Host.reduceAdd (mulf o o) (constant S_ .f32 0x00000000#32) reducesTo_S4x8x2048x256_S4x8x2048_d3 h_S_)) (broadcastInDim S4x8x2048x1 ![] bcast_S_S4x8x2048x1 (constant S_ .f32 0x43800000#32))) (broadcastInDim S4x8x2048x1 ![] bcast_S_S4x8x2048x1 (constant S_ .f32 0x358637BD#32)))))) (broadcastInDim S4x8x2048x256 ![] bcast_S_S4x8x2048x256 (constant S_ .f32 0x3F24FD5C#32))) transposes_S4x8x2048x256_S4x2048x8x256_0_2_1_3) shapeCasts_S4x2048x8x256_S4x2048x2048) (mulf x3 (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf x3)))))) bitsLt_bf16_f32

end Terms

theorem res_eq {F : FTy → Type} [FloatOps F] (m : (ℓ : Loc nD τ sig) → Buf (Elt F) ℓ) (c : Dev nD) :
    res_main_v61 m c = result (m ((c.tc : Thread nD τ).loc main_arg3))
      (mixed (m ((c.tc : Thread nD τ).loc main_arg2)) (m ((c.tc : Thread nD τ).loc main_arg6)) (m ((c.tc : Thread nD τ).loc main_arg7))
        (m ((c.tc : Thread nD τ).loc main_arg8)) (m ((c.tc : Thread nD τ).loc main_arg9))
        (probs (scores (m ((c.tc : Thread nD τ).loc main_arg0)) (m ((c.tc : Thread nD τ).loc main_arg1))))) := rfl

open Cert.KernelIdeal.Attn (avg fin coe_sum_range)

theorem ofBits_128 : Ideal.ofBits .f32 0x43000000#32 = ((128 : ℝ) : EReal) := by
  simp [Ideal.ofBits, Ideal.ieee, ← EReal.coe_mul]; norm_num

theorem ofBits_two : Ideal.ofBits .f32 0x40000000#32 = ((2 : ℝ) : EReal) := by
  simp [Ideal.ofBits, Ideal.ieee, ← EReal.coe_mul]; norm_num

theorem ofBits_half : Ideal.ofBits .f32 0x3F000000#32 = ((1 / 2 : ℝ) : EReal) := by
  simp [Ideal.ofBits, Ideal.ieee, ← EReal.coe_mul]; norm_num

/-- The number the mixing starts from. -/
theorem ofBits_lam : Ideal.ofBits .f32 0x3EB60549#32 = (((Ideal.ofBits .f32 0x3EB60549#32).toReal : ℝ) : EReal) := by
  simp [Ideal.ofBits, Ideal.ieee, ← EReal.coe_mul]

theorem ofBits_bot : Ideal.ofBits .f32 0xFF800000#32 = ⊥ := by
  simp [Ideal.ofBits, Ideal.ieee]

theorem peak_drop (b : Fin 4) (h : Fin 8) (j : Fin 2) (r c : Fin 2048) :
    reducesTo_S4x8x2x2048x2048_S4x8x2x2048_d4.drop (ix5 b h j r c) = ix4 b h j r := by
  funext a
  fin_cases a
  · exact Fin.ext (Shape.ReducesTo.drop_apply_val_of_eq reducesTo_S4x8x2x2048x2048_S4x8x2x2048_d4 (ix5 b h j r c) 0 0)
  · exact Fin.ext (Shape.ReducesTo.drop_apply_val_of_eq reducesTo_S4x8x2x2048x2048_S4x8x2x2048_d4 (ix5 b h j r c) 1 1)
  · exact Fin.ext (Shape.ReducesTo.drop_apply_val_of_eq reducesTo_S4x8x2x2048x2048_S4x8x2x2048_d4 (ix5 b h j r c) 2 2)
  · exact Fin.ext (Shape.ReducesTo.drop_apply_val_of_eq reducesTo_S4x8x2x2048x2048_S4x8x2x2048_d4 (ix5 b h j r c) 3 3)

theorem peak_real (s : FVec Ideal S4x8x2x2048x2048 .f32) (hs : ∀ i, s i ≠ (⊤ : EReal)) (b : Fin 4) (h : Fin 8) (j : Fin 2) (r : Fin 2048)
    (c : Fin 2048) (hc : s (ix5 b h j r c) ≠ (⊥ : EReal)) : ∃ μ : ℝ, peak s (ix4 b h j r) = ((μ : ℝ) : EReal) := by
  have e := Host.reduce_eq_fold (max : EReal → EReal → EReal) s (fun _ => (⊥ : EReal)) reducesTo_S4x8x2x2048x2048_S4x8x2x2048_d4 h_S_ (ix4 b h j r)
  have hp : peak s = Host.reduce (max : EReal → EReal → EReal) s (fun _ => (⊥ : EReal)) reducesTo_S4x8x2x2048x2048_S4x8x2x2048_d4 h_S_ := by
    unfold peak
    rw [show (constant (F := Ideal) S_ .f32 0xFF800000#32) = fun _ => (⊥ : EReal) from funext fun _ => ofBits_bot]
    rfl
  rw [hp, e]
  refine ⟨_, (EReal.coe_toReal (ne_of_lt ((Finset.fold_max_lt _).2 ⟨bot_lt_top, fun i _ => lt_top_iff_ne_top.2 (hs i)⟩))
    (ne_of_gt ((Finset.lt_fold_max _).2 (.inr ⟨ix5 b h j r c, ?_, bot_lt_iff_ne_bot.2 hc⟩)))).symm⟩
  exact Finset.mem_filter.2 ⟨Finset.mem_univ _, peak_drop b h j r c⟩

theorem spread_read (t : FVec Ideal S4x8x2x2048 .f32) (b : Fin 4) (h : Fin 8) (j : Fin 2) (r c : Fin 2048) :
    spread t (ix5 b h j r c) = max (Ideal.ofBits .f32 0xFF800000#32) (t (ix4 b h j r)) := by
  pointwise [spread]

theorem most_read (s : FVec Ideal S4x8x2x2048x2048 .f32) (b : Fin 4) (h : Fin 8) (j : Fin 2) (r c : Fin 2048) :
    most s (ix5 b h j r c) = max (Ideal.ofBits .f32 0xFF800000#32) (peak s (ix4 b h j r)) := by
  exact spread_read (peak s) b h j r c

theorem probs_read (s : FVec Ideal S4x8x2x2048x2048 .f32) (b : Fin 4) (h : Fin 8) (j : Fin 2) (r c : Fin 2048) :
    probs s (ix5 b h j r c) = Ideal.div (Ideal.exp (s (ix5 b h j r c) - most s (ix5 b h j r c))) (∑ x : Fin 2048, Ideal.exp (s (ix5 b h j r x) - most s (ix5 b h j r x))) := by
  pointwise [probs]

theorem lam_read  (x6 x7 x8 x9 : FVec Ideal S128 .f32)  : lam x6 x7 x8 x9 ix0
    = Ideal.exp (∑ x : Fin 128, x6 (ix1 x) * x7 (ix1 x)) - Ideal.exp (∑ x : Fin 128, x8 (ix1 x) * x9 (ix1 x)) + Ideal.ofBits .f32 0x3EB60549#32 := by
  pointwise [lam]

theorem mixed_read (x2 : FVec Ideal S4x2048x2048 .f32) (x6 x7 x8 x9 : FVec Ideal S128 .f32) (p : FVec Ideal S4x8x2x2048x2048 .f32) (b : Fin 4) (h : Fin 8) (r : Fin 2048) (d : Fin 256) :
    mixed x2 x6 x7 x8 x9 p (ix4 b h r d)
      = ∑ x : Fin 2048, (p (ix5 b h 0 r x) - lam x6 x7 x8 x9 ix0 * p (ix5 b h 1 r x)) * x2 (ix3 b x (⟨h.val * 256 + d.val, by omega⟩ : Fin 2048)) := by
  pointwise [mixed]

/-- A row's scores `S` as far as place `r`, minus infinity after: their softmax, whatever number is taken off first. -/
theorem softmax_row {n : ℕ} (s t : Fin n → EReal) (S : ℕ → ℝ) (r : Fin n) (hs : ∀ k, s k = if k.val ≤ r.val then ((S k.val : ℝ) : EReal) else ⊥)
    (W : ℕ → ℝ) (hW : ∀ c, W c = if c ≤ r.val then Real.exp (S c) else 0) (μ : ℝ) (ht : ∀ k, t k = ((μ : ℝ) : EReal)) (k : Fin n) :
    Ideal.div (Ideal.exp (s k - t k)) (∑ x, Ideal.exp (s x - t x)) = ((W k.val / ∑ c ∈ Finset.range n, W c : ℝ) : EReal) := by
  have he : ∀ x : Fin n, Ideal.exp (s x - t x) = ((W x.val * Real.exp (-μ) : ℝ) : EReal) := fun x => by
    rw [hs, hW, ht]; split
    · rw [← EReal.coe_sub, Ideal.exp_coe, ← Real.exp_add, sub_eq_add_neg]
    · rw [EReal.bot_sub, Ideal.exp_bot, zero_mul, EReal.coe_zero]
  have hp : 0 < ∑ c ∈ Finset.range n, W c := by
    refine Finset.sum_pos' (fun c _ => ?_) ⟨r.val, Finset.mem_range.2 r.isLt, ?_⟩
    · rw [hW]; split
      · exact (Real.exp_pos _).le
      · exact le_rfl
    · rw [hW, if_pos le_rfl]; exact Real.exp_pos _
  simp only [he]
  rw [coe_sum_range n fun c => W c * Real.exp (-μ), ← Finset.sum_mul, Ideal.div_coe (mul_pos hp (Real.exp_pos _)).ne', ← EReal.coe_mul]
  congr 1
  have := (Real.exp_pos (-μ)).ne'
  field_simp

/-- Two softmaxes mixed, over the values: the averages mixed. -/
theorem mix_row {n : ℕ} (W₀ W₁ v : ℕ → ℝ) (l : ℝ) (p₀ p₁ x : Fin n → EReal) (h₀ : ∀ c, p₀ c = ((W₀ c.val / ∑ c ∈ Finset.range n, W₀ c : ℝ) : EReal))
    (h₁ : ∀ c, p₁ c = ((W₁ c.val / ∑ c ∈ Finset.range n, W₁ c : ℝ) : EReal)) (hx : ∀ c, x c = ((v c.val : ℝ) : EReal)) :
    ∑ c, (p₀ c - ((l : ℝ) : EReal) * p₁ c) * x c = ((avg W₀ v n - l * avg W₁ v n : ℝ) : EReal) := by
  simp only [h₀, h₁, hx, ← EReal.coe_mul, ← EReal.coe_sub]
  rw [coe_sum_range n fun c => (W₀ c / (∑ c ∈ Finset.range n, W₀ c) - l * (W₁ c / ∑ c ∈ Finset.range n, W₁ c)) * v c]
  unfold avg
  rw [Finset.sum_div, Finset.sum_div, Finset.mul_sum, ← Finset.sum_sub_distrib]
  refine congrArg _ (Finset.sum_congr rfl fun c _ => ?_)
  ring

variable (x0 x1 x2 x3 : FVec Ideal S4x2048x2048 .f32) (x6 x7 x8 x9 : FVec Ideal S128 .f32)

/-- The score of query `r` and key `c` in the half head whose columns start at `j`. -/
def score (q k : ℕ → ℕ → ℝ) (j r c : ℕ) : ℝ := (∑ e ∈ Finset.range 128, q r (j + e) * k c (j + e)) * (1 / Real.sqrt 128)

/-- Its weight, nothing after the query's own place. -/
def weight (q k : ℕ → ℕ → ℝ) (j r c : ℕ) : ℝ := if c ≤ r then Real.exp (score q k j r c) else 0

section Values

variable {x0 x1 x2} (b : Fin 4) (q k v : ℕ → ℕ → ℝ)
  (hq : ∀ r d : Fin 2048, x0 (ix3 b r d) = ((q r.val d.val : ℝ) : EReal)) (hk : ∀ r d : Fin 2048, x1 (ix3 b r d) = ((k r.val d.val : ℝ) : EReal))
  (hv : ∀ r d : Fin 2048, x2 (ix3 b r d) = ((v r.val d.val : ℝ) : EReal))

include hq hk in
theorem scores_apply (h : Fin 8) (j : Fin 2) (r c : Fin 2048) :
    scores x0 x1 (ix5 b h j r c) = if c.val ≤ r.val then ((score q k (h.val * 256 + j.val * 128) r.val c.val : ℝ) : EReal) else ⊥ := by
  have e : (id (constant (F := Ideal) S_ FTy.f32 0xFF800000#32) ix0 : EReal) = ⊥ := ofBits_bot
  have hp : Ideal.div 1 (Ideal.sqrt (Ideal.ofBits FTy.f32 0x43000000#32)) = ((1 / Real.sqrt 128 : ℝ) : EReal) := by
    rw [ofBits_128, Ideal.sqrt_coe, if_neg (by norm_num), Ideal.div_coe (by positivity), one_mul]
  pointwise [scores]
  rw [hp, e]
  simp only [hq, hk, ← EReal.coe_mul]
  rw [coe_sum_range 128 fun e => q r.val (h.val * 256 + j.val * 128 + e) * k c.val (h.val * 256 + j.val * 128 + e), ← EReal.coe_mul]
  have hi : IntOp.cmpi .sle (BitVec.ofNat 32 c.val) (BitVec.ofNat 32 r.val) = 1#1 ↔ c.val ≤ r.val :=
    WordCmp.cmpi_sle_ofNat_eq_one_iff (w := 32) (by omega) (by omega)
  unfold Scalar.select
  exact if_congr hi rfl rfl

include hq hk in
theorem probs_apply (hT : ∀ i, scores x0 x1 i ≠ (⊤ : EReal)) (h : Fin 8) (j : Fin 2) (o : ℕ) (ho : h.val * 256 + j.val * 128 = o) (r c : Fin 2048) :
    probs (scores x0 x1) (ix5 b h j r c) = ((weight q k o r.val c.val / ∑ c ∈ Finset.range 2048, weight q k o r.val c : ℝ) : EReal) := by
  have hs : ∀ c : Fin 2048, scores x0 x1 (ix5 b h j r c) = if c.val ≤ r.val then ((score q k o r.val c.val : ℝ) : EReal) else ⊥ := fun c => by
    rw [← ho]; exact scores_apply b q k hq hk h j r c
  have hW : ∀ c, weight q k o r.val c = if c ≤ r.val then Real.exp (score q k o r.val c) else 0 := fun c => rfl
  have hr : scores x0 x1 (ix5 b h j r r) ≠ (⊥ : EReal) := by
    rw [hs, if_pos le_rfl]; exact EReal.coe_ne_bot _
  generalize weight q k o r.val = W at hW ⊢
  generalize scores x0 x1 = s at hs hT hr ⊢
  obtain ⟨μ, hμ⟩ := peak_real s hT b h j r r hr
  rw [probs_read]
  exact softmax_row (fun c => s (ix5 b h j r c)) (fun c => most s (ix5 b h j r c)) (score q k o r.val) r hs W hW μ (fun c => by
    rw [most_read, ofBits_bot, hμ]; exact max_eq_right bot_le) c

/-- What the mixed heads hold. -/
def attn (l : ℝ) (h r d : ℕ) : ℝ :=
  avg (weight q k (h * 256) r) (fun c => v c (h * 256 + d)) 2048 - l * avg (weight q k (h * 256 + 128) r) (fun c => v c (h * 256 + d)) 2048

include hq hk hv in
theorem mixed_apply (hT : ∀ i, scores x0 x1 i ≠ (⊤ : EReal)) (l : ℝ) (hl : lam x6 x7 x8 x9 ix0 = ((l : ℝ) : EReal)) (h : Fin 8) (r : Fin 2048) (d : Fin 256) :
    mixed x2 x6 x7 x8 x9 (probs (scores x0 x1)) (ix4 b h r d) = ((attn q k v l h.val r.val d.val : ℝ) : EReal) := by
  have h₀ := probs_apply b q k hq hk hT h 0 (h.val * 256) (by simp) r
  have h₁ := probs_apply b q k hq hk hT h 1 (h.val * 256 + 128) (by simp) r
  unfold attn
  generalize weight q k (h.val * 256) r.val = W₀ at h₀ ⊢
  generalize weight q k (h.val * 256 + 128) r.val = W₁ at h₁ ⊢
  generalize probs (scores x0 x1) = p at h₀ h₁ ⊢
  rw [mixed_read, hl]
  exact mix_row W₀ W₁ (fun c => v c (h.val * 256 + d.val)) l _ _ _ h₀ h₁ (fun c => hv c ⟨h.val * 256 + d.val, by omega⟩)

end Values

theorem result_apply (o : FVec Ideal S4x8x2048x256 .f32) (b : Fin 4) (h : Fin 8) (r : Fin 2048) (d : Fin 256) (w : ℕ → ℝ)
    (hw : ∀ d : Fin 256, o (ix4 b h r d) = ((w d.val : ℝ) : EReal)) (g : ℝ) (hg : x3 (ix3 b r (⟨256 * h.val + d.val, by omega⟩ : Fin 2048)) = ((g : ℝ) : EReal)) :
    result x3 o (ix3 b r (⟨256 * h.val + d.val, by omega⟩ : Fin 2048)) = fin w d.val ((g * (1 / (1 + Real.exp (-g))) : ℝ) : EReal) := by
  pointwise [result]
  simp only [hw, ← EReal.coe_mul]
  rw [coe_sum_range 256 fun x => w x * w x, hg, ← EReal.coe_neg, Ideal.exp_coe, ← EReal.coe_one, ← EReal.coe_add,
    Ideal.div_coe (by positivity), EReal.coe_one, one_mul, ← EReal.coe_mul]
  rfl

end Cert.ReferenceIdeal.Attn

end
-- ==== Proof.KernelIdeal.Final.lean ====
/- The result array over the reals: the reference's own term over the arguments. -/
module

public import proofs.«01_k».proof.Defs
public import proofs.«01_k».proof.Pre_finite
public import Idealize.ShloMosaic.Lib.ReduceAll
public import proofs.«01_k».proof.Proof.KernelIdeal.Host
public import proofs.«01_k».proof.Proof.KernelIdeal.Exact
public import proofs.«01_k».proof.Proof.ReferenceIdeal.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.ReferenceIdeal.Attn (score weight attn lam mixed probs scores result ofBits_128 ofBits_two ofBits_half ofBits_lam lam_read scores_apply mixed_apply result_apply)

/-- Every entry of `x` is a real number. -/
def Real' {s : Shape} (x : s.Idx → EReal) : Prop := ∀ i, x i ≠ ⊤ ∧ x i ≠ ⊥

/-- The entries of batch `b` as real numbers. -/
def val (x : S4x2048x2048.Idx → EReal) (b : Fin 4) (r d : ℕ) : ℝ :=
  if h : r < 2048 ∧ d < 2048 then (x (ix3 b (⟨r, h.1⟩ : Fin 2048) (⟨d, h.2⟩ : Fin 2048))).toReal else 0

theorem val_eq {x : S4x2048x2048.Idx → EReal} (hx : Real' x) (b : Fin 4) (r d : Fin 2048) : x (ix3 b r d) = ((val x b r.val d.val : ℝ) : EReal) := by
  unfold val
  rw [dif_pos ⟨r.isLt, d.isLt⟩]
  exact (EReal.coe_toReal (hx _).1 (hx _).2).symm

/-- The number the queries are multiplied by. -/
def scale : ℝ := 1 / (Real.sqrt 128 * Real.log 2)

theorem scale_word (x : EReal) : Ideal.div x (Ideal.sqrt (Ideal.ofBits FTy.f32 0x43000000#32) * Ideal.log (Ideal.ofBits FTy.f32 0x40000000#32)) = x * ((scale : ℝ) : EReal) := by
  have h2 : 0 < Real.log 2 := Real.log_pos one_lt_two
  rw [ofBits_128, ofBits_two, Ideal.sqrt_coe, if_neg (by norm_num), Ideal.log_coe, if_neg (by norm_num), ← EReal.coe_mul, Ideal.div_coe (by positivity)]
  rfl

/-- The two ways of writing the gate. -/
theorem gate_eq (g : ℝ) : 1 / 2 * g + 1 / 2 * g * Real.tanh (1 / 2 * g) = g * (1 / (1 + Real.exp (-g))) := by
  have hx := Real.exp_pos (1 / 2 * g)
  have hy := Real.exp_pos (-(1 / 2 * g))
  have e : Real.exp (-g) = Real.exp (-(1 / 2 * g)) * Real.exp (-(1 / 2 * g)) := by rw [← Real.exp_add]; ring_nf
  have e1 : Real.exp (1 / 2 * g) * Real.exp (-(1 / 2 * g)) = 1 := by rw [← Real.exp_add]; simp
  rw [Real.tanh_eq_sinh_div_cosh, Real.sinh_eq, Real.cosh_eq, e]
  generalize Real.exp (1 / 2 * g) = a at *
  generalize Real.exp (-(1 / 2 * g)) = b at *
  have h1 : a + b ≠ 0 := by positivity
  have h2 : 1 + b * b ≠ 0 := by positivity
  field_simp
  have : a * (b * b) = b := by rw [← mul_assoc, e1, one_mul]
  linear_combination g * (2 * this)

/-- The weights over a tile's rows are the reference's. -/
theorem wt_weight (q k : ℕ → ℕ → ℝ) (n h j r c : ℕ) :
    wt (fun r d => q (512 * n + r) (256 * h + d) * scale) (fun r d => k r (256 * h + d)) n j r c = weight q k (h * 256 + j) (512 * n + r) c := by
  unfold wt weight dot Cert.ReferenceIdeal.Attn.score
  split
  · rw [Real.rpow_def_of_pos two_pos]
    have h2 : Real.log 2 ≠ 0 := (Real.log_pos one_lt_two).ne'
    have h3 : Real.sqrt 128 ≠ 0 := by positivity
    have e : ∀ x, 256 * h + (j + x) = h * 256 + j + x := fun x => by ring
    simp only [e]
    rw [Finset.mul_sum, Finset.sum_mul]
    refine congrArg _ (Finset.sum_congr rfl fun x _ => ?_)
    unfold scale
    field_simp
  · rfl

theorem row_attn (q k v : ℕ → ℕ → ℝ) (n h r d : ℕ) (l : ℝ) (hr : r < 512) (hn : n < 4) :
    row (fun r d => q (512 * n + r) (256 * h + d) * scale) (fun r d => k r (256 * h + d)) (fun r d => v r (256 * h + d)) n r l d
      = attn q k v l h (512 * n + r) d := by
  have e : ∀ j, avg (wt (fun r d => q (512 * n + r) (256 * h + d) * scale) (fun r d => k r (256 * h + d)) n j r) (fun c => v c (256 * h + d)) (512 * n + 512)
      = avg (weight q k (h * 256 + j) (512 * n + r)) (fun c => v c (h * 256 + d)) 2048 := fun j => by
    rw [show wt (fun r d => q (512 * n + r) (256 * h + d) * scale) (fun r d => k r (256 * h + d)) n j r = weight q k (h * 256 + j) (512 * n + r) from
      funext fun c => wt_weight q k n h j r c, mul_comm 256 h]
    refine (avg_more _ _ (by omega) fun c hc => ?_).symm
    unfold weight
    rw [if_neg (by omega)]
  unfold row attn
  rw [e 0, e 128]
  rfl

theorem dot_real (x y : S128.Idx → EReal) (hx : Real' x) (hy : Real' y) : ∃ s : ℝ, ∑ i : Fin 128, x (ix1 i) * y (ix1 i) = ((s : ℝ) : EReal) := by
  refine ⟨∑ i : Fin 128, (x (ix1 i)).toReal * (y (ix1 i)).toReal, ?_⟩
  rw [← coe_sum fun i : Fin 128 => (x (ix1 i)).toReal * (y (ix1 i)).toReal]
  refine Finset.sum_congr rfl fun i _ => ?_
  rw [EReal.coe_mul, EReal.coe_toReal (hx _).1 (hx _).2, EReal.coe_toReal (hy _).1 (hy _).2]

theorem lam_real (x6 x7 x8 x9 : FVec Ideal S128 .f32) (h6 : Real' (s := S128) x6) (h7 : Real' (s := S128) x7) (h8 : Real' (s := S128) x8) (h9 : Real' (s := S128) x9) :
    ∃ l : ℝ, lam x6 x7 x8 x9 ix0 = ((l : ℝ) : EReal) := by
  obtain ⟨a, ha⟩ := dot_real x6 x7 h6 h7
  obtain ⟨b, hb⟩ := dot_real x8 x9 h8 h9
  rw [lam_read, ha, hb, ofBits_lam, Ideal.exp_coe, Ideal.exp_coe, ← EReal.coe_sub, ← EReal.coe_add]
  exact ⟨_, rfl⟩

/-- The reference's term over the arguments. -/
def goal (x0 x1 x2 x3 : FVec Ideal S4x2048x2048 .f32) (x6 x7 x8 x9 : FVec Ideal S128 .f32) : FVec Ideal S4x2048x2048 .bf16 :=
  result x3 (mixed x2 x6 x7 x8 x9 (probs (scores x0 x1)))

theorem scores_top (x0 x1 : FVec Ideal S4x2048x2048 .f32) (h0 : Real' (s := S4x2048x2048) x0) (h1 : Real' (s := S4x2048x2048) x1) (i) : scores x0 x1 i ≠ (⊤ : EReal) := by
  idx_vars i
  rw [scores_apply _ _ _ (val_eq h0 _) (val_eq h1 _)]
  split
  · exact EReal.coe_ne_top _
  · exact bot_ne_top

theorem goal_apply (x0 x1 x2 x3 : FVec Ideal S4x2048x2048 .f32) (x6 x7 x8 x9 : FVec Ideal S128 .f32) (h0 : Real' (s := S4x2048x2048) x0) (h1 : Real' (s := S4x2048x2048) x1)
    (h2 : Real' (s := S4x2048x2048) x2) (h3 : Real' (s := S4x2048x2048) x3) (l : ℝ) (hl : lam x6 x7 x8 x9 ix0 = ((l : ℝ) : EReal)) (b : Fin 4) (h : Fin 8) (r : Fin 2048) (d : Fin 256) (g : ℝ)
    (hg : val x3 b r.val (256 * h.val + d.val) = g) :
    goal x0 x1 x2 x3 x6 x7 x8 x9 (ix3 b r (⟨256 * h.val + d.val, by omega⟩ : Fin 2048))
      = fin (attn (val x0 b) (val x1 b) (val x2 b) l h.val r.val) d.val ((g * (1 / (1 + Real.exp (-g))) : ℝ) : EReal) := by
  subst hg
  exact result_apply x3 _ b h r d _ (fun d => mixed_apply x6 x7 x8 x9 b _ _ _ (val_eq h0 b) (val_eq h1 b) (val_eq h2 b) (scores_top x0 x1 h0 h1) l hl h r d) _
    (val_eq h3 b r ⟨256 * h.val + d.val, by omega⟩)

variable (m : (ℓ : Loc nD τ sig) → Buf (Elt Ideal) ℓ) (c : Dev nD)

/-- Where a tile's element lies in the array. -/
theorem spot (t : Fin cfg0.N) (r : Fin 512) (d : Fin 256) :
    (ix3 (pb t) (⟨512 * (pq t).val + r.val, by omega⟩ : Fin 2048) (⟨256 * (ph t).val + d.val, by omega⟩ : Fin 2048) : S4x2048x2048.Idx)
      = (win0_7.blk t).view.emb (ix3 (0 : Fin 1) r d) := by
  blk_ext [idx t, pb, pq, ph]

/-- The reference's term over this device's arguments. -/
def want : FVec Ideal S4x2048x2048 .bf16 :=
  goal (m (c, Proc.tc.devRef main_arg0)) (m (c, Proc.tc.devRef main_arg1)) (m (c, Proc.tc.devRef main_arg2)) (m (c, Proc.tc.devRef main_arg3))
    (m (c, Proc.tc.devRef main_arg6)) (m (c, Proc.tc.devRef main_arg7)) (m (c, Proc.tc.devRef main_arg8)) (m (c, Proc.tc.devRef main_arg9))

section Point

variable (h0 : Real' (s := S4x2048x2048) (m (c, Proc.tc.devRef main_arg0))) (h1 : Real' (s := S4x2048x2048) (m (c, Proc.tc.devRef main_arg1)))
  (h2 : Real' (s := S4x2048x2048) (m (c, Proc.tc.devRef main_arg2))) (h3 : Real' (s := S4x2048x2048) (m (c, Proc.tc.devRef main_arg3)))
  (h6 : Real' (s := S128) (m (c, Proc.tc.devRef main_arg6))) (h7 : Real' (s := S128) (m (c, Proc.tc.devRef main_arg7)))
  (h8 : Real' (s := S128) (m (c, Proc.tc.devRef main_arg8))) (h9 : Real' (s := S128) (m (c, Proc.tc.devRef main_arg9)))

include h0 h1 h2 h3 h6 h7 h8 h9

theorem point (t : Fin cfg0.N) (r : Fin 512) (d : Fin 256) :
    left m c t (ix3 (0 : Fin 1) r d) = want m c (ix3 (pb t) (⟨512 * (pq t).val + r.val, by omega⟩ : Fin 2048) (⟨256 * (ph t).val + d.val, by omega⟩ : Fin 2048)) := by
  obtain ⟨l, hl⟩ := lam_real (m (c, Proc.tc.devRef main_arg6)) (m (c, Proc.tc.devRef main_arg7)) (m (c, Proc.tc.devRef main_arg8)) (m (c, Proc.tc.devRef main_arg9)) h6 h7 h8 h9
  have hQ : ∀ (r : Fin 512) (d : Fin 256), iblk m c 1 t (ix3 (0 : Fin 1) r d)
      = ((val (m (c, Proc.tc.devRef main_arg0)) (pb t) (512 * (pq t).val + r.val) (256 * (ph t).val + d.val) * scale : ℝ) : EReal) := fun r d => by
    rw [blk_q]
    refine (proj_q m c (pb t) ⟨512 * (pq t).val + r.val, by omega⟩ ⟨256 * (ph t).val + d.val, by omega⟩).trans ?_
    rw [scale_word, val_eq h0, EReal.coe_mul]
  have hK : ∀ (r : Fin 2048) (d : Fin 256), iblk m c 3 t (ix3 (0 : Fin 1) r d)
      = ((val (m (c, Proc.tc.devRef main_arg1)) (pb t) r.val (256 * (ph t).val + d.val) : ℝ) : EReal) := fun r d => by
    rw [blk_k]
    exact (proj_k m c (pb t) r ⟨256 * (ph t).val + d.val, by omega⟩).trans (val_eq h1 _ _ _)
  have hV : ∀ (r : Fin 2048) (d : Fin 256), iblk m c 4 t (ix3 (0 : Fin 1) r d)
      = ((val (m (c, Proc.tc.devRef main_arg2)) (pb t) r.val (256 * (ph t).val + d.val) : ℝ) : EReal) := fun r d => by
    rw [blk_v]
    exact (proj_v m c (pb t) r ⟨256 * (ph t).val + d.val, by omega⟩).trans (val_eq h2 _ _ _)
  have hT : ∀ (r : Fin 512) (d : Fin 256), iblk m c 6 t (ix2 r d) = (((if d.val ≤ r.val then 1 else 0 : ℝ)) : EReal) := fun r d => by
    rw [blk_t]; exact tri_eq m c r d
  have hb : iblk m c 0 t (ix1 (0 : Fin 1)) ≠ (⊥ : EReal) := by
    rw [blk_b]; exact bound_ne m c
  have hL : mixing (F := Ideal) (iblk m c 5 t) (ix2 (0 : Fin 1) (0 : Fin 1)) = ((l : ℝ) : EReal) := by
    rw [← hl, lam_read, mixing_apply]
    have e : ∀ (i : Fin 4) (x : Fin 128), iblk m c 5 t (ix2 i x) = V m c main_v16 (ix2 i x) := fun i x => blk_l m c t i x
    have e0 : ∀ x : Fin 128, iblk m c 5 t (ix2 (0 : Fin 4) x) = _ := fun x => (e 0 x).trans (lam_row0 m c x)
    have e1 : ∀ x : Fin 128, iblk m c 5 t (ix2 (1 : Fin 4) x) = _ := fun x => (e 1 x).trans (lam_row1 m c x)
    have e2 : ∀ x : Fin 128, iblk m c 5 t (ix2 (2 : Fin 4) x) = _ := fun x => (e 2 x).trans (lam_row2 m c x)
    have e3 : ∀ x : Fin 128, iblk m c 5 t (ix2 (3 : Fin 4) x) = _ := fun x => (e 3 x).trans (lam_row3 m c x)
    simp only [e0, e1, e2, e3]
  have hG : iblk m c 2 t (ix3 (0 : Fin 1) r d)
      = ((val (m (c, Proc.tc.devRef main_arg3)) (pb t) (512 * (pq t).val + r.val) (256 * (ph t).val + d.val)
        * (1 / (1 + Real.exp (-val (m (c, Proc.tc.devRef main_arg3)) (pb t) (512 * (pq t).val + r.val) (256 * (ph t).val + d.val)))) : ℝ) : EReal) := by
    rw [blk_g]
    refine (proj_g m c (pb t) ⟨512 * (pq t).val + r.val, by omega⟩ ⟨256 * (ph t).val + d.val, by omega⟩).trans ?_
    rw [ofBits_half, val_eq h3, ← EReal.coe_mul, Ideal.tanh_coe, ← EReal.coe_mul, ← EReal.coe_add]
    exact congrArg _ (gate_eq _)
  unfold want left
  refine (out_value
    (fun r d => val (m (c, Proc.tc.devRef main_arg0)) (pb t) (512 * (pq t).val + r) (256 * (ph t).val + d) * scale)
    (fun r d => val (m (c, Proc.tc.devRef main_arg1)) (pb t) r (256 * (ph t).val + d))
    (fun r d => val (m (c, Proc.tc.devRef main_arg2)) (pb t) r (256 * (ph t).val + d)) c (grid0.coords t) _ _ _ _ _ _ _ _ _ _ _ _ _ _ _ _ _ _ _ _ _ _ _ _ _ _ _ _ _ _ _ _ _ _ _ hQ hK hV hT hb l hL _ r d).trans ?_
  rw [hG, goal_apply _ _ _ _ _ _ _ _ h0 h1 h2 h3 l hl (pb t) (ph t) _ d _ rfl]
  refine congrArg (fun z => fin z d.val _) (funext fun d => ?_)
  exact row_attn _ _ _ (pq t).val (ph t).val r.val d l r.isLt (pq t).isLt

theorem place (t : Fin cfg0.N) (y : S1x512x256.Idx) : left m c t y = want m c ((win0_7.blk t).view.emb y) := by
  obtain ⟨r, d, rfl⟩ : ∃ (r : Fin 512) (d : Fin 256), y = ix3 (0 : Fin 1) r d := by
    idx_vars y
    obtain rfl : y0 = 0 := Subsingleton.elim _ _
    exact ⟨_, _, rfl⟩
  rw [point m c h0 h1 h2 h3 h6 h7 h8 h9 t r d]
  exact congrArg _ (spot t r d)

/-- The result array after the run. -/
theorem final : (dats m (left m) 0 c).arrAt 7 (cfgs 0).N = want m c := by
  refine (dats m (left m) 0 c).arrAt_eq_of_covers 7 _ (by decide +kernel) fun t _ y => ?_
  blk_simp
  rw [after0_7]
  exact place m c h0 h1 h2 h3 h6 h7 h8 h9 t y

end Point

/-- A number whose absolute value is under plus infinity is a real number. -/
theorem real_of {x : EReal} (e : Ideal.cmp .olt (max x (-x)) (Ideal.ofBits .f32 0x7F800000#32) = 1#1) : x ≠ ⊤ ∧ x ≠ ⊥ := by
  have h : max x (-x) < Ideal.ofBits .f32 0x7F800000#32 := (Ideal.cmp_olt_eq_one _ _).1 e
  have h' := lt_of_lt_of_le h le_top
  refine ⟨fun e => ?_, fun e => ?_⟩ <;> subst e <;> simp at h'

/-- The conjunction over all entries, read back. -/
theorem all_real {s : Shape} {axes : List (Fin s.rank)} (x : FVec Ideal s .f32) (hb : Cert.Pre_finite.S_.BroadcastsInDim s (![] : Fin 0 → Fin s.rank)) (hr : s.ReducesTo axes Cert.Pre_finite.S_)
    (hn : 0 < Cert.Pre_finite.S_.numel)
    (e : Host.reduce IntOp.andi (cmpf .olt (Host.absf x) (broadcastInDim s ![] hb (constant (F := Ideal) Cert.Pre_finite.S_ .f32 0x7F800000#32)))
      (constantI Cert.Pre_finite.S_ 1 1#1) hr hn = fun _ => 1#1) : Real' (s := s) x := fun i =>
  haveI : Subsingleton Cert.Pre_finite.S_.Idx := ⟨fun _ _ => funext fun a => a.elim0⟩
  real_of (Host.reduce_andi_all _ _ hr hn ix0 (congrFun e ix0) i)

theorem fn_real [Cert.Pre_finite.Facts] (x0 x1 x2 x3 : FVec Ideal S4x2048x2048 .f32) (x4 x5 x6 x7 x8 x9 : FVec Ideal S128 .f32)
    (h : (Cert.Pre_finite.fn (F := Ideal) x0 x1 x2 x3 x4 x5 x6 x7 x8 x9).1 = (fun _ => 1#1)
      ∧ (Cert.Pre_finite.fn (F := Ideal) x0 x1 x2 x3 x4 x5 x6 x7 x8 x9).2.1 = (fun _ => 1#1)
      ∧ (Cert.Pre_finite.fn (F := Ideal) x0 x1 x2 x3 x4 x5 x6 x7 x8 x9).2.2.1 = (fun _ => 1#1)
      ∧ (Cert.Pre_finite.fn (F := Ideal) x0 x1 x2 x3 x4 x5 x6 x7 x8 x9).2.2.2.1 = (fun _ => 1#1)
      ∧ (Cert.Pre_finite.fn (F := Ideal) x0 x1 x2 x3 x4 x5 x6 x7 x8 x9).2.2.2.2.1 = (fun _ => 1#1)
      ∧ (Cert.Pre_finite.fn (F := Ideal) x0 x1 x2 x3 x4 x5 x6 x7 x8 x9).2.2.2.2.2.1 = (fun _ => 1#1)
      ∧ (Cert.Pre_finite.fn (F := Ideal) x0 x1 x2 x3 x4 x5 x6 x7 x8 x9).2.2.2.2.2.2.1 = (fun _ => 1#1)
      ∧ (Cert.Pre_finite.fn (F := Ideal) x0 x1 x2 x3 x4 x5 x6 x7 x8 x9).2.2.2.2.2.2.2 = (fun _ => 1#1)) :
    Real' (s := S4x2048x2048) x0 ∧ Real' (s := S4x2048x2048) x1 ∧ Real' (s := S4x2048x2048) x2 ∧ Real' (s := S4x2048x2048) x3
    ∧ Real' (s := S128) x6 ∧ Real' (s := S128) x7 ∧ Real' (s := S128) x8 ∧ Real' (s := S128) x9 := by
  dsimp only [Cert.Pre_finite.fn, Cert.Pre_finite.fn_part1] at h
  obtain ⟨e0, e1, e2, e3, e6, e7, e8, e9⟩ := h
  have hb := Cert.Pre_finite.Facts.bcast_S_S4x2048x2048
  have hr := Cert.Pre_finite.Facts.reducesTo_S4x2048x2048_S_d0_1_2
  have hn := Cert.Pre_finite.Facts.h_S_
  have hb' := Cert.Pre_finite.Facts.bcast_S_S128
  have hr' := Cert.Pre_finite.Facts.reducesTo_S128_S_d0
  exact ⟨all_real x0 hb hr hn e0, all_real x1 hb hr hn e1, all_real x2 hb hr hn e2, all_real x3 hb hr hn e3,
    all_real x6 hb' hr' hn e6, all_real x7 hb' hr' hn e7, all_real x8 hb' hr' hn e8, all_real x9 hb' hr' hn e9⟩

theorem pre_real [Cert.Pre_finite.Facts] (m : (ℓ : Loc nD τ sig) → Buf (Elt Ideal) ℓ) (h : Cert.Pre_KernelIdeal_finite m) (c : Dev nD) :
    Real' (s := S4x2048x2048) (m (c, Proc.tc.devRef main_arg0)) ∧ Real' (s := S4x2048x2048) (m (c, Proc.tc.devRef main_arg1))
    ∧ Real' (s := S4x2048x2048) (m (c, Proc.tc.devRef main_arg2)) ∧ Real' (s := S4x2048x2048) (m (c, Proc.tc.devRef main_arg3))
    ∧ Real' (s := S128) (m (c, Proc.tc.devRef main_arg6)) ∧ Real' (s := S128) (m (c, Proc.tc.devRef main_arg7))
    ∧ Real' (s := S128) (m (c, Proc.tc.devRef main_arg8)) ∧ Real' (s := S128) (m (c, Proc.tc.devRef main_arg9)) :=
  fn_real _ _ _ _ _ _ _ _ _ _ (h c)

/-- The run: the result array is the reference's term over the arguments, the arguments unchanged. -/
theorem run_want [Cert.Pre_finite.Facts] (m : (ℓ : Loc nD τ sig) → Buf (Elt Ideal) ℓ) (ρ : Dev nD → PrngReg) (h : Cert.Pre_KernelIdeal_finite m) :
    θ_run (defs (F := Ideal)) (onTc (τ := τ) (main (F := Ideal))) ⟨m, fun _ => 0, ρ⟩ (fun r => ∀ c : Dev nD,
      r.2.mem ((c.tc : Thread nD τ).loc main_v32) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r hr c => ⟨?_, ?_⟩) (run_exact m ρ)
  · obtain ⟨h0, h1, h2, h3, h6, h7, h8, h9⟩ := pre_real m h c
    exact ((hr c).1 7).trans (final m c h0 h1 h2 h3 h6 h7 h8 h9)
  · exact ⟨((hr c).2 main_arg0 (Pipeline.mem_restRefs_of main_arg0 (by decide) (by decide))).trans (V_main_arg0 m c),
      ((hr c).2 main_arg1 (Pipeline.mem_restRefs_of main_arg1 (by decide) (by decide))).trans (V_main_arg1 m c),
      ((hr c).2 main_arg2 (Pipeline.mem_restRefs_of main_arg2 (by decide) (by decide))).trans (V_main_arg2 m c),
      ((hr c).2 main_arg3 (Pipeline.mem_restRefs_of main_arg3 (by decide) (by decide))).trans (V_main_arg3 m c),
      ((hr c).2 main_arg4 (Pipeline.mem_restRefs_of main_arg4 (by decide) (by decide))).trans (V_main_arg4 m c),
      ((hr c).2 main_arg5 (Pipeline.mem_restRefs_of main_arg5 (by decide) (by decide))).trans (V_main_arg5 m c),
      ((hr c).2 main_arg6 (Pipeline.mem_restRefs_of main_arg6 (by decide) (by decide))).trans (V_main_arg6 m c),
      ((hr c).2 main_arg7 (Pipeline.mem_restRefs_of main_arg7 (by decide) (by decide))).trans (V_main_arg7 m c),
      ((hr c).2 main_arg8 (Pipeline.mem_restRefs_of main_arg8 (by decide) (by decide))).trans (V_main_arg8 m c),
      ((hr c).2 main_arg9 (Pipeline.mem_restRefs_of main_arg9 (by decide) (by decide))).trans (V_main_arg9 m c)⟩

end Cert.KernelIdeal.Attn

end
-- ==== Proof.Kernel2Ideal.Value.lean ====
/- Layer 1's output projection over the reals: the call's result array is the reference's term over the arguments. -/
module

public import proofs.«01_k».proof.Proof.Gen.Kernel2Ideal.Value
public import proofs.«01_k».proof.Proof.Gen.Reference2Ideal.Run
public import Idealize.ShloMosaic.Lib.Claim
public import Idealize.ShloMosaic.Lib.Pipeline.ValueKit
public import Idealize.ShloMosaic.Lib.Pointwise

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic

/-- The reference's term: the residual plus the product, its rows in one axis. -/
def goal (y : FVec Ideal S4x2048x2048 .bf16) (w : FVec Ideal S2048x2048 .f32) (x : FVec Ideal S4x2048x2048 .f32) : FVec Ideal S8192x2048 .f32 :=
  shapeCast _ (addf x (Host.dotGeneral Cert.Reference2Ideal.dot_S4x2048x2048_S2048x2048_S4x2048x2048_2_0_01_1_n_n none
    (extf .f32 y Cert.Reference2Ideal.Gen.bitsLt_bf16_f32) w)) Cert.Reference2Ideal.Gen.shapeCasts_S4x2048x2048_S8192x2048

theorem goal_apply (y : FVec Ideal S4x2048x2048 .bf16) (w : FVec Ideal S2048x2048 .f32) (x : FVec Ideal S4x2048x2048 .f32) (r : Fin 8192) (d : Fin 2048) :
    goal y w x (ix2 r d) = (x (ix3 (⟨r.val / 2048, by omega⟩ : Fin 4) (⟨r.val % 2048, by omega⟩ : Fin 2048) d) : EReal)
      + ∑ e : Fin 2048, y (ix3 (⟨r.val / 2048, by omega⟩ : Fin 4) (⟨r.val % 2048, by omega⟩ : Fin 2048) e) * w (ix2 e d) := by
  pointwise [goal]

theorem pay_apply (x : FVec Ideal S512x2048 .f32) (y : FVec Ideal S512x2048 .bf16) (w : FVec Ideal S2048x2048 .bf16) (r : Fin 512) (d : Fin 2048) :
    k0_pay1 (F := Ideal) x y w (ix2 r d) = (x (ix2 r d) : EReal) + ∑ e : Fin 2048, y (ix2 r e) * w (ix2 e d) := by
  pointwise [k0_pay1]

theorem idx : ∀ t : Fin cfg0.N, win0_0.index t = ![t.val, 0] ∧ win0_1.index t = ![0, 0] ∧ win0_2.index t = ![t.val, 0] ∧ win0_3.index t = ![t.val, 0] ∧ t.val < 16 :=
  (by decide +kernel : ∀ t : Fin grid0.N, _)

variable (m : (ℓ : Loc nD τ sig) → Buf (Elt Ideal) ℓ) (c : Dev nD)

/-- The reference's term over this device's arguments. -/
def want : FVec Ideal S8192x2048 .f32 :=
  goal (m (c, Proc.tc.devRef main_arg0)) (m (c, Proc.tc.devRef main_arg1)) (m (c, Proc.tc.devRef main_arg2))

/-- The two flattened arrays and the weights, as the host hands them over. -/
theorem rows_y (r : Fin 8192) (e : Fin 2048) : V m c main_v0 (ix2 r e)
    = m (c, Proc.tc.devRef main_arg0) (ix3 (⟨r.val / 2048, by omega⟩ : Fin 4) (⟨r.val % 2048, by omega⟩ : Fin 2048) e) := by
  entry_read; pointwise

theorem rows_x (r : Fin 8192) (e : Fin 2048) : V m c main_v2 (ix2 r e)
    = m (c, Proc.tc.devRef main_arg2) (ix3 (⟨r.val / 2048, by omega⟩ : Fin 4) (⟨r.val % 2048, by omega⟩ : Fin 2048) e) := by
  entry_read; pointwise

theorem cols_w (e d : Fin 2048) : V m c main_v1 (ix2 e d) = m (c, Proc.tc.devRef main_arg1) (ix2 e d) := by
  entry_read; pointwise

theorem blk_y (t : Fin cfg0.N) (h : t.val < 16) (r : Fin 512) (e : Fin 2048) : iblk m c 0 t (ix2 r e) = V m c main_v0 (ix2 (⟨512 * t.val + r.val, by omega⟩ : Fin 8192) e) := by
  blk_ext [iblk, idx t]

theorem blk_w (t : Fin cfg0.N) (e d : Fin 2048) : iblk m c 1 t (ix2 e d) = V m c main_v1 (ix2 e d) := by
  blk_ext [iblk, idx t]

theorem blk_x (t : Fin cfg0.N) (h : t.val < 16) (r : Fin 512) (e : Fin 2048) : iblk m c 2 t (ix2 r e) = V m c main_v2 (ix2 (⟨512 * t.val + r.val, by omega⟩ : Fin 8192) e) := by
  blk_ext [iblk, idx t]

/-- What a grid point leaves at an element of its tile. -/
theorem point (t : Fin cfg0.N) (h : t.val < 16) (r : Fin 512) (d : Fin 2048) :
    k0_pay1 (F := Ideal) (iblk m c 2 t) (iblk m c 0 t) (iblk m c 1 t) (ix2 r d) = want m c (ix2 (⟨512 * t.val + r.val, by omega⟩ : Fin 8192) d) := by
  rw [pay_apply, want, goal_apply, blk_x m c t h, rows_x]
  refine congrArg _ (Finset.sum_congr rfl fun e _ => ?_)
  rw [blk_y m c t h, rows_y, blk_w, cols_w]

theorem spot (t : Fin cfg0.N) (h : t.val < 16) (r : Fin 512) (d : Fin 2048) :
    (ix2 (⟨512 * t.val + r.val, by omega⟩ : Fin 8192) d : S8192x2048.Idx) = (win0_3.blk t).view.emb (ix2 r d) := by
  blk_ext [idx t]

theorem place (t : Fin cfg0.N) (y : S512x2048.Idx) :
    k0_pay1 (F := Ideal) (iblk m c 2 t) (iblk m c 0 t) (iblk m c 1 t) y = want m c ((win0_3.blk t).view.emb y) := by
  have h : t.val < 16 := (idx t).2.2.2.2
  obtain ⟨r, d, rfl⟩ : ∃ (r : Fin 512) (d : Fin 2048), y = ix2 r d := ⟨_, _, eq_ix2 y⟩
  rw [point m c t h r d]
  exact congrArg _ (spot t h r d)

/-- The result array after the run. -/
theorem final : (dats m 0 c).arrAt 3 cfg0.N = want m c := by
  refine (dats m 0 c).arrAt_eq_of_covers 3 _ (by decide +kernel) fun t _ y => ?_
  blk_simp
  rw [after0_3]
  frame_out
  exact place m c t y

end Cert.Kernel2Ideal.Proj

end
-- ==== Proof.Kernel3Ideal.Value.lean ====
/- Layer 0's output projection over the reals: two products, one per mixer, are one product over the joined columns. -/
module

public import proofs.«01_k».proof.Proof.Gen.Kernel3Ideal.Value
public import proofs.«01_k».proof.Proof.Gen.Reference3Ideal.Run
public import Idealize.ShloMosaic.Lib.Claim
public import Idealize.ShloMosaic.Lib.Pipeline.ValueKit
public import Idealize.ShloMosaic.Lib.Pointwise

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic

/-- The reference's term: the residual plus the product of the joined mixers, its rows in one axis. -/
def goal (y z : FVec Ideal S4x2048x1024 .bf16) (w : FVec Ideal S2048x2048 .f32) (x : FVec Ideal S4x2048x2048 .f32) : FVec Ideal S8192x2048 .f32 :=
  shapeCast _ (addf x (Host.dotGeneral Cert.Reference3Ideal.dot_S4x2048x2048_S2048x2048_S4x2048x2048_2_0_01_1_n_n none
    (concatenate S4x2048x2048 2 [⟨S4x2048x1024, (extf .f32 y Cert.Reference3Ideal.Gen.bitsLt_bf16_f32)⟩, ⟨S4x2048x1024, (extf .f32 z Cert.Reference3Ideal.Gen.bitsLt_bf16_f32)⟩]
      Cert.Reference3Ideal.Gen.concatenates_S4x2048x1024_S4x2048x1024_S4x2048x2048_d2) w)) Cert.Reference3Ideal.Gen.shapeCasts_S4x2048x2048_S8192x2048

theorem goal_apply (y z : FVec Ideal S4x2048x1024 .bf16) (w : FVec Ideal S2048x2048 .f32) (x : FVec Ideal S4x2048x2048 .f32) (r : Fin 8192) (d : Fin 2048) :
    goal y z w x (ix2 r d) = (x (ix3 (⟨r.val / 2048, by omega⟩ : Fin 4) (⟨r.val % 2048, by omega⟩ : Fin 2048) d) : EReal)
      + (∑ e : Fin 1024, y (ix3 (⟨r.val / 2048, by omega⟩ : Fin 4) (⟨r.val % 2048, by omega⟩ : Fin 2048) e) * w (ix2 (⟨e.val, by omega⟩ : Fin 2048) d)
        + ∑ e : Fin 1024, z (ix3 (⟨r.val / 2048, by omega⟩ : Fin 4) (⟨r.val % 2048, by omega⟩ : Fin 2048) e) * w (ix2 (⟨1024 + e.val, by omega⟩ : Fin 2048) d)) := by
  pointwise [goal]

theorem pay_apply (x : FVec Ideal S512x2048 .f32) (y z : FVec Ideal S512x1024 .bf16) (w v : FVec Ideal S1024x2048 .bf16) (r : Fin 512) (d : Fin 2048) :
    k0_pay1 (F := Ideal) x y w z v (ix2 r d) = (x (ix2 r d) : EReal) + (∑ e : Fin 1024, y (ix2 r e) * w (ix2 e d) + ∑ e : Fin 1024, z (ix2 r e) * v (ix2 e d)) := by
  pointwise [k0_pay1]
  exact add_assoc _ _ _

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ t.val < 16 :=
  (by decide +kernel : ∀ t : Fin grid0.N, _)

variable (m : (ℓ : Loc nD τ sig) → Buf (Elt Ideal) ℓ) (c : Dev nD)

/-- The reference's term over this device's arguments. -/
def want : FVec Ideal S8192x2048 .f32 :=
  goal (m (c, Proc.tc.devRef main_arg0)) (m (c, Proc.tc.devRef main_arg1)) (m (c, Proc.tc.devRef main_arg2)) (m (c, Proc.tc.devRef main_arg3))

/-- The flattened arrays and the two halves of the weights, as the host hands them over. -/
theorem rows_y (r : Fin 8192) (e : Fin 1024) : V m c main_v1 (ix2 r e)
    = m (c, Proc.tc.devRef main_arg0) (ix3 (⟨r.val / 2048, by omega⟩ : Fin 4) (⟨r.val % 2048, by omega⟩ : Fin 2048) e) := by
  entry_read; pointwise

theorem rows_z (r : Fin 8192) (e : Fin 1024) : V m c main_v2 (ix2 r e)
    = m (c, Proc.tc.devRef main_arg1) (ix3 (⟨r.val / 2048, by omega⟩ : Fin 4) (⟨r.val % 2048, by omega⟩ : Fin 2048) e) := by
  entry_read; pointwise

theorem rows_x (r : Fin 8192) (e : Fin 2048) : V m c main_v5 (ix2 r e)
    = m (c, Proc.tc.devRef main_arg3) (ix3 (⟨r.val / 2048, by omega⟩ : Fin 4) (⟨r.val % 2048, by omega⟩ : Fin 2048) e) := by
  entry_read; pointwise

theorem cols_w (e : Fin 1024) (d : Fin 2048) : V m c main_v3 (ix2 e d) = m (c, Proc.tc.devRef main_arg2) (ix2 (⟨e.val, by omega⟩ : Fin 2048) d) := by
  entry_read; pointwise

theorem cols_v (e : Fin 1024) (d : Fin 2048) : V m c main_v4 (ix2 e d) = m (c, Proc.tc.devRef main_arg2) (ix2 (⟨1024 + e.val, by omega⟩ : Fin 2048) d) := by
  entry_read; pointwise

theorem blk_y (t : Fin cfg0.N) (h : t.val < 16) (r : Fin 512) (e : Fin 1024) : iblk m c 0 t (ix2 r e) = V m c main_v1 (ix2 (⟨512 * t.val + r.val, by omega⟩ : Fin 8192) e) := by
  blk_ext [iblk, idx t]

theorem blk_z (t : Fin cfg0.N) (h : t.val < 16) (r : Fin 512) (e : Fin 1024) : iblk m c 1 t (ix2 r e) = V m c main_v2 (ix2 (⟨512 * t.val + r.val, by omega⟩ : Fin 8192) e) := by
  blk_ext [iblk, idx t]

theorem blk_w (t : Fin cfg0.N) (e : Fin 1024) (d : Fin 2048) : iblk m c 2 t (ix2 e d) = V m c main_v3 (ix2 e d) := by
  blk_ext [iblk, idx t]

theorem blk_v (t : Fin cfg0.N) (e : Fin 1024) (d : Fin 2048) : iblk m c 3 t (ix2 e d) = V m c main_v4 (ix2 e d) := by
  blk_ext [iblk, idx t]

theorem blk_x (t : Fin cfg0.N) (h : t.val < 16) (r : Fin 512) (e : Fin 2048) : iblk m c 4 t (ix2 r e) = V m c main_v5 (ix2 (⟨512 * t.val + r.val, by omega⟩ : Fin 8192) e) := by
  blk_ext [iblk, idx t]

/-- What a grid point leaves at an element of its tile. -/
theorem point (t : Fin cfg0.N) (h : t.val < 16) (r : Fin 512) (d : Fin 2048) :
    k0_pay1 (F := Ideal) (iblk m c 4 t) (iblk m c 0 t) (iblk m c 2 t) (iblk m c 1 t) (iblk m c 3 t) (ix2 r d) = want m c (ix2 (⟨512 * t.val + r.val, by omega⟩ : Fin 8192) d) := by
  rw [pay_apply, want, goal_apply, blk_x m c t h, rows_x]
  refine congrArg _ (congrArg₂ _ (Finset.sum_congr rfl fun e _ => ?_) (Finset.sum_congr rfl fun e _ => ?_))
  · rw [blk_y m c t h, rows_y, blk_w, cols_w]
  · rw [blk_z m c t h, rows_z, blk_v, cols_v]

theorem spot (t : Fin cfg0.N) (h : t.val < 16) (r : Fin 512) (d : Fin 2048) :
    (ix2 (⟨512 * t.val + r.val, by omega⟩ : Fin 8192) d : S8192x2048.Idx) = (win0_5.blk t).view.emb (ix2 r d) := by
  blk_ext [idx t]

theorem place (t : Fin cfg0.N) (y : S512x2048.Idx) :
    k0_pay1 (F := Ideal) (iblk m c 4 t) (iblk m c 0 t) (iblk m c 2 t) (iblk m c 1 t) (iblk m c 3 t) y = want m c ((win0_5.blk t).view.emb y) := by
  have h : t.val < 16 := (idx t).2.2.2.2.2.2
  obtain ⟨r, d, rfl⟩ : ∃ (r : Fin 512) (d : Fin 2048), y = ix2 r d := ⟨_, _, eq_ix2 y⟩
  rw [point m c t h r d]
  exact congrArg _ (spot t h r d)

/-- The result array after the run. -/
theorem final : (dats m 0 c).arrAt 5 cfg0.N = want m c := by
  refine (dats m 0 c).arrAt_eq_of_covers 5 _ (by decide +kernel) fun t _ y => ?_
  blk_simp
  rw [after0_5]
  frame_out
  exact place m c t y

end Cert.Kernel3Ideal.Proj

end
-- ==== Proof.Kernel4Ideal.RunE.lean ====
/- The body's run at the points whose columns are gates (the last two column blocks of a row block). -/
module

public import proofs.«01_k».proof.Proof.Gen.Kernel4Ideal.Frame.RunD

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 not taken, `scf.if` 3 not taken, `scf.if` 4 taken: points 6, 7, … 63: 16 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : ¬cond0_2 i) (hc3 : ¬cond0_3 i) (hc4 : cond0_4 i)
    (x0 : Vec F S1024x2048 .f32) (x1 : Vec F S1x2048 .f32) (x2 : Vec F S2048x1024 .bf16) (x3 : Vec F S4x1024x128 .f32) (xs0 : Vec F S1024x2048 .bf16) :
    Σ' (L4 : List (View.Piece (Elt F) S1024x1024 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc0_norm_proj i arg2 harg2 arg3 harg3 arg4 harg4 arg5 harg5 arg6 harg6 arg7 harg7) K } := by
  refine ⟨?_, [], fun E K => ?run⟩
  case run =>
    simp only [cc0_norm_proj_eq_skeleton]; unfold cc0_norm_proj_skel
    rw [k0_part51_eq_skeleton]
    rw [k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.Kernel4Ideal.Gen

end
-- ==== Proof.Kernel4Ideal.Frame.lean ====
/- What the whole-body runs leave, point by point, and the run of the program: case E's run is RunE.lean's. -/
module

public import proofs.«01_k».proof.Proof.Kernel4Ideal.RunE
public import Idealize.ShloMosaic.Lib.Claim

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (32 stores of `S256x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : cond0_0 i) (hc1 : ¬cond0_1 i) (hc2 : ¬cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) (y : S1024x1024.Idx) :
    ∃ pc ∈ (kernelRun0_A c i arg2 harg2 arg3 harg3 arg4 harg4 arg5 harg5 arg6 harg6 arg7 harg7 hc0 hc1 hc2 hc3 hc4 x0 x1 x2 x3).1, y ∈ pc.1.set :=
  View.cover_of_tiledL (kernelRun0_A c i arg2 harg2 arg3 harg3 arg4 harg4 arg5 harg5 arg6 harg6 arg7 harg7 hc0 hc1 hc2 hc3 hc4 x0 x1 x2 x3).1 S256x128.size (by sl_kernel_rfl) y

/-- What case A leaves in output 4's staging buffer: its pieces read back over junk. -/
def out0_A_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : cond0_0 i) (hc1 : ¬cond0_1 i) (hc2 : ¬cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) : Vec F S1024x1024 .bf16 :=
  VO0_4.read (Elt F) (VO0_4.writes (Elt F) VO0_4.junk (kernelRun0_A c i arg2 harg2 arg3 harg3 arg4 harg4 arg5 harg5 arg6 harg6 arg7 harg7 hc0 hc1 hc2 hc3 hc4 x0 x1 x2 x3).1)

/-- Case A's pieces for scratch `arg7`, which the kernel carries between points, cover it: 4 pieces of `S256x2048` tiling it (Lib/Ring.lean `Piece.tiledL`). -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : cond0_0 i) (hc1 : ¬cond0_1 i) (hc2 : ¬cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) (y : S1024x2048.Idx) :
    ∃ pc ∈ (kernelRun0_A c i arg2 harg2 arg3 harg3 arg4 harg4 arg5 harg5 arg6 harg6 arg7 harg7 hc0 hc1 hc2 hc3 hc4 x0 x1 x2 x3).2.1, y ∈ pc.1.set :=
  View.cover_of_tiledL (kernelRun0_A c i arg2 harg2 arg3 harg3 arg4 harg4 arg5 harg5 arg6 harg6 arg7 harg7 hc0 hc1 hc2 hc3 hc4 x0 x1 x2 x3).2.1 S256x2048.size (by sl_kernel_rfl) y

/-- What case A leaves in scratch `arg7`: its pieces read back over junk. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : cond0_0 i) (hc1 : ¬cond0_1 i) (hc2 : ¬cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) : Vec F S1024x2048 .bf16 :=
  VS0_0.read (Elt F) (VS0_0.writes (Elt F) VS0_0.junk (kernelRun0_A c i arg2 harg2 arg3 harg3 arg4 harg4 arg5 harg5 arg6 harg6 arg7 harg7 hc0 hc1 hc2 hc3 hc4 x0 x1 x2 x3).2.1)

/-- Case B's pieces for output 4 tile its block (32 stores of `S256x128`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : cond0_1 i) (hc2 : ¬cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) (xs0 : Vec F S1024x2048 .bf16) (y : S1024x1024.Idx) :
    ∃ pc ∈ (kernelRun0_B c i arg2 harg2 arg3 harg3 arg4 harg4 arg5 harg5 arg6 harg6 arg7 harg7 hc0 hc1 hc2 hc3 hc4 x0 x1 x2 x3 xs0).1, y ∈ pc.1.set :=
  View.cover_of_tiledL (kernelRun0_B c i arg2 harg2 arg3 harg3 arg4 harg4 arg5 harg5 arg6 harg6 arg7 harg7 hc0 hc1 hc2 hc3 hc4 x0 x1 x2 x3 xs0).1 S256x128.size (by sl_kernel_rfl) y

/-- What case B leaves in output 4's staging buffer: its pieces read back over junk. -/
def out0_B_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : cond0_1 i) (hc2 : ¬cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) (xs0 : Vec F S1024x2048 .bf16) : Vec F S1024x1024 .bf16 :=
  VO0_4.read (Elt F) (VO0_4.writes (Elt F) VO0_4.junk (kernelRun0_B c i arg2 harg2 arg3 harg3 arg4 harg4 arg5 harg5 arg6 harg6 arg7 harg7 hc0 hc1 hc2 hc3 hc4 x0 x1 x2 x3 xs0).1)

/-- Case B stores nothing into scratch `arg7`: it holds what the point before left. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : cond0_1 i) (hc2 : ¬cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) (xs0 : Vec F S1024x2048 .bf16) : Vec F S1024x2048 .bf16 := xs0

/-- Case C's pieces for output 4 tile its block (32 stores of `S256x128`, checked by the kernel's evaluation: Lib/Ring.lean `Piece.tiledL`, linear in the pieces, through a loop's `@[irreducible]` trip theorem too), so they cover it. -/
theorem cover0_C_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) (xs0 : Vec F S1024x2048 .bf16) (y : S1024x1024.Idx) :
    ∃ pc ∈ (kernelRun0_C c i arg2 harg2 arg3 harg3 arg4 harg4 arg5 harg5 arg6 harg6 arg7 harg7 hc0 hc1 hc2 hc3 hc4 x0 x1 x2 x3 xs0).1, y ∈ pc.1.set :=
  View.cover_of_tiledL (kernelRun0_C c i arg2 harg2 arg3 harg3 arg4 harg4 arg5 harg5 arg6 harg6 arg7 harg7 hc0 hc1 hc2 hc3 hc4 x0 x1 x2 x3 xs0).1 S256x128.size (by sl_kernel_rfl) y

/-- What case C leaves in output 4's staging buffer: its pieces read back over junk. -/
def out0_C_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) (xs0 : Vec F S1024x2048 .bf16) : Vec F S1024x1024 .bf16 :=
  VO0_4.read (Elt F) (VO0_4.writes (Elt F) VO0_4.junk (kernelRun0_C c i arg2 harg2 arg3 harg3 arg4 harg4 arg5 harg5 arg6 harg6 arg7 harg7 hc0 hc1 hc2 hc3 hc4 x0 x1 x2 x3 xs0).1)

/-- Case C stores nothing into scratch `arg7`: it holds what the point before left. -/
def sout0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : cond0_2 i) (hc3 : ¬cond0_3 i) (hc4 : ¬cond0_4 i)
    (x0 : Vec F S1024x2048 .f32) (x1 : Vec F S1x2048 .f32) (x2 : Vec F S2048x1024 .bf16) (x3 : Vec F S4x1024x128 .f32) (xs0 : Vec F S1024x2048 .bf16) : Vec F S1024x2048 .bf16 := xs0

/-- Case D's pieces for output 4 tile its block (32 stores of `S256x128`, checked by the kernel's evaluation: Lib/Ring.lean `Piece.tiledL`, linear in the pieces, through a loop's `@[irreducible]` trip theorem too), so they cover it. -/
theorem cover0_D_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : ¬cond0_2 i) (hc3 : cond0_3 i) (hc4 : ¬cond0_4 i)
    (x0 : Vec F S1024x2048 .f32) (x1 : Vec F S1x2048 .f32) (x2 : Vec F S2048x1024 .bf16) (x3 : Vec F S4x1024x128 .f32) (xs0 : Vec F S1024x2048 .bf16) (y : S1024x1024.Idx) :
    ∃ pc ∈ (kernelRun0_D c i arg2 harg2 arg3 harg3 arg4 harg4 arg5 harg5 arg6 harg6 arg7 harg7 hc0 hc1 hc2 hc3 hc4 x0 x1 x2 x3 xs0).1, y ∈ pc.1.set :=
  View.cover_of_tiledL (kernelRun0_D c i arg2 harg2 arg3 harg3 arg4 harg4 arg5 harg5 arg6 harg6 arg7 harg7 hc0 hc1 hc2 hc3 hc4 x0 x1 x2 x3 xs0).1 S256x128.size (by sl_kernel_rfl) y

/-- What case D leaves in output 4's staging buffer: its pieces read back over junk. -/
def out0_D_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : ¬cond0_2 i) (hc3 : cond0_3 i) (hc4 : ¬cond0_4 i)
    (x0 : Vec F S1024x2048 .f32) (x1 : Vec F S1x2048 .f32) (x2 : Vec F S2048x1024 .bf16) (x3 : Vec F S4x1024x128 .f32) (xs0 : Vec F S1024x2048 .bf16) : Vec F S1024x1024 .bf16 :=
  VO0_4.read (Elt F) (VO0_4.writes (Elt F) VO0_4.junk (kernelRun0_D c i arg2 harg2 arg3 harg3 arg4 harg4 arg5 harg5 arg6 harg6 arg7 harg7 hc0 hc1 hc2 hc3 hc4 x0 x1 x2 x3 xs0).1)

/-- Case D stores nothing into scratch `arg7`: it holds what the point before left. -/
def sout0_D_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : ¬cond0_2 i) (hc3 : cond0_3 i) (hc4 : ¬cond0_4 i)
    (x0 : Vec F S1024x2048 .f32) (x1 : Vec F S1x2048 .f32) (x2 : Vec F S2048x1024 .bf16) (x3 : Vec F S4x1024x128 .f32) (xs0 : Vec F S1024x2048 .bf16) : Vec F S1024x2048 .bf16 := xs0

/-- Case E's pieces for output 4 tile its block (32 stores of `S256x128`, checked by the kernel's evaluation: Lib/Ring.lean `Piece.tiledL`, linear in the pieces, through a loop's `@[irreducible]` trip theorem too), so they cover it. -/
theorem cover0_E_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : ¬cond0_2 i) (hc3 : ¬cond0_3 i) (hc4 : cond0_4 i)
    (x0 : Vec F S1024x2048 .f32) (x1 : Vec F S1x2048 .f32) (x2 : Vec F S2048x1024 .bf16) (x3 : Vec F S4x1024x128 .f32) (xs0 : Vec F S1024x2048 .bf16) (y : S1024x1024.Idx) :
    ∃ pc ∈ (kernelRun0_E c i arg2 harg2 arg3 harg3 arg4 harg4 arg5 harg5 arg6 harg6 arg7 harg7 hc0 hc1 hc2 hc3 hc4 x0 x1 x2 x3 xs0).1, y ∈ pc.1.set :=
  View.cover_of_tiledL (kernelRun0_E c i arg2 harg2 arg3 harg3 arg4 harg4 arg5 harg5 arg6 harg6 arg7 harg7 hc0 hc1 hc2 hc3 hc4 x0 x1 x2 x3 xs0).1 S256x128.size (by sl_kernel_rfl) y

/-- What case E leaves in output 4's staging buffer: its pieces read back over junk. -/
def out0_E_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : ¬cond0_2 i) (hc3 : ¬cond0_3 i) (hc4 : cond0_4 i)
    (x0 : Vec F S1024x2048 .f32) (x1 : Vec F S1x2048 .f32) (x2 : Vec F S2048x1024 .bf16) (x3 : Vec F S4x1024x128 .f32) (xs0 : Vec F S1024x2048 .bf16) : Vec F S1024x1024 .bf16 :=
  VO0_4.read (Elt F) (VO0_4.writes (Elt F) VO0_4.junk (kernelRun0_E c i arg2 harg2 arg3 harg3 arg4 harg4 arg5 harg5 arg6 harg6 arg7 harg7 hc0 hc1 hc2 hc3 hc4 x0 x1 x2 x3 xs0).1)

/-- Case E stores nothing into scratch `arg7`: it holds what the point before left. -/
def sout0_E_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024x128 .f32) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i) (hc1 : ¬cond0_1 i) (hc2 : ¬cond0_2 i) (hc3 : ¬cond0_3 i) (hc4 : cond0_4 i)
    (x0 : Vec F S1024x2048 .f32) (x1 : Vec F S1x2048 .f32) (x2 : Vec F S2048x1024 .bf16) (x3 : Vec F S4x1024x128 .f32) (xs0 : Vec F S1024x2048 .bf16) : Vec F S1024x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1024 .bf16 × Vec F S1024x2048 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 1 then
        False.elim (by have hN : n + 1 < 64 := lt_of_lt_of_eq hn (show cfg0.N = 64 from N_0); omega)
      else
        if h2 : (2 ≤ (n + 1) % 8 ∧ (n + 1) % 8 ≤ 3) then
          False.elim (by have hN : n + 1 < 64 := lt_of_lt_of_eq hn (show cfg0.N = 64 from N_0); omega)
        else
          if h3 : (4 ≤ (n + 1) % 8 ∧ (n + 1) % 8 ≤ 5) then
            False.elim (by have hN : n + 1 < 64 := lt_of_lt_of_eq hn (show cfg0.N = 64 from N_0); omega)
          else
            if h4 : 6 ≤ (n + 1) % 8 then
              False.elim (by have hN : n + 1 < 64 := lt_of_lt_of_eq hn (show cfg0.N = 64 from N_0); omega)
            else
              (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 1 then
        if h2 : (2 ≤ (n + 1) % 8 ∧ (n + 1) % 8 ≤ 3) then
          False.elim (by have hN : n + 1 < 64 := lt_of_lt_of_eq hn (show cfg0.N = 64 from N_0); omega)
        else
          if h3 : (4 ≤ (n + 1) % 8 ∧ (n + 1) % 8 ≤ 5) then
            False.elim (by have hN : n + 1 < 64 := lt_of_lt_of_eq hn (show cfg0.N = 64 from N_0); omega)
          else
            if h4 : 6 ≤ (n + 1) % 8 then
              False.elim (by have hN : n + 1 < 64 := lt_of_lt_of_eq hn (show cfg0.N = 64 from N_0); omega)
            else
              (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        if h2 : (2 ≤ (n + 1) % 8 ∧ (n + 1) % 8 ≤ 3) then
          if h3 : (4 ≤ (n + 1) % 8 ∧ (n + 1) % 8 ≤ 5) then
            False.elim (by have hN : n + 1 < 64 := lt_of_lt_of_eq hn (show cfg0.N = 64 from N_0); omega)
          else
            if h4 : 6 ≤ (n + 1) % 8 then
              False.elim (by have hN : n + 1 < 64 := lt_of_lt_of_eq hn (show cfg0.N = 64 from N_0); omega)
            else
              (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
        else
          if h3 : (4 ≤ (n + 1) % 8 ∧ (n + 1) % 8 ≤ 5) then
            if h4 : 6 ≤ (n + 1) % 8 then
              False.elim (by have hN : n + 1 < 64 := lt_of_lt_of_eq hn (show cfg0.N = 64 from N_0); omega)
            else
              (out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
          else
            if h4 : 6 ≤ (n + 1) % 8 then
              (out0_E_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
            else
              False.elim (by have hN : n + 1 < 64 := lt_of_lt_of_eq hn (show cfg0.N = 64 from N_0); omega)

/-- `outsAt0` at a point of case A: that case's contents. -/
theorem outsAt0_A (c : Dev nD) (t : Fin cfg0.N) (h0 : t.val % 8 = 0) (h1 : ¬t.val % 8 = 1) (h2 : ¬(2 ≤ t.val % 8 ∧ t.val % 8 ≤ 3)) (h3 : ¬(4 ≤ t.val % 8 ∧ t.val % 8 ≤ 5)) (h4 : ¬6 ≤ t.val % 8) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (iblk m c 0 t) (iblk m c 1 t) (iblk m c 2 t) (iblk m c 3 t)) := by
  obtain ⟨n, hn⟩ := t
  cases n with
  | zero => exact rfl
  | succ n => exact (dif_pos h0).trans ((dif_neg h1).trans ((dif_neg h2).trans ((dif_neg h3).trans ((dif_neg h4).trans rfl))))

/-- `outsAt0` at a point of case B: that case's contents, over what the point before left. -/
theorem outsAt0_B (c : Dev nD) (t : Fin cfg0.N) (h0 : ¬t.val % 8 = 0) (h1 : t.val % 8 = 1) (h2 : ¬(2 ≤ t.val % 8 ∧ t.val % 8 ≤ 3)) (h3 : ¬(4 ≤ t.val % 8 ∧ t.val % 8 ≤ 5)) (h4 : ¬6 ≤ t.val % 8) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans rfl))))

/-- `outsAt0` at a point of case C: that case's contents, over what the point before left. -/
theorem outsAt0_C (c : Dev nD) (t : Fin cfg0.N) (h0 : ¬t.val % 8 = 0) (h1 : ¬t.val % 8 = 1) (h2 : (2 ≤ t.val % 8 ∧ t.val % 8 ≤ 3)) (h3 : ¬(4 ≤ t.val % 8 ∧ t.val % 8 ≤ 5)) (h4 : ¬6 ≤ t.val % 8) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at a point of case D: that case's contents, over what the point before left. -/
theorem outsAt0_D (c : Dev nD) (t : Fin cfg0.N) (h0 : ¬t.val % 8 = 0) (h1 : ¬t.val % 8 = 1) (h2 : ¬(2 ≤ t.val % 8 ∧ t.val % 8 ≤ 3)) (h3 : (4 ≤ t.val % 8 ∧ t.val % 8 ≤ 5)) (h4 : ¬6 ≤ t.val % 8) :
    outsAt0 m c t.val t.isLt = (out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2, sout0_D_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of case E: that case's contents, over what the point before left. -/
theorem outsAt0_E (c : Dev nD) (t : Fin cfg0.N) (h0 : ¬t.val % 8 = 0) (h1 : ¬t.val % 8 = 1) (h2 : ¬(2 ≤ t.val % 8 ∧ t.val % 8 ≤ 3)) (h3 : ¬(4 ≤ t.val % 8 ∧ t.val % 8 ≤ 5)) (h4 : 6 ≤ t.val % 8) :
    outsAt0 m c t.val t.isLt = (out0_E_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2, sout0_E_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 10000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 1
    · exfalso; omega
    · by_cases h2 : (2 ≤ t.val % 8 ∧ t.val % 8 ≤ 3)
      · exfalso; omega
      · by_cases h3 : (4 ≤ t.val % 8 ∧ t.val % 8 ≤ 5)
        · exfalso; omega
        · by_cases h4 : 6 ≤ t.val % 8
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h)) (fun h => h2 ((hcond0_2 t).mp h)) (fun h => h3 ((hcond0_3 t).mp h)) (fun h => h4 ((hcond0_4 t).mp h))], after0_4]
            by_cases hz : t.val = 0
            · rw [PhiS_castSucc m c t, PhiS_zero m c _ _ hz, PhiA0_eq]
              rw [outsAt0_A m c t h0 h1 h2 h3 h4]
              unfold out0_A_4 sout0_A_0; (try dsimp only)
              iintro ⟨⟨HS0, Hg⟩, Ho, ⟨%d0, H0⟩, ⟨%d1, H1⟩, ⟨%d2, H2⟩, ⟨%d3, H3⟩, ⟨%d4, H4⟩⟩
              iapply ((kernelRun0_A c (grid0.coords t) _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (iblk m c 0 t) (iblk m c 1 t) (iblk m c 2 t) (iblk m c 3 t)).2.2 Set.univ _)
              isplitl [H0]; · iexact H0
              isplitl [H1]; · iexact H1
              isplitl [H2]; · iexact H2
              isplitl [H3]; · iexact H3
              isplitl [H4]; · iexists _; iexact H4
              isplitl [HS0]; · iexact HS0
              iintro ⟨H0, H1, H2, H3, ⟨%e4, H4⟩, ⟨%es0, HS0⟩⟩
              isplitl [HS0 Hg]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              unfold owns; iexists _; isplitr
              swap; · iexact H4
              ipureintro; exact View.read_writes_of_cover _ _ _ _ _ (cover0_A_4 c _ _ _ _ _ _ _ _ _ _ _ _ _ _ _ _ _ _ _ _ _ _)
            · rw [PhiS_castSucc m c t, PhiS_pos m c _ _ hz]
              rw [outsAt0_A m c t h0 h1 h2 h3 h4]
              unfold out0_A_4 sout0_A_0; (try dsimp only)
              iintro ⟨⟨HS0, Hg⟩, Ho, ⟨%d0, H0⟩, ⟨%d1, H1⟩, ⟨%d2, H2⟩, ⟨%d3, H3⟩, ⟨%d4, H4⟩⟩
              iapply ((kernelRun0_A c (grid0.coords t) _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (iblk m c 0 t) (iblk m c 1 t) (iblk m c 2 t) (iblk m c 3 t)).2.2 Set.univ _)
              isplitl [H0]; · iexact H0
              isplitl [H1]; · iexact H1
              isplitl [H2]; · iexact H2
              isplitl [H3]; · iexact H3
              isplitl [H4]; · iexists _; iexact H4
              isplitl [HS0]; · iexists _; iexact HS0
              iintro ⟨H0, H1, H2, H3, ⟨%e4, H4⟩, ⟨%es0, HS0⟩⟩
              isplitl [HS0 Hg]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              unfold owns; iexists _; isplitr
              swap; · iexact H4
              ipureintro; exact View.read_writes_of_cover _ _ _ _ _ (cover0_A_4 c _ _ _ _ _ _ _ _ _ _ _ _ _ _ _ _ _ _ _ _ _ _)
  · by_cases h1 : t.val % 8 = 1
    · by_cases h2 : (2 ≤ t.val % 8 ∧ t.val % 8 ≤ 3)
      · exfalso; omega
      · by_cases h3 : (4 ≤ t.val % 8 ∧ t.val % 8 ≤ 5)
        · exfalso; omega
        · by_cases h4 : 6 ≤ t.val % 8
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1) (fun h => h2 ((hcond0_2 t).mp h)) (fun h => h3 ((hcond0_3 t).mp h)) (fun h => h4 ((hcond0_4 t).mp h))], after0_4]
            by_cases hz : t.val = 0
            · exfalso; have hN : t.val < 64 := lt_of_lt_of_eq t.isLt (show cfg0.N = 64 from N_0); omega
            · rw [PhiS_castSucc m c t, PhiS_pos m c _ _ hz]
              rw [outsAt0_B m c t h0 h1 h2 h3 h4]
              unfold out0_B_4 sout0_B_0; (try dsimp only)
              iintro ⟨⟨HS0, Hg⟩, Ho, ⟨%d0, H0⟩, ⟨%d1, H1⟩, ⟨%d2, H2⟩, ⟨%d3, H3⟩, ⟨%d4, H4⟩⟩
              iapply ((kernelRun0_B c (grid0.coords t) _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) _).2.2 Set.univ _)
              isplitl [H0]; · iexact H0
              isplitl [H1]; · iexact H1
              isplitl [H2]; · iexact H2
              isplitl [H3]; · iexact H3
              isplitl [H4]; · iexists _; iexact H4
              isplitl [HS0]; · iexact HS0
              iintro ⟨H0, H1, H2, H3, ⟨%e4, H4⟩, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              unfold owns; iexists _; isplitr
              swap; · iexact H4
              ipureintro; exact View.read_writes_of_cover _ _ _ _ _ (cover0_B_4 c _ _ _ _ _ _ _ _ _ _ _ _ _ _ _ _ _ _ _ _ _ _ _)
    · by_cases h2 : (2 ≤ t.val % 8 ∧ t.val % 8 ≤ 3)
      · by_cases h3 : (4 ≤ t.val % 8 ∧ t.val % 8 ≤ 5)
        · exfalso; omega
        · by_cases h4 : 6 ≤ t.val % 8
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) ((hcond0_2 t).mpr h2) (fun h => h3 ((hcond0_3 t).mp h)) (fun h => h4 ((hcond0_4 t).mp h))], after0_4]
            by_cases hz : t.val = 0
            · exfalso; have hN : t.val < 64 := lt_of_lt_of_eq t.isLt (show cfg0.N = 64 from N_0); omega
            · rw [PhiS_castSucc m c t, PhiS_pos m c _ _ hz]
              rw [outsAt0_C m c t h0 h1 h2 h3 h4]
              unfold out0_C_4 sout0_C_0; (try dsimp only)
              iintro ⟨⟨HS0, Hg⟩, Ho, ⟨%d0, H0⟩, ⟨%d1, H1⟩, ⟨%d2, H2⟩, ⟨%d3, H3⟩, ⟨%d4, H4⟩⟩
              iapply ((kernelRun0_C c (grid0.coords t) _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) _).2.2 Set.univ _)
              isplitl [H0]; · iexact H0
              isplitl [H1]; · iexact H1
              isplitl [H2]; · iexact H2
              isplitl [H3]; · iexact H3
              isplitl [H4]; · iexists _; iexact H4
              isplitl [HS0]; · iexact HS0
              iintro ⟨H0, H1, H2, H3, ⟨%e4, H4⟩, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              unfold owns; iexists _; isplitr
              swap; · iexact H4
              ipureintro; exact View.read_writes_of_cover _ _ _ _ _ (cover0_C_4 c _ _ _ _ _ _ _ _ _ _ _ _ _ _ _ _ _ _ _ _ _ _ _)
      · by_cases h3 : (4 ≤ t.val % 8 ∧ t.val % 8 ≤ 5)
        · by_cases h4 : 6 ≤ t.val % 8
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_D t (fun h => h0 ((hcond0_0 t).mp h)) (fun h => h1 ((hcond0_1 t).mp h)) (fun h => h2 ((hcond0_2 t).mp h)) ((hcond0_3 t).mpr h3) (fun h => h4 ((hcond0_4 t).mp h))], after0_4]
            by_cases hz : t.val = 0
            · exfalso; have hN : t.val < 64 := lt_of_lt_of_eq t.isLt (show cfg0.N = 64 from N_0); omega
            · rw [PhiS_castSucc m c t, PhiS_pos m c _ _ hz]
              rw [outsAt0_D m c t h0 h1 h2 h3 h4]
              unfold out0_D_4 sout0_D_0; (try dsimp only)
              iintro ⟨⟨HS0, Hg⟩, Ho, ⟨%d0, H0⟩, ⟨%d1, H1⟩, ⟨%d2, H2⟩, ⟨%d3, H3⟩, ⟨%d4, H4⟩⟩
              iapply ((kernelRun0_D c (grid0.coords t) _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) _).2.2 Set.univ _)
              isplitl [H0]; · iexact H0
              isplitl [H1]; · iexact H1
              isplitl [H2]; · iexact H2
              isplitl [H3]; · iexact H3
              isplitl [H4]; · iexists _; iexact H4
              isplitl [HS0]; · iexact HS0
              iintro ⟨H0, H1, H2, H3, ⟨%e4, H4⟩, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              unfold owns; iexists _; isplitr
              swap; · iexact H4
              ipureintro; exact View.read_writes_of_cover _ _ _ _ _ (cover0_D_4 c _ _ _ _ _ _ _ _ _ _ _ _ _ _ _ _ _ _ _ _ _ _ _)
        · by_cases h4 : 6 ≤ t.val % 8
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_E t (fun h => h0 ((hcond0_0 t).mp h)) (fun h => h1 ((hcond0_1 t).mp h)) (fun h => h2 ((hcond0_2 t).mp h)) (fun h => h3 ((hcond0_3 t).mp h)) ((hcond0_4 t).mpr h4)], after0_4]
            by_cases hz : t.val = 0
            · exfalso; have hN : t.val < 64 := lt_of_lt_of_eq t.isLt (show cfg0.N = 64 from N_0); omega
            · rw [PhiS_castSucc m c t, PhiS_pos m c _ _ hz]
              rw [outsAt0_E m c t h0 h1 h2 h3 h4]
              unfold out0_E_4 sout0_E_0; (try dsimp only)
              iintro ⟨⟨HS0, Hg⟩, Ho, ⟨%d0, H0⟩, ⟨%d1, H1⟩, ⟨%d2, H2⟩, ⟨%d3, H3⟩, ⟨%d4, H4⟩⟩
              iapply ((kernelRun0_E c (grid0.coords t) _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) _).2.2 Set.univ _)
              isplitl [H0]; · iexact H0
              isplitl [H1]; · iexact H1
              isplitl [H2]; · iexact H2
              isplitl [H3]; · iexact H3
              isplitl [H4]; · iexists _; iexact H4
              isplitl [HS0]; · iexact HS0
              iintro ⟨H0, H1, H2, H3, ⟨%e4, H4⟩, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              unfold owns; iexists _; isplitr
              swap; · iexact H4
              ipureintro; exact View.read_writes_of_cover _ _ _ _ _ (cover0_E_4 c _ _ _ _ _ _ _ _ _ _ _ _ _ _ _ _ _ _ _ _ _ _ _)
          · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel4Ideal.Gen

end
-- ==== Proof.Kernel4Ideal.Tile.lean ====
/- Layer 1's input projection over the reals: the tiles one grid point computes, each at an element. -/
module

public import proofs.«01_k».proof.Proof.Gen.Kernel4Ideal.Skeleton
public import Idealize.ShloMosaic.Lib.Claim
public import Idealize.ShloMosaic.Lib.Pipeline.ValueKit
public import Idealize.ShloMosaic.Lib.Pointwise

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic

/-- The product of 256 rows of the normed input with the block of weights. -/
@[reducible] def prod (h : FVec Ideal S256x2048 .bf16) (w : FVec Ideal S2048x1024 .bf16) : FVec Ideal S256x1024 .f32 :=
  matmul dot_S256x2048_S2048x1024_S256x1024_1_0_0_1_n_n none h (shapeCast S2048x1024 w shapeCasts_S2048x1024_S2048x1024) (constant S256x1024 .f32 0x00000000#32)

/-- Two heads' vectors of one pair over their root mean squares. -/
@[reducible] def normed (s : FVec Ideal S256x256 .f32) : FVec Ideal S256x256 .f32 :=
  mulf s (rsqrt (addf (matmul dot_S256x256_S256x256_S256x256_1_0_0_1_n_n none (truncf .bf16 (mulf s s) bitsLt_bf16_f32) (k0_pay17 (F := Ideal)) (constant S256x256 .f32 0x00000000#32))
    (broadcast S256x256 (Scalar.ofBits .f32 0x358637BD#32))))

/-- One head's vectors through the two tables. -/
@[reducible] def turn (n : FVec Ideal S256x128 .f32) (u v : FVec Ideal S1x256x128 .f32) : FVec Ideal S256x128 .bf16 :=
  truncf .bf16 (addf (mulf n (shapeCast S256x128 u shapeCasts_S1x256x128_S256x128))
    (mulf (dynamicRotate 1 64#32 none n rotates_S256x128_d1) (shapeCast S256x128 v shapeCasts_S1x256x128_S256x128))) bitsLt_bf16_f32

/-- A gate's half, plus the half times its hyperbolic tangent. -/
@[reducible] def gate (n : FVec Ideal S256x128 .f32) : FVec Ideal S256x128 .bf16 :=
  truncf .bf16 (addf (mulf (broadcast S256x128 (Scalar.ofBits .f32 0x3F000000#32)) n)
    (mulf (mulf (broadcast S256x128 (Scalar.ofBits .f32 0x3F000000#32)) n) (tanh (mulf (broadcast S256x128 (Scalar.ofBits .f32 0x3F000000#32)) n)))) bitsLt_bf16_f32

theorem prod_apply (h : FVec Ideal S256x2048 .bf16) (w : FVec Ideal S2048x1024 .bf16) (r : Fin 256) (d : Fin 1024) :
    prod h w (ix2 r d) = ∑ e : Fin 2048, (h (ix2 r e) : EReal) * w (ix2 e d) := by
  pointwise [prod]

theorem mean_apply (e d : Fin 256) : k0_pay17 (F := Ideal) (ix2 e d) = if e.val / 128 = d.val / 128 then Ideal.ofBits FTy.f32 0x3C000000#32 else 0 := by
  have h : ∀ e : Fin 256, IntOp.cmpi .slt (BitVec.ofNat 32 e.val) 128#32 = if e.val / 128 = 0 then 1#1 else 0#1 := by decide +kernel
  pointwise [k0_pay17]
  rw [h e, h d]
  have he : e.val / 128 = 0 ∨ e.val / 128 = 1 := by omega
  have hd : d.val / 128 = 0 ∨ d.val / 128 = 1 := by omega
  rcases he with he | he <;> rcases hd with hd | hd <;> rw [he, hd] <;> rfl

theorem normed_apply (s : FVec Ideal S256x256 .f32) (r d : Fin 256) :
    normed s (ix2 r d) = (s (ix2 r d) : EReal) * Ideal.rsqrt ((∑ e : Fin 256, s (ix2 r e) * s (ix2 r e) * k0_pay17 (F := Ideal) (ix2 e d)) + Ideal.ofBits FTy.f32 0x358637BD#32) := by
  pointwise [normed]

theorem turn_apply (n : FVec Ideal S256x128 .f32) (u v : FVec Ideal S1x256x128 .f32) (r : Fin 256) (l : Fin 128) :
    turn n u v (ix2 r l) = (n (ix2 r l) : EReal) * u (ix3 (0 : Fin 1) r l) + n (ix2 r (⟨(l.val + 128 - 64) % 128, by omega⟩ : Fin 128)) * v (ix3 (0 : Fin 1) r l) := by
  pointwise [turn]

theorem gate_apply (n : FVec Ideal S256x128 .f32) (r : Fin 256) (l : Fin 128) :
    gate n (ix2 r l) = Ideal.ofBits FTy.f32 0x3F000000#32 * (n (ix2 r l) : EReal) + Ideal.ofBits FTy.f32 0x3F000000#32 * (n (ix2 r l) : EReal) * Ideal.tanh (Ideal.ofBits FTy.f32 0x3F000000#32 * (n (ix2 r l) : EReal)) := by
  pointwise [gate]

theorem hid_apply (x : FVec Ideal S256x2048 .f32) (g : FVec Ideal S1x2048 .f32) (r : Fin 256) (e : Fin 2048) :
    k0_pay14 (F := Ideal) x g (ix2 r e) = (x (ix2 r e) : EReal) * Ideal.rsqrt (Ideal.div (∑ k : Fin 2048, x (ix2 r k) * x (ix2 r k)) (Ideal.ofBits FTy.f32 0x45000000#32) + Ideal.ofBits FTy.f32 0x358637BD#32) * g (ix2 (0 : Fin 1) e) := by
  pointwise [k0_pay14]

/-- Slices of columns, at an element. -/
theorem cut_half (o : ℕ) (ho : o + 128 ≤ 256) (p : S256x256.Slices ![0, o] S256x128) (n : FVec Ideal S256x256 .f32) (r : Fin 256) (l : Fin 128) :
    extractStridedSlice S256x128 ![0, o] n p (ix2 r l) = n (ix2 r (⟨o + l.val, by omega⟩ : Fin 256)) := by
  pointwise

theorem cut_pair (o : ℕ) (ho : o + 256 ≤ 1024) (p : S256x1024.Slices ![0, o] S256x256) (n : FVec Ideal S256x1024 .f32) (r d : Fin 256) :
    extractStridedSlice S256x256 ![0, o] n p (ix2 r d) = n (ix2 r (⟨o + d.val, by omega⟩ : Fin 1024)) := by
  pointwise

theorem cut_one (o : ℕ) (ho : o + 128 ≤ 1024) (p : S256x1024.Slices ![0, o] S256x128) (n : FVec Ideal S256x1024 .f32) (r : Fin 256) (l : Fin 128) :
    extractStridedSlice S256x128 ![0, o] n p (ix2 r l) = n (ix2 r (⟨o + l.val, by omega⟩ : Fin 1024)) := by
  pointwise

/-- Blocks of rows, at an element. -/
theorem ld_rows {e : EltTy} (k : ℕ) (hk : k + 256 ≤ 1024) (inb : ∀ a, (![k, 0] : Fin 2 → ℕ) a + (![256, 2048] : Fin 2 → ℕ) a ≤ S1024x2048.size a) (H : Vec Ideal S1024x2048 e) (r : Fin 256) (d : Fin 2048) :
    View.ld (Val := Elt Ideal) (S := S1024x2048) (e' := e) H (Rect.unit ![k, 0] ![256, 2048] inb) (ix2 r d) = H (ix2 (⟨k + r.val, by omega⟩ : Fin 1024) d) := by
  pointwise

theorem ld_tab (a k : ℕ) (ha : a < 4) (hk : k + 256 ≤ 1024) (inb : ∀ i, (![a, k, 0] : Fin 3 → ℕ) i + (![1, 256, 128] : Fin 3 → ℕ) i ≤ S4x1024x128.size i) (T : FVec Ideal S4x1024x128 .f32) (r : Fin 256) (l : Fin 128) :
    View.ld (Val := Elt Ideal) (S := S4x1024x128) (e' := .f32) T (Rect.unit ![a, k, 0] ![1, 256, 128] inb) (ix3 (0 : Fin 1) r l) = T (ix3 (⟨a, ha⟩ : Fin 4) (⟨k + r.val, by omega⟩ : Fin 1024) l) := by
  pointwise

/-- The product of the rows with the block's columns. -/
def lead (H : FVec Ideal S1024x2048 .bf16) (W : FVec Ideal S2048x1024 .bf16) (r d : Fin 1024) : EReal := ∑ e : Fin 2048, (H (ix2 r e) : EReal) * W (ix2 e d)

/-- One component of a head's vector over the root mean square. -/
def unit (H : FVec Ideal S1024x2048 .bf16) (W : FVec Ideal S2048x1024 .bf16) (r d : Fin 1024) : EReal :=
  lead H W r d * Ideal.rsqrt ((∑ e : Fin 256, lead H W r (⟨256 * (d.val / 256) + e.val, by omega⟩ : Fin 1024) * lead H W r (⟨256 * (d.val / 256) + e.val, by omega⟩ : Fin 1024)
    * k0_pay17 (F := Ideal) (ix2 e (⟨d.val % 256, by omega⟩ : Fin 256))) + Ideal.ofBits FTy.f32 0x358637BD#32)

/-- The same after the rotation, by tables `a` and `b`. -/
def rope (H : FVec Ideal S1024x2048 .bf16) (W : FVec Ideal S2048x1024 .bf16) (T : FVec Ideal S4x1024x128 .f32) (a b : Fin 4) (r d : Fin 1024) : EReal :=
  unit H W r d * T (ix3 a r (⟨d.val % 128, by omega⟩ : Fin 128))
    + unit H W r (⟨128 * (d.val / 128) + (d.val % 128 + 128 - 64) % 128, by omega⟩ : Fin 1024) * T (ix3 b r (⟨d.val % 128, by omega⟩ : Fin 128))

variable (H : FVec Ideal S1024x2048 .bf16) (W : FVec Ideal S2048x1024 .bf16)

theorem prod_lead {h : FVec Ideal S256x2048 .bf16} {k : ℕ} (hk : k + 256 ≤ 1024) (hh : ∀ (r : Fin 256) (e : Fin 2048), h (ix2 r e) = H (ix2 (⟨k + r.val, by omega⟩ : Fin 1024) e))
    (r : Fin 256) (d : Fin 1024) : prod h W (ix2 r d) = lead H W (⟨k + r.val, by omega⟩ : Fin 1024) d := by
  rw [prod_apply]
  exact Finset.sum_congr rfl fun e _ => by rw [hh]

theorem normed_unit {h : FVec Ideal S256x2048 .bf16} {k : ℕ} (hk : k + 256 ≤ 1024) (hh : ∀ (r : Fin 256) (e : Fin 2048), h (ix2 r e) = H (ix2 (⟨k + r.val, by omega⟩ : Fin 1024) e))
    {o : ℕ} (ho : o + 256 ≤ 1024) (ho' : o % 256 = 0) (p : S256x1024.Slices ![0, o] S256x256) (r d : Fin 256) :
    normed (extractStridedSlice S256x256 ![0, o] (prod h W) p) (ix2 r d) = unit H W (⟨k + r.val, by omega⟩ : Fin 1024) (⟨o + d.val, by omega⟩ : Fin 1024) := by
  have e1 : 256 * ((o + d.val) / 256) = o := by omega
  have e2 : (o + d.val) % 256 = d.val := by omega
  rw [normed_apply]
  simp only [cut_pair o ho p, prod_lead H W hk hh, unit, e1, e2]

/-- A stored tile of rotated vectors. -/
theorem rope_tile {h : FVec Ideal S256x2048 .bf16} {k : ℕ} {o o' : ℕ} {a b : ℕ} (T : FVec Ideal S4x1024x128 .f32) {x : S256x128.Idx} {y : S1024x1024.Idx}
    {p : S256x1024.Slices ![0, o] S256x256} {p' : S256x256.Slices ![0, o'] S256x128}
    {i : ∀ i, (![a, k, 0] : Fin 3 → ℕ) i + (![1, 256, 128] : Fin 3 → ℕ) i ≤ S4x1024x128.size i} {j : ∀ i, (![b, k, 0] : Fin 3 → ℕ) i + (![1, 256, 128] : Fin 3 → ℕ) i ≤ S4x1024x128.size i}
    (hk : k + 256 ≤ 1024) (ha : a < 4) (hb : b < 4) (ho : o + 256 ≤ 1024) (ho1 : o % 256 = 0) (ho' : o' = 0 ∨ o' = 128)
    (hh : ∀ (r : Fin 256) (e : Fin 2048), h (ix2 r e) = H (ix2 (⟨k + r.val, by omega⟩ : Fin 1024) e))
    (h0 : (y 0).val = k + (x 0).val) (h1 : (y 1).val = o + o' + (x 1).val) :
    turn (extractStridedSlice S256x128 ![0, o'] (normed (extractStridedSlice S256x256 ![0, o] (prod h W) p)) p')
      (View.ld (Val := Elt Ideal) (S := S4x1024x128) (e' := .f32) T (Rect.unit ![a, k, 0] ![1, 256, 128] i)) (View.ld (Val := Elt Ideal) (S := S4x1024x128) (e' := .f32) T (Rect.unit ![b, k, 0] ![1, 256, 128] j)) x
      = rope H W T ⟨a, ha⟩ ⟨b, hb⟩ (y 0) (y 1) := by
  obtain ⟨r, l, rfl⟩ : ∃ (r : Fin 256) (l : Fin 128), x = ix2 r l := ⟨_, _, eq_ix2 x⟩
  have hl : l.val < 128 := l.isLt
  have ey0 : y 0 = (⟨k + r.val, by omega⟩ : Fin 1024) := Fin.ext h0
  have ey1 : y 1 = (⟨o + (o' + l.val), by omega⟩ : Fin 1024) := Fin.ext (h1.trans (Nat.add_assoc _ _ _))
  have e1 : (o + (o' + l.val)) % 128 = l.val := by omega
  have e2 : 128 * ((o + (o' + l.val)) / 128) = o + o' := by omega
  rw [turn_apply, ey0, ey1, ld_tab a k ha hk, ld_tab b k hb hk, cut_half o' (by omega), cut_half o' (by omega), normed_unit H W hk hh ho ho1, normed_unit H W hk hh ho ho1]
  simp only [rope, e1, e2, Nat.add_assoc]

/-- A stored tile of plain products. -/
theorem plain_tile {h : FVec Ideal S256x2048 .bf16} {k o : ℕ} {x : S256x128.Idx} {y : S1024x1024.Idx} {p : S256x1024.Slices ![0, o] S256x128}
    (hk : k + 256 ≤ 1024) (ho : o + 128 ≤ 1024) (hh : ∀ (r : Fin 256) (e : Fin 2048), h (ix2 r e) = H (ix2 (⟨k + r.val, by omega⟩ : Fin 1024) e))
    (h0 : (y 0).val = k + (x 0).val) (h1 : (y 1).val = o + (x 1).val) :
    truncf .bf16 (extractStridedSlice S256x128 ![0, o] (prod h W) p) bitsLt_bf16_f32 x = lead H W (y 0) (y 1) := by
  obtain ⟨r, l, rfl⟩ : ∃ (r : Fin 256) (l : Fin 128), x = ix2 r l := ⟨_, _, eq_ix2 x⟩
  have ey0 : y 0 = (⟨k + r.val, by omega⟩ : Fin 1024) := Fin.ext h0
  have ey1 : y 1 = (⟨o + l.val, by omega⟩ : Fin 1024) := Fin.ext h1
  rw [ey0, ey1, ← prod_lead H W hk hh, ← cut_one o ho p (prod h W)]
  rfl

/-- A number through the gate's form. -/
def half (n : EReal) : EReal :=
  Ideal.ofBits FTy.f32 0x3F000000#32 * n + Ideal.ofBits FTy.f32 0x3F000000#32 * n * Ideal.tanh (Ideal.ofBits FTy.f32 0x3F000000#32 * n)

/-- A stored tile of gates. -/
theorem gate_tile {h : FVec Ideal S256x2048 .bf16} {k o : ℕ} {x : S256x128.Idx} {y : S1024x1024.Idx} {p : S256x1024.Slices ![0, o] S256x128}
    (hk : k + 256 ≤ 1024) (ho : o + 128 ≤ 1024) (hh : ∀ (r : Fin 256) (e : Fin 2048), h (ix2 r e) = H (ix2 (⟨k + r.val, by omega⟩ : Fin 1024) e))
    (h0 : (y 0).val = k + (x 0).val) (h1 : (y 1).val = o + (x 1).val) :
    gate (extractStridedSlice S256x128 ![0, o] (prod h W) p) x = half (lead H W (y 0) (y 1)) := by
  obtain ⟨r, l, rfl⟩ : ∃ (r : Fin 256) (l : Fin 128), x = ix2 r l := ⟨_, _, eq_ix2 x⟩
  have ey0 : y 0 = (⟨k + r.val, by omega⟩ : Fin 1024) := Fin.ext h0
  have ey1 : y 1 = (⟨o + l.val, by omega⟩ : Fin 1024) := Fin.ext h1
  rw [gate_apply, ey0, ey1, cut_one o ho p, prod_lead H W hk hh]
  rfl

/-- A row of the input over its root mean square, times the gains. -/
def hid (X : FVec Ideal S1024x2048 .f32) (g : FVec Ideal S1x2048 .f32) : FVec Ideal S1024x2048 .bf16 := fun i =>
  (X (ix2 (i 0) (i 1)) : EReal) * Ideal.rsqrt (Ideal.div (∑ k : Fin 2048, X (ix2 (i 0) k) * X (ix2 (i 0) k)) (Ideal.ofBits FTy.f32 0x45000000#32) + Ideal.ofBits FTy.f32 0x358637BD#32) * g (ix2 (0 : Fin 1) (i 1))

theorem hid_tile (X : FVec Ideal S1024x2048 .f32) (g : FVec Ideal S1x2048 .f32) {k : ℕ} (hk : k + 256 ≤ 1024)
    {inb : ∀ a, (![k, 0] : Fin 2 → ℕ) a + (![256, 2048] : Fin 2 → ℕ) a ≤ S1024x2048.size a} (r : Fin 256) (e : Fin 2048) :
    k0_pay14 (F := Ideal) (View.ld (Val := Elt Ideal) (S := S1024x2048) (e' := .f32) X (Rect.unit ![k, 0] ![256, 2048] inb)) g (ix2 r e) = hid X g (ix2 (⟨k + r.val, by omega⟩ : Fin 1024) e) := by
  have hx := ld_rows (e := .f32) k hk inb X
  generalize View.ld (Val := Elt Ideal) (S := S1024x2048) (e' := .f32) X (Rect.unit ![k, 0] ![256, 2048] inb) = z at hx ⊢
  have hx' : ∀ (r : Fin 256) (e : Fin 2048), (z : FVec Ideal S256x2048 .f32) (ix2 r e) = X (ix2 (⟨k + r.val, by omega⟩ : Fin 1024) e) := hx
  rw [hid_apply]
  simp only [hx']
  rfl

/-- A stored block of normed rows. -/
theorem hid_stored (X : FVec Ideal S1024x2048 .f32) (g : FVec Ideal S1x2048 .f32) {k : ℕ} (hk : k + 256 ≤ 1024) {x : S256x2048.Idx} {y : S1024x2048.Idx}
    {inb : ∀ a, (![k, 0] : Fin 2 → ℕ) a + (![256, 2048] : Fin 2 → ℕ) a ≤ S1024x2048.size a} (h0 : (y 0).val = k + (x 0).val) (h1 : (y 1).val = (x 1).val) :
    k0_pay15 (F := Ideal) (View.ld (Val := Elt Ideal) (S := S1024x2048) (e' := .f32) X (Rect.unit ![k, 0] ![256, 2048] inb)) g x = hid X g y := by
  obtain ⟨r, e, rfl⟩ : ∃ (r : Fin 256) (e : Fin 2048), x = ix2 r e := ⟨_, _, eq_ix2 x⟩
  have hr : k + r.val < 1024 := by omega
  have ey : y = ix2 (⟨k + r.val, hr⟩ : Fin 1024) e := by
    refine (eq_ix2 y).trans ?_
    rw [show y 0 = (⟨k + r.val, hr⟩ : Fin 1024) from Fin.ext h0, show y 1 = e from Fin.ext h1]
  rw [ey, ← hid_tile X g hk r e (inb := inb), k0_pay15]
  pointwise

end Cert.Kernel4Ideal.Proj

end
-- ==== Proof.Kernel4Ideal.Cases.lean ====
/- Layer 1's input projection over the reals: what each kind of grid point leaves in its tile, and the normed rows carried along a row of tiles. -/
module

public import proofs.«01_k».proof.Proof.Kernel4Ideal.Frame
public import proofs.«01_k».proof.Proof.Kernel4Ideal.Tile

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- The rows the points of a row of tiles share. -/
def shared (n : ℕ) (hn : n < cfg0.N) : FVec Ideal S1024x2048 .bf16 := (outsAt0 m c n hn).2

theorem case_plain (t : Fin cfg0.N) (h : 4 ≤ t.val % 8 ∧ t.val % 8 ≤ 5) (y : S1024x1024.Idx) :
    (outsAt0 m c t.val t.isLt).1 y = lead (shared m c (t.val - 1) (Nat.lt_of_le_of_lt (Nat.sub_le _ _) t.isLt)) (iblk m c 2 t) (y 0) (y 1) := by
  rw [outsAt0_D m c t (by omega) (by omega) (by omega) h (by omega), shared]
  frame_out
  generalize (outsAt0 m c (t.val - 1) (Nat.lt_of_le_of_lt (Nat.sub_le _ _) t.isLt)).2 = H
  rw [(Memref.isWhole_whole (κ := .tc) cc0_scratch0).read_unread H]
  canon_tiles x h
  all_goals exact plain_tile H _ (by omega) (by omega) (ld_rows _ (by omega) _ H) (by omega) (by omega)

theorem case_gate (t : Fin cfg0.N) (h : 6 ≤ t.val % 8) (y : S1024x1024.Idx) :
    (outsAt0 m c t.val t.isLt).1 y = half (lead (shared m c (t.val - 1) (Nat.lt_of_le_of_lt (Nat.sub_le _ _) t.isLt)) (iblk m c 2 t) (y 0) (y 1)) := by
  rw [outsAt0_E m c t (by omega) (by omega) (by omega) (by omega) h, shared]
  frame_out
  generalize (outsAt0 m c (t.val - 1) (Nat.lt_of_le_of_lt (Nat.sub_le _ _) t.isLt)).2 = H
  rw [(Memref.isWhole_whole (κ := .tc) cc0_scratch0).read_unread H]
  canon_tiles x h
  all_goals exact gate_tile (p := by decide) H _ (by omega) (by omega) (ld_rows _ (by omega) _ H) (by omega) (by omega)

theorem case_query (t : Fin cfg0.N) (h : t.val % 8 = 1) (y : S1024x1024.Idx) :
    (outsAt0 m c t.val t.isLt).1 y = rope (shared m c (t.val - 1) (Nat.lt_of_le_of_lt (Nat.sub_le _ _) t.isLt)) (iblk m c 2 t) (iblk m c 3 t) 0 1 (y 0) (y 1) := by
  rw [outsAt0_B m c t (by omega) h (by omega) (by omega) (by omega), shared]
  frame_out
  generalize (outsAt0 m c (t.val - 1) (Nat.lt_of_le_of_lt (Nat.sub_le _ _) t.isLt)).2 = H
  rw [(Memref.isWhole_whole (κ := .tc) cc0_scratch0).read_unread H]
  canon_tiles x h
  all_goals exact rope_tile (p := by decide) (p' := by decide) H _ _ (by omega) (by omega) (by omega) (by omega) (by omega) (by omega) (ld_rows _ (by omega) _ H) (by omega) (by omega)

theorem case_key (t : Fin cfg0.N) (h : 2 ≤ t.val % 8 ∧ t.val % 8 ≤ 3) (y : S1024x1024.Idx) :
    (outsAt0 m c t.val t.isLt).1 y = rope (shared m c (t.val - 1) (Nat.lt_of_le_of_lt (Nat.sub_le _ _) t.isLt)) (iblk m c 2 t) (iblk m c 3 t) 2 3 (y 0) (y 1) := by
  rw [outsAt0_C m c t (by omega) (by omega) h (by omega) (by omega), shared]
  frame_out
  generalize (outsAt0 m c (t.val - 1) (Nat.lt_of_le_of_lt (Nat.sub_le _ _) t.isLt)).2 = H
  rw [(Memref.isWhole_whole (κ := .tc) cc0_scratch0).read_unread H]
  canon_tiles x h
  all_goals exact rope_tile (p := by decide) (p' := by decide) H _ _ (by omega) (by omega) (by omega) (by omega) (by omega) (by omega) (ld_rows _ (by omega) _ H) (by omega) (by omega)

theorem case_first (t : Fin cfg0.N) (h : t.val % 8 = 0) (y : S1024x1024.Idx) :
    (outsAt0 m c t.val t.isLt).1 y = rope (hid (iblk m c 0 t) (iblk m c 1 t)) (iblk m c 2 t) (iblk m c 3 t) 0 1 (y 0) (y 1) := by
  rw [outsAt0_A m c t h (by omega) (by omega) (by omega) (by omega)]
  frame_out
  canon_tiles x h
  all_goals exact rope_tile (p := by decide) (p' := by decide) _ _ _ (by omega) (by omega) (by omega) (by omega) (by omega) (by omega) (hid_tile _ _ (by omega)) (by omega) (by omega)

theorem shared_first (t : Fin cfg0.N) (h : t.val % 8 = 0) : shared m c t.val t.isLt = hid (iblk m c 0 t) (iblk m c 1 t) := by
  funext y
  rw [shared, outsAt0_A m c t h (by omega) (by omega) (by omega) (by omega)]
  frame_out
  canon_tiles x h
  all_goals exact hid_stored _ _ (by omega) (by omega) (by omega)

theorem shared_next (t : Fin cfg0.N) (h : t.val % 8 ≠ 0) : shared m c t.val t.isLt = shared m c (t.val - 1) (Nat.lt_of_le_of_lt (Nat.sub_le _ _) t.isLt) := by
  unfold shared
  by_cases h1 : t.val % 8 = 1
  · rw [outsAt0_B m c t (by omega) h1 (by omega) (by omega) (by omega)]
    rfl
  by_cases h2 : 2 ≤ t.val % 8 ∧ t.val % 8 ≤ 3
  · rw [outsAt0_C m c t (by omega) (by omega) h2 (by omega) (by omega)]
    rfl
  by_cases h3 : 4 ≤ t.val % 8 ∧ t.val % 8 ≤ 5
  · rw [outsAt0_D m c t (by omega) (by omega) (by omega) h3 (by omega)]
    rfl
  · rw [outsAt0_E m c t (by omega) (by omega) (by omega) (by omega) (by omega)]
    rfl

end Cert.Kernel4Ideal.Proj

end
-- ==== Proof.Kernel4Ideal.Goal.lean ====
/- Layer 1's input projection as the reference states it: the norm, the product, the heads' norm and rotation, read at an element. -/
module

public import proofs.«01_k».proof.Proof.Gen.Reference4Ideal.Run
public import Idealize.ShloMosaic.Lib.Claim
public import Idealize.ShloMosaic.Lib.Pointwise

@[expose] public section

set_option maxRecDepth 16384

noncomputable section

namespace Cert.Reference4Ideal.Goal

open Cert.Reference4Ideal Cert.Reference4Ideal.Gen
open Idealize.ShloMosaic Idealize.ShloMosaic.TcCoe Idealize.ShloMosaic.Tactic

/-- The layer's input, each row over its root mean square and times the gains. -/
def rows (x : FVec Ideal S4x2048x2048 .f32) (g : FVec Ideal S2048 .f32) : FVec Ideal S4x2048x2048 .f32 :=
  mulf (mulf x (broadcastInDim S4x2048x2048 ![0, 1, 2] bcast_S4x2048x1_S4x2048x2048_0_1_2 (Host.rsqrt (addf
    (Host.divf (broadcastInDim S4x2048x1 ![0, 1] bcast_S4x2048_S4x2048x1_0_1 (Host.reduceAdd (mulf x x) (constant S_ .f32 0x00000000#32) reducesTo_S4x2048x2048_S4x2048_d2 h_S_))
      (broadcastInDim S4x2048x1 ![] bcast_S_S4x2048x1 (constant S_ .f32 0x45000000#32)))
    (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 g))

/-- The product with the input weights. -/
def proj (x : FVec Ideal S4x2048x2048 .f32) (g : FVec Ideal S2048 .f32) (w : FVec Ideal S2048x8192 .f32) : FVec Ideal S4x2048x8192 .f32 :=
  Host.dotGeneral dot_S4x2048x2048_S2048x8192_S4x2048x8192_2_0_01_1_n_n none (rows x g) w

/-- Each head's vectors over their root mean square and times the gains. -/
def normed (p : FVec Ideal S4x2048x2048 .f32) (g : FVec Ideal S128 .f32) : FVec Ideal S4x2048x8x2x128 .f32 :=
  mulf (mulf (shapeCast _ p shapeCasts_S4x2048x2048_S4x2048x8x2x128) (broadcastInDim S4x2048x8x2x128 ![0, 1, 2, 3, 4] bcast_S4x2048x8x2x1_S4x2048x8x2x128_0_1_2_3_4
    (Host.rsqrt (addf (Host.divf (broadcastInDim S4x2048x8x2x1 ![0, 1, 2, 3] bcast_S4x2048x8x2_S4x2048x8x2x1_0_1_2_3
      (Host.reduceAdd (mulf (shapeCast S4x2048x8x2x128 p shapeCasts_S4x2048x2048_S4x2048x8x2x128) (shapeCast S4x2048x8x2x128 p shapeCasts_S4x2048x2048_S4x2048x8x2x128)) (constant S_ .f32 0x00000000#32) reducesTo_S4x2048x8x2x128_S4x2048x8x2_d4 h_S_))
      (broadcastInDim S4x2048x8x2x1 ![] bcast_S_S4x2048x8x2x1 (constant S_ .f32 0x43000000#32)))
      (broadcastInDim S4x2048x8x2x1 ![] bcast_S_S4x2048x8x2x1 (constant S_ .f32 0x358637BD#32))))))
    (broadcastInDim S4x2048x8x2x128 ![0, 1, 2, 3, 4] bcast_S1x1x1x1x128_S4x2048x8x2x128_0_1_2_3_4 (broadcastInDim S1x1x1x1x128 ![4] bcast_S128_S1x1x1x1x128_4 g))

/-- A row of the rotary table over every batch and head. -/
def wide (u : FVec Ideal S2048x64 .f32) : FVec Ideal S4x2048x8x2x64 .f32 :=
  broadcastInDim S4x2048x8x2x64 ![0, 1, 2, 3, 4] bcast_S1x2048x1x1x64_S4x2048x8x2x64_0_1_2_3_4
    (broadcastInDim S1x2048x1x1x64 ![1, 2, 3, 4] bcast_S2048x1x1x64_S1x2048x1x1x64_1_2_3_4 (broadcastInDim S2048x1x1x64 ![0, 3] bcast_S2048x64_S2048x1x1x64_0_3 u))

/-- The first and the last sixty-four components of each vector. -/
def fore (n : FVec Ideal S4x2048x8x2x128 .f32) : FVec Ideal S4x2048x8x2x64 .f32 :=
  extractStridedSlice S4x2048x8x2x64 ![0, 0, 0, 0, 0] n slices_S4x2048x8x2x128_S4x2048x8x2x64_0_0_0_0_0

def hind (n : FVec Ideal S4x2048x8x2x128 .f32) : FVec Ideal S4x2048x8x2x64 .f32 :=
  extractStridedSlice S4x2048x8x2x64 ![0, 0, 0, 0, 64] n slices_S4x2048x8x2x128_S4x2048x8x2x64_0_0_0_0_64

/-- The rotation, the heads joined again. -/
def turned (n : FVec Ideal S4x2048x8x2x128 .f32) (u v : FVec Ideal S2048x64 .f32) : FVec Ideal S4x2048x2048 .f32 :=
  shapeCast _ (concatenate S4x2048x8x2x128 4 [⟨S4x2048x8x2x64, (subf (mulf (fore n) (wide u)) (mulf (hind n) (wide v)))⟩,
    ⟨S4x2048x8x2x64, (addf (mulf (fore n) (wide v)) (mulf (hind n) (wide u)))⟩] concatenates_S4x2048x8x2x64_S4x2048x8x2x64_S4x2048x8x2x128_d4) shapeCasts_S4x2048x8x2x128_S4x2048x2048

/-- Queries over the root of 128 and the natural logarithm of two. -/
def scaled (q : FVec Ideal S4x2048x2048 .f32) : FVec Ideal S4x2048x2048 .f32 :=
  Host.divf q (broadcastInDim S4x2048x2048 ![] bcast_S_S4x2048x2048 (mulf (Host.sqrt (constant S_ .f32 0x43000000#32)) (Host.log (constant S_ .f32 0x40000000#32))))

/-- A gate times its logistic. -/
def gated (z : FVec Ideal S4x2048x2048 .f32) : FVec Ideal S4x2048x2048 .f32 :=
  mulf z (Host.divf (broadcastInDim S4x2048x2048 ![] bcast_S_S4x2048x2048 (constant S_ .f32 0x3F800000#32))
    (addf (broadcastInDim S4x2048x2048 ![] bcast_S_S4x2048x2048 (constant S_ .f32 0x3F800000#32)) (Host.exp (Host.negf z))))

/-- The four arrays beside one another, their rows in one axis. -/
def joined (q k v z : FVec Ideal S4x2048x2048 .f32) : FVec Ideal S8192x8192 .bf16 :=
  truncf .bf16 (shapeCast S8192x8192 (concatenate S4x2048x8192 2 [⟨S4x2048x2048, q⟩, ⟨S4x2048x2048, k⟩, ⟨S4x2048x2048, v⟩, ⟨S4x2048x2048, z⟩]
    concatenates_S4x2048x2048_S4x2048x2048_S4x2048x2048_S4x2048x2048_S4x2048x8192_d2) shapeCasts_S4x2048x8192_S8192x8192) bitsLt_bf16_f32

/-- The columns of queries, keys, values and gates. -/
def part (o : ℕ) (h : S4x2048x8192.Slices ![0, 0, o] S4x2048x2048) (p : FVec Ideal S4x2048x8192 .f32) : FVec Ideal S4x2048x2048 .f32 :=
  extractStridedSlice S4x2048x2048 ![0, 0, o] p h

/-- The reference's term. -/
def goal (x : FVec Ideal S4x2048x2048 .f32) (g : FVec Ideal S2048 .f32) (w : FVec Ideal S2048x8192 .f32) (gq gk : FVec Ideal S128 .f32) (u v : FVec Ideal S2048x64 .f32) :
    FVec Ideal S8192x8192 .bf16 :=
  joined (scaled (turned (normed (part 0 slices_S4x2048x8192_S4x2048x2048_0_0_0 (proj x g w)) gq) u v))
    (turned (normed (part 2048 slices_S4x2048x8192_S4x2048x2048_0_0_2048 (proj x g w)) gk) u v)
    (part 4096 slices_S4x2048x8192_S4x2048x2048_0_0_4096 (proj x g w))
    (gated (part 6144 slices_S4x2048x8192_S4x2048x2048_0_0_6144 (proj x g w)))

theorem rows_apply (x : FVec Ideal S4x2048x2048 .f32) (g : FVec Ideal S2048 .f32) (b : Fin 4) (s e : Fin 2048) :
    rows x g (ix3 b s e) = (x (ix3 b s e) : EReal) * Ideal.rsqrt (Ideal.div (∑ k : Fin 2048, x (ix3 b s k) * x (ix3 b s k)) (Ideal.ofBits FTy.f32 0x45000000#32) + Ideal.ofBits FTy.f32 0x358637BD#32) * g (ix1 e) := by
  pointwise [rows]

theorem proj_apply (x : FVec Ideal S4x2048x2048 .f32) (g : FVec Ideal S2048 .f32) (w : FVec Ideal S2048x8192 .f32) (b : Fin 4) (s : Fin 2048) (d : Fin 8192) :
    proj x g w (ix3 b s d) = ∑ e : Fin 2048, (rows x g (ix3 b s e) : EReal) * w (ix2 e d) := by
  pointwise [proj]

theorem normed_apply (p : FVec Ideal S4x2048x2048 .f32) (g : FVec Ideal S128 .f32) (b : Fin 4) (s : Fin 2048) (h : Fin 8) (i : Fin 2) (l : Fin 128) :
    normed p g (ix5 b s h i l) = (p (ix3 b s (⟨h.val * 256 + i.val * 128 + l.val, by omega⟩ : Fin 2048)) : EReal)
      * Ideal.rsqrt (Ideal.div (∑ e : Fin 128, p (ix3 b s (⟨h.val * 256 + i.val * 128 + e.val, by omega⟩ : Fin 2048)) * p (ix3 b s (⟨h.val * 256 + i.val * 128 + e.val, by omega⟩ : Fin 2048))) (Ideal.ofBits FTy.f32 0x43000000#32)
        + Ideal.ofBits FTy.f32 0x358637BD#32) * g (ix1 l) := by
  pointwise [normed]

theorem turned_fore (n : FVec Ideal S4x2048x8x2x128 .f32) (u v : FVec Ideal S2048x64 .f32) (b : Fin 4) (s : Fin 2048) (h : Fin 8) (i : Fin 2) (l : Fin 64) :
    turned n u v (ix3 b s (⟨h.val * 256 + i.val * 128 + l.val, by omega⟩ : Fin 2048))
      = (n (ix5 b s h i (⟨l.val, by omega⟩ : Fin 128)) : EReal) * u (ix2 s l) - n (ix5 b s h i (⟨64 + l.val, by omega⟩ : Fin 128)) * v (ix2 s l) := by
  pointwise [turned, fore, hind, wide]
  have e : (h.val * 256 + i.val * 128 + l.val) % 128 = l.val := by omega
  simp only [e, l.isLt, dif_pos]

theorem turned_hind (n : FVec Ideal S4x2048x8x2x128 .f32) (u v : FVec Ideal S2048x64 .f32) (b : Fin 4) (s : Fin 2048) (h : Fin 8) (i : Fin 2) (l : Fin 64) :
    turned n u v (ix3 b s (⟨h.val * 256 + i.val * 128 + (64 + l.val), by omega⟩ : Fin 2048))
      = (n (ix5 b s h i (⟨l.val, by omega⟩ : Fin 128)) : EReal) * v (ix2 s l) + n (ix5 b s h i (⟨64 + l.val, by omega⟩ : Fin 128)) * u (ix2 s l) := by
  pointwise [turned, fore, hind, wide]
  have e : (h.val * 256 + i.val * 128 + (64 + l.val)) % 128 = 64 + l.val := by omega
  have e' : ¬ 64 + l.val < 64 := by omega
  simp only [e, e', dif_neg, not_false_eq_true, Nat.add_sub_cancel_left]

theorem scaled_apply (q : FVec Ideal S4x2048x2048 .f32) (i : S4x2048x2048.Idx) :
    scaled q i = Ideal.div (q i) (Ideal.sqrt (Ideal.ofBits FTy.f32 0x43000000#32) * Ideal.log (Ideal.ofBits FTy.f32 0x40000000#32)) := by
  pointwise [scaled]

theorem gated_apply (z : FVec Ideal S4x2048x2048 .f32) (i : S4x2048x2048.Idx) :
    gated z i = (z i : EReal) * Ideal.div (Ideal.ofBits FTy.f32 0x3F800000#32) (Ideal.ofBits FTy.f32 0x3F800000#32 + Ideal.exp (-(z i : EReal))) := by
  pointwise [gated]

theorem part_apply (o : ℕ) (h : S4x2048x8192.Slices ![0, 0, o] S4x2048x2048) (ho : o ≤ 6144) (p : FVec Ideal S4x2048x8192 .f32) (b : Fin 4) (s d : Fin 2048) :
    part o h p (ix3 b s d) = p (ix3 b s (⟨o + d.val, by omega⟩ : Fin 8192)) := by
  pointwise [part]

theorem joined_apply (q k v z : FVec Ideal S4x2048x2048 .f32) (r : Fin 8192) (d : Fin 2048) :
    joined q k v z (ix2 r (⟨d.val, by omega⟩ : Fin 8192)) = q (ix3 (⟨r.val / 2048, by omega⟩ : Fin 4) (⟨r.val % 2048, by omega⟩ : Fin 2048) d)
    ∧ joined q k v z (ix2 r (⟨2048 + d.val, by omega⟩ : Fin 8192)) = k (ix3 (⟨r.val / 2048, by omega⟩ : Fin 4) (⟨r.val % 2048, by omega⟩ : Fin 2048) d)
    ∧ joined q k v z (ix2 r (⟨4096 + d.val, by omega⟩ : Fin 8192)) = v (ix3 (⟨r.val / 2048, by omega⟩ : Fin 4) (⟨r.val % 2048, by omega⟩ : Fin 2048) d)
    ∧ joined q k v z (ix2 r (⟨6144 + d.val, by omega⟩ : Fin 8192)) = z (ix3 (⟨r.val / 2048, by omega⟩ : Fin 4) (⟨r.val % 2048, by omega⟩ : Fin 2048) d) := by
  have a : ¬ 4096 + d.val < 2048 := by omega
  have a' : ¬ 4096 + d.val - 2048 < 2048 := by omega
  have a'' : 4096 + d.val - 2048 - 2048 = d.val := by omega
  have b : ¬ 6144 + d.val < 2048 := by omega
  have b' : ¬ 6144 + d.val - 2048 < 2048 := by omega
  have b'' : ¬ 6144 + d.val - 2048 - 2048 < 2048 := by omega
  have b3 : 6144 + d.val - 2048 - 2048 - 2048 = d.val := by omega
  refine ⟨?_, ?_, ?_, ?_⟩ <;> pointwise [joined]
  · simp only [a, a', a'', d.isLt, dif_pos, dif_neg, not_false_eq_true]
  · simp only [b, b', b'', b3, dif_neg, not_false_eq_true]

variable (m : (ℓ : Loc nD τ sig) → Buf (Elt Ideal) ℓ) (c : Dev nD)

theorem value_eq : Value.res_main_v92 (F := Ideal) m c
    = goal (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := rfl

end Cert.Reference4Ideal.Goal

end
-- ==== Proof.Kernel4Ideal.Host.lean ====
/- Layer 1's input projection over the reals: what the host hands the call, and the blocks a grid point reads. -/
module

public import proofs.«01_k».proof.Proof.Kernel4Ideal.Frame
public import Idealize.ShloMosaic.Lib.Claim
public import Idealize.ShloMosaic.Lib.Pipeline.ValueKit
public import Idealize.ShloMosaic.Lib.Pointwise
public import Idealize.ShloMosaic.Lib.StableHlo.RunRead

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic

theorem idx : ∀ t : Fin cfg0.N, win0_0.index t = ![t.val / 8, 0] ∧ win0_1.index t = ![0, 0] ∧ win0_2.index t = ![0, t.val % 8] ∧ win0_3.index t = ![0, t.val / 8 % 2, 0] ∧ win0_4.index t = ![t.val / 8, t.val % 8] ∧ t.val < 64 :=
  (by decide +kernel : ∀ t : Fin grid0.N, _)

variable (m : (ℓ : Loc nD τ sig) → Buf (Elt Ideal) ℓ) (c : Dev nD)

theorem rows_x (r : Fin 8192) (e : Fin 2048) : V m c main_v35 (ix2 r e)
    = m (c, Proc.tc.devRef main_arg0) (ix3 (⟨r.val / 2048, by omega⟩ : Fin 4) (⟨r.val % 2048, by omega⟩ : Fin 2048) e) := by
  simp only [V, hostOps0, hostOps0_1, hostOps0_2, hostOps0_3, hostOps0_4, List.flatten_cons, List.flatten_nil, List.append_nil, List.cons_append, List.nil_append]
  entry_read; pointwise

theorem gain_x (e : Fin 2048) : V m c main_v36 (ix2 (0 : Fin 1) e) = m (c, Proc.tc.devRef main_arg1) (ix1 e) := by
  simp only [V, hostOps0, hostOps0_1, hostOps0_2, hostOps0_3, hostOps0_4, List.flatten_cons, List.flatten_nil, List.append_nil, List.cons_append, List.nil_append]
  entry_read; pointwise

theorem cols_w (e : Fin 2048) (d : Fin 8192) : V m c main_v0 (ix2 e d) = m (c, Proc.tc.devRef main_arg2) (ix2 e d) := by
  simp only [V, hostOps0, hostOps0_1, hostOps0_2, hostOps0_3, hostOps0_4, List.flatten_cons, List.flatten_nil, List.append_nil, List.cons_append, List.nil_append]
  entry_read; pointwise

/-- The host's operations in order. -/
abbrev line : List (HloOp τ sig (Elt Ideal)) := List.flatten [hostOps0, hostOps0_1, hostOps0_2, hostOps0_3, hostOps0_4]

theorem stack : V m c main_v34 = concatenate S4x2048x128 0 [⟨S1x2048x128, V m c main_v30⟩, ⟨S1x2048x128, V m c main_v31⟩, ⟨S1x2048x128, V m c main_v32⟩, ⟨S1x2048x128, V m c main_v33⟩]
    concatenates_S1x2048x128_S1x2048x128_S1x2048x128_S1x2048x128_S4x2048x128_d0 := by
  have h := StableHlo.after_last_write (ops := line) (i := 43) (r := main_v34) [main_v35, main_v36] rfl rfl (by decide) (fun b => m (c, b))
  have k : ∀ r, r ∉ [main_v34, main_v35, main_v36] → V m c r = StableHlo.upto line (fun b => m (c, b)) 43 (Proc.tc.devRef r) := fun r hr =>
    StableHlo.after_unwritten (ops := line.drop 43) [main_v34, main_v35, main_v36] rfl hr (StableHlo.upto line (fun b => m (c, b)) 43)
  rw [k main_v30 (by decide), k main_v31 (by decide), k main_v32 (by decide), k main_v33 (by decide)]
  exact h.trans (StableHlo.nary_result ..)

/-- The gains of queries and keys, and the two tables of the rotation. -/
abbrev arg3 : FVec Ideal S128 .f32 := m (c, Proc.tc.devRef main_arg3)
abbrev arg4 : FVec Ideal S128 .f32 := m (c, Proc.tc.devRef main_arg4)
abbrev arg5 : FVec Ideal S2048x64 .f32 := m (c, Proc.tc.devRef main_arg5)
abbrev arg6 : FVec Ideal S2048x64 .f32 := m (c, Proc.tc.devRef main_arg6)

/-- A table beside itself, and beside its negative. -/
def twice (u : FVec Ideal S2048x64 .f32) (s : Fin 2048) (l : Fin 128) : EReal :=
  if h : l.val < 64 then u (ix2 s (⟨l.val, h⟩ : Fin 64)) else u (ix2 s (⟨l.val - 64, by omega⟩ : Fin 64))

def odd (v : FVec Ideal S2048x64 .f32) (s : Fin 2048) (l : Fin 128) : EReal :=
  if h : l.val < 64 then -(v (ix2 s (⟨l.val, h⟩ : Fin 64)) : EReal) else v (ix2 s (⟨l.val - 64, by omega⟩ : Fin 64))

theorem slab0 (s : Fin 2048) (l : Fin 128) : V m c main_v30 (ix3 (0 : Fin 1) s l)
    = twice (arg5 m c) s l
      * (arg3 m c (ix1 l) * Ideal.div 1 (Ideal.sqrt (Ideal.ofBits FTy.f32 0x43000000#32) * Ideal.log (Ideal.ofBits FTy.f32 0x40000000#32))) := by
  simp only [V, hostOps0, hostOps0_1, hostOps0_2, hostOps0_3, hostOps0_4, List.flatten_cons, List.flatten_nil, List.append_nil, List.cons_append, List.nil_append]
  entry_read
  pointwise [twice]

theorem slab1 (s : Fin 2048) (l : Fin 128) : V m c main_v31 (ix3 (0 : Fin 1) s l)
    = odd (arg6 m c) s l
      * (arg3 m c (ix1 (⟨(l.val + 128 - 64) % 128, by omega⟩ : Fin 128)) * Ideal.div 1 (Ideal.sqrt (Ideal.ofBits FTy.f32 0x43000000#32) * Ideal.log (Ideal.ofBits FTy.f32 0x40000000#32))) := by
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise [odd]
  by_cases h : l.val < 64
  · have e : (l.val + 128 - 64) % 128 = 64 + l.val := by omega
    simp only [dif_pos h, e]
  · have e : (l.val + 128 - 64) % 128 = l.val - 64 := by omega
    simp only [dif_neg h, e]

theorem slab2 (s : Fin 2048) (l : Fin 128) : V m c main_v32 (ix3 (0 : Fin 1) s l)
    = twice (arg5 m c) s l
      * arg4 m c (ix1 l) := by
  simp only [V, hostOps0, hostOps0_1, hostOps0_2, hostOps0_3, hostOps0_4, List.flatten_cons, List.flatten_nil, List.append_nil, List.cons_append, List.nil_append]
  entry_read
  pointwise [twice]

theorem slab3 (s : Fin 2048) (l : Fin 128) : V m c main_v33 (ix3 (0 : Fin 1) s l)
    = odd (arg6 m c) s l
      * arg4 m c (ix1 (⟨(l.val + 128 - 64) % 128, by omega⟩ : Fin 128)) := by
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise [odd]
  by_cases h : l.val < 64
  · have e : (l.val + 128 - 64) % 128 = 64 + l.val := by omega
    simp only [dif_pos h, e]
  · have e : (l.val + 128 - 64) % 128 = l.val - 64 := by omega
    simp only [dif_neg h, e]

theorem tabs (s : Fin 2048) (l : Fin 128) : V m c main_v34 (ix3 (0 : Fin 4) s l) = V m c main_v30 (ix3 (0 : Fin 1) s l) ∧ V m c main_v34 (ix3 (1 : Fin 4) s l) = V m c main_v31 (ix3 (0 : Fin 1) s l)
    ∧ V m c main_v34 (ix3 (2 : Fin 4) s l) = V m c main_v32 (ix3 (0 : Fin 1) s l) ∧ V m c main_v34 (ix3 (3 : Fin 4) s l) = V m c main_v33 (ix3 (0 : Fin 1) s l) := by
  rw [stack]
  generalize V m c main_v30 = a
  generalize V m c main_v31 = b
  generalize V m c main_v32 = d
  generalize V m c main_v33 = e
  refine ⟨?_, ?_, ?_, ?_⟩ <;> pointwise

theorem blk_x (t : Fin cfg0.N) (h : t.val < 64) (r : Fin 1024) (e : Fin 2048) : iblk m c 0 t (ix2 r e) = V m c main_v35 (ix2 (⟨1024 * (t.val / 8) + r.val, by omega⟩ : Fin 8192) e) := by
  blk_ext [iblk, idx t]

theorem blk_g (t : Fin cfg0.N) (e : Fin 2048) : iblk m c 1 t (ix2 (0 : Fin 1) e) = V m c main_v36 (ix2 (0 : Fin 1) e) := by
  blk_ext [iblk, idx t]

theorem blk_w (t : Fin cfg0.N) (e : Fin 2048) (d : Fin 1024) : iblk m c 2 t (ix2 e d) = V m c main_v0 (ix2 e (⟨1024 * (t.val % 8) + d.val, by omega⟩ : Fin 8192)) := by
  blk_ext [iblk, idx t]

theorem blk_t (t : Fin cfg0.N) (a : Fin 4) (r : Fin 1024) (l : Fin 128) : iblk m c 3 t (ix3 a r l) = V m c main_v34 (ix3 a (⟨1024 * (t.val / 8 % 2) + r.val, by omega⟩ : Fin 2048) l) := by
  blk_ext [iblk, idx t]

theorem spot (t : Fin cfg0.N) (h : t.val < 64) (r d : Fin 1024) :
    (ix2 (⟨1024 * (t.val / 8) + r.val, by omega⟩ : Fin 8192) (⟨1024 * (t.val % 8) + d.val, by omega⟩ : Fin 8192) : S8192x8192.Idx) = (win0_4.blk t).view.emb (ix2 r d) := by
  blk_ext [idx t]

end Cert.Kernel4Ideal.Proj

end
-- ==== Proof.Kernel4Ideal.Spin.lean ====
/- Layer 1's input projection: a head's vector over its root mean square and through the rotation, the two ways of writing it. -/
module

public import proofs.«01_k».proof.Proof.Kernel4Ideal.Goal
public import proofs.«01_k».proof.Proof.Kernel4Ideal.Tile
public import proofs.«01_k».proof.Proof.Kernel4Ideal.Host
public import proofs.«01_k».proof.Proof.KernelIdeal.Final

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Cert.KernelIdeal.Attn (Real' scale scale_word gate_eq coe_sum all_real)
open Cert.ReferenceIdeal.Attn (ofBits_128 ofBits_half)

theorem ofBits_mean : Ideal.ofBits .f32 0x3C000000#32 = ((1 / 128 : ℝ) : EReal) := by
  simp [Ideal.ofBits, Ideal.ieee, ← EReal.coe_mul]; norm_num

theorem ofBits_2048 : Ideal.ofBits .f32 0x45000000#32 = ((2048 : ℝ) : EReal) := by
  simp [Ideal.ofBits, Ideal.ieee, ← EReal.coe_mul]; norm_num

theorem eps_pos : ∃ e : ℝ, 0 < e ∧ Ideal.ofBits .f32 0x358637BD#32 = ((e : ℝ) : EReal) := by
  simp [Ideal.ofBits, Ideal.ieee, ← EReal.coe_mul]

/-- A nonnegative real factor passes into a sum. -/
theorem sum_scale {n : ℕ} (f : Fin n → EReal) (c : ℝ) (hc : 0 ≤ c) : (∑ e : Fin n, f e) * ((c : ℝ) : EReal) = ∑ e : Fin n, f e * ((c : ℝ) : EReal) := by
  have h : ∀ t : Finset (Fin n), (∑ e ∈ t, f e) * ((c : ℝ) : EReal) = ∑ e ∈ t, f e * ((c : ℝ) : EReal) := fun t => by
    induction t using Finset.cons_induction with
    | empty => simp
    | cons a t ha ih => rw [Finset.sum_cons, Finset.sum_cons, EReal.right_distrib_of_nonneg_of_ne_top (by exact_mod_cast hc) (EReal.coe_ne_top _), ih]
  exact h Finset.univ

/-- Over one head of a pair, the masked product with one over 128 is the mean. -/
theorem mean_sum (f : ℕ → EReal) (i : ℕ) (hi : i < 2) :
    ∑ e : Fin 256, f e.val * f e.val * (if e.val / 128 = i then Ideal.ofBits FTy.f32 0x3C000000#32 else 0)
      = Ideal.div (∑ e : Fin 128, f (128 * i + e.val) * f (128 * i + e.val)) (Ideal.ofBits FTy.f32 0x43000000#32) := by
  rw [ofBits_128, Ideal.div_coe (by norm_num), sum_scale _ _ (by norm_num), ofBits_mean,
    Fin.sum_univ_add (a := 128) (b := 128) fun e : Fin 256 => f e.val * f e.val * (if e.val / 128 = i then ((1 / 128 : ℝ) : EReal) else 0)]
  have a : ∀ e : Fin 128, (Fin.castAdd 128 e).val / 128 = 0 := fun e => Nat.div_eq_of_lt e.isLt
  have b : ∀ e : Fin 128, (Fin.natAdd 128 e).val / 128 = 1 := fun e => by simp only [Fin.val_natAdd]; omega
  simp only [a, b]
  rcases (by omega : i = 0 ∨ i = 1) with rfl | rfl <;> simp [Nat.add_comm]

/-- A number of row `p` over the root mean square of its head. -/
def over (p : ℕ → EReal) (n : ℕ) : EReal :=
  p n * Ideal.rsqrt (Ideal.div (∑ e : Fin 128, p (128 * (n / 128) + e.val) * p (128 * (n / 128) + e.val)) (Ideal.ofBits FTy.f32 0x43000000#32) + Ideal.ofBits FTy.f32 0x358637BD#32)

theorem unit_over {H : FVec Ideal S1024x2048 .bf16} {W : FVec Ideal S2048x1024 .bf16} (p : ℕ → EReal) (k : ℕ) (r : Fin 1024)
    (h : ∀ d : Fin 1024, lead H W r d = p (1024 * k + d.val)) (d : Fin 1024) : unit H W r d = over p (1024 * k + d.val) := by
  unfold unit over
  rw [h]
  refine congrArg (fun z => p (1024 * k + d.val) * Ideal.rsqrt (z + Ideal.ofBits FTy.f32 0x358637BD#32)) ?_
  have e := mean_sum (fun n => p (1024 * k + 256 * (d.val / 256) + n)) (d.val % 256 / 128) (by omega)
  simp only [h, mean_apply]
  have e1 : 1024 * k + 256 * (d.val / 256) + 128 * (d.val % 256 / 128) = 128 * ((1024 * k + d.val) / 128) := by omega
  simp only [← Nat.add_assoc, e1] at e ⊢
  exact e

/-- A column lies in the first or the last half of its head's vector. -/
theorem halves (d : Fin 2048) : (∃ (a : Fin 8) (i : Fin 2) (l : Fin 64), d = (⟨a.val * 256 + i.val * 128 + l.val, by omega⟩ : Fin 2048))
    ∨ ∃ (a : Fin 8) (i : Fin 2) (l : Fin 64), d = (⟨a.val * 256 + i.val * 128 + (64 + l.val), by omega⟩ : Fin 2048) := by
  by_cases hl : d.val % 128 < 64
  · exact Or.inl ⟨⟨d.val / 256, by omega⟩, ⟨d.val % 256 / 128, by omega⟩, ⟨d.val % 128, hl⟩, Fin.ext (by simp only; omega)⟩
  · exact Or.inr ⟨⟨d.val / 256, by omega⟩, ⟨d.val % 256 / 128, by omega⟩, ⟨d.val % 128 - 64, by omega⟩, Fin.ext (by simp only; omega)⟩

/-- The rotation of the reference, by the two tables written out. -/
theorem spin (p : ℕ → EReal) (o : ℕ) (ho : o % 128 = 0) (q : FVec Ideal S4x2048x2048 .f32) (g : FVec Ideal S128 .f32) (u v : FVec Ideal S2048x64 .f32) (b : Fin 4) (s : Fin 2048)
    (h : ∀ d : Fin 2048, q (ix3 b s d) = p (o + d.val)) (d : Fin 2048) :
    Reference4Ideal.Goal.turned (Reference4Ideal.Goal.normed q g) u v (ix3 b s d)
      = over p (o + d.val) * (twice u s (⟨d.val % 128, by omega⟩ : Fin 128) * g (ix1 (⟨d.val % 128, by omega⟩ : Fin 128)))
        + over p (o + (128 * (d.val / 128) + (d.val % 128 + 128 - 64) % 128)) * (odd v s (⟨d.val % 128, by omega⟩ : Fin 128) * g (ix1 (⟨(d.val % 128 + 128 - 64) % 128, by omega⟩ : Fin 128))) := by
  have hn : ∀ (a : Fin 8) (i : Fin 2) (l : Fin 128), Reference4Ideal.Goal.normed q g (ix5 b s a i l) = over p (o + (a.val * 256 + i.val * 128 + l.val)) * g (ix1 l) := fun a i l => by
    rw [Reference4Ideal.Goal.normed_apply]
    have e1 : 128 * ((o + (a.val * 256 + (i.val * 128 + l.val))) / 128) = o + (a.val * 256 + i.val * 128) := by omega
    simp only [h, over, Nat.add_assoc] at e1 ⊢
    simp only [e1, Nat.add_assoc]
  rcases halves d with ⟨a, i, l, rfl⟩ | ⟨a, i, l, rfl⟩
  · have e1 : (a.val * 256 + i.val * 128 + l.val) % 128 = l.val := by omega
    have e2 : 128 * ((a.val * 256 + i.val * 128 + l.val) / 128) = a.val * 256 + i.val * 128 := by omega
    have e3 : (l.val + 128 - 64) % 128 = 64 + l.val := by omega
    rw [Reference4Ideal.Goal.turned_fore, hn, hn]
    simp only [e1, e2, e3, twice, odd, l.isLt, dif_pos, sub_eq_add_neg]
    refine congrArg₂ (· + ·) ?_ ?_
    · rw [mul_assoc, mul_comm (g _)]
    · rw [mul_assoc, ← mul_neg, ← mul_neg, mul_comm (g _)]
  · have e1 : (a.val * 256 + i.val * 128 + (64 + l.val)) % 128 = 64 + l.val := by omega
    have e2 : 128 * ((a.val * 256 + i.val * 128 + (64 + l.val)) / 128) = a.val * 256 + i.val * 128 := by omega
    have e3 : (64 + l.val + 128 - 64) % 128 = l.val := by omega
    have e4 : ¬ 64 + l.val < 64 := by omega
    rw [Reference4Ideal.Goal.turned_hind, hn, hn, add_comm]
    simp only [e1, e2, e3, twice, odd, e4, dif_neg, not_false_eq_true, Nat.add_sub_cancel_left, mul_assoc]
    refine congrArg₂ (· + ·) (congrArg _ (mul_comm _ _)) (congrArg _ (mul_comm _ _))

end Cert.Kernel4Ideal.Proj

end
-- ==== Proof.Kernel4Ideal.Result.lean ====
/- Layer 1's input projection over the reals: the result array after the run is the reference's own term over the arguments. -/
module

public import proofs.«01_k».proof.Defs
public import proofs.«01_k».proof.Proof.Kernel4Ideal.Cases
public import proofs.«01_k».proof.Proof.Kernel4Ideal.Spin

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic Idealize.SL.Sem
open Cert.KernelIdeal.Attn (Real' scale scale_word gate_eq coe_sum all_real)
open Cert.ReferenceIdeal.Attn (ofBits_half)
open Cert.Reference4Ideal.Goal (rows proj part goal rows_apply proj_apply part_apply joined_apply scaled_apply gated_apply)

theorem square_nonneg (x : EReal) : 0 ≤ x * x := by
  rcases le_total 0 x with h | h
  · exact EReal.mul_nonneg h h
  · rw [← neg_mul_neg]
    exact EReal.mul_nonneg (EReal.neg_nonneg.2 h) (EReal.neg_nonneg.2 h)

/-- A row over its root mean square is real: where an entry is infinite, the root mean square is, and the row is zero. -/
theorem rows_real (x : FVec Ideal S4x2048x2048 .f32) (g : FVec Ideal S2048 .f32) (hg : Real' (s := S2048) g) (b : Fin 4) (s e : Fin 2048) :
    ∃ y : ℝ, rows x g (ix3 b s e) = ((y : ℝ) : EReal) := by
  obtain ⟨d, hd, he⟩ := eps_pos
  have eg : (g (ix1 e) : EReal) = (((g (ix1 e) : EReal).toReal : ℝ) : EReal) := (EReal.coe_toReal (hg _).1 (hg _).2).symm
  rw [rows_apply, he, ofBits_2048]
  by_cases hx : ∀ k : Fin 2048, (x (ix3 b s k) : EReal) ≠ ⊤ ∧ (x (ix3 b s k) : EReal) ≠ ⊥
  · have ex : ∀ k : Fin 2048, (x (ix3 b s k) : EReal) = (((x (ix3 b s k) : EReal).toReal : ℝ) : EReal) := fun k => (EReal.coe_toReal (hx k).1 (hx k).2).symm
    have hs : 0 ≤ ∑ k : Fin 2048, (x (ix3 b s k) : EReal).toReal * (x (ix3 b s k) : EReal).toReal := Finset.sum_nonneg fun k _ => mul_self_nonneg _
    rw [Finset.sum_congr rfl fun k _ => by rw [ex k, ← EReal.coe_mul]]
    rw [coe_sum fun k : Fin 2048 => (x (ix3 b s k) : EReal).toReal * (x (ix3 b s k) : EReal).toReal, Ideal.div_coe (by norm_num), ← EReal.coe_mul, ← EReal.coe_add, Ideal.rsqrt_coe, if_neg, if_neg, ex, eg,
      ← EReal.coe_mul, ← EReal.coe_mul]
    · exact ⟨_, rfl⟩
    · positivity
    · exact not_lt.2 (by positivity)
  · obtain ⟨k, hk⟩ := not_forall.1 hx
    have h1 : (x (ix3 b s k) : EReal) * x (ix3 b s k) = ⊤ := by
      by_cases h : (x (ix3 b s k) : EReal) = ⊤
      · rw [h]; rfl
      · have h' : (x (ix3 b s k) : EReal) = ⊥ := by
          by_contra h'
          exact hk ⟨h, h'⟩
        rw [h']; rfl
    have h2 : ∑ k : Fin 2048, (x (ix3 b s k) : EReal) * x (ix3 b s k) = ⊤ :=
      top_le_iff.1 (h1 ▸ Finset.single_le_sum (f := fun k : Fin 2048 => (x (ix3 b s k) : EReal) * x (ix3 b s k)) (fun k _ => square_nonneg _) (Finset.mem_univ k))
    rw [h2, Ideal.div_coe (by norm_num), EReal.top_mul_coe_of_pos (by norm_num), EReal.top_add_coe, Ideal.rsqrt_top, mul_zero, zero_mul]
    exact ⟨0, rfl⟩

theorem proj_real (x : FVec Ideal S4x2048x2048 .f32) (g : FVec Ideal S2048 .f32) (w : FVec Ideal S2048x8192 .f32) (hg : Real' (s := S2048) g)
    (b : Fin 4) (s : Fin 2048) (d : Fin 8192) (hw : ∀ e : Fin 2048, (w (ix2 e d) : EReal) ≠ ⊤ ∧ (w (ix2 e d) : EReal) ≠ ⊥) : ∃ y : ℝ, proj x g w (ix3 b s d) = ((y : ℝ) : EReal) := by
  choose f hf using rows_real x g hg b s
  refine ⟨∑ e : Fin 2048, f e * (w (ix2 e d) : EReal).toReal, ?_⟩
  rw [proj_apply, ← coe_sum fun e : Fin 2048 => f e * (w (ix2 e d) : EReal).toReal]
  refine Finset.sum_congr rfl fun e _ => ?_
  rw [hf, EReal.coe_mul, EReal.coe_toReal (hw e).1 (hw e).2]

/-- The weights of the gates' columns are finite. -/
def Gates (w : FVec Ideal S2048x8192 .f32) : Prop := ∀ (e d : Fin 2048), (w (ix2 e (⟨6144 + d.val, by omega⟩ : Fin 8192)) : EReal) ≠ ⊤ ∧ (w (ix2 e (⟨6144 + d.val, by omega⟩ : Fin 8192)) : EReal) ≠ ⊥

variable (m : (ℓ : Loc nD τ sig) → Buf (Elt Ideal) ℓ) (c : Dev nD)

/-- The layer's input, its gains and the weights. -/
abbrev arg0 : FVec Ideal S4x2048x2048 .f32 := m (c, Proc.tc.devRef main_arg0)
abbrev arg1 : FVec Ideal S2048 .f32 := m (c, Proc.tc.devRef main_arg1)
abbrev arg2 : FVec Ideal S2048x8192 .f32 := m (c, Proc.tc.devRef main_arg2)

/-- The reference's term over this device's arguments. -/
def want : FVec Ideal S8192x8192 .bf16 := goal (arg0 m c) (arg1 m c) (arg2 m c) (arg3 m c) (arg4 m c) (arg5 m c) (arg6 m c)

/-- The batch and the position of a row. -/
abbrev bat (R : Fin 8192) : Fin 4 := ⟨R.val / 2048, by omega⟩
abbrev pos (R : Fin 8192) : Fin 2048 := ⟨R.val % 2048, by omega⟩

/-- Row `R` of the product with the weights. -/
def strip (R : Fin 8192) (n : ℕ) : EReal := if h : n < 8192 then proj (arg0 m c) (arg1 m c) (arg2 m c) (ix3 (bat R) (pos R) (⟨n, h⟩ : Fin 8192)) else 0

theorem part_line (o : ℕ) (h : Reference4Ideal.S4x2048x8192.Slices ![0, 0, o] S4x2048x2048) (ho : o ≤ 6144) (R : Fin 8192) (d : Fin 2048) :
    part o h (proj (arg0 m c) (arg1 m c) (arg2 m c)) (ix3 (bat R) (pos R) d) = strip m c R (o + d.val) := by
  rw [part_apply o h ho, strip, dif_pos]

theorem scale_nonneg : (0 : EReal) ≤ ((scale : ℝ) : EReal) := by
  have h2 : 0 < Real.log 2 := Real.log_pos one_lt_two
  have : (0 : ℝ) ≤ scale := by unfold scale; positivity
  exact_mod_cast this

theorem want_query (R : Fin 8192) (d : Fin 2048) : want m c (ix2 R (⟨d.val, by omega⟩ : Fin 8192))
    = over (strip m c R) (0 + d.val) * (twice (arg5 m c) (pos R) (⟨d.val % 128, by omega⟩ : Fin 128) * (arg3 m c (ix1 (⟨d.val % 128, by omega⟩ : Fin 128)) * ((scale : ℝ) : EReal)))
      + over (strip m c R) (0 + (128 * (d.val / 128) + (d.val % 128 + 128 - 64) % 128))
        * (odd (arg6 m c) (pos R) (⟨d.val % 128, by omega⟩ : Fin 128) * (arg3 m c (ix1 (⟨(d.val % 128 + 128 - 64) % 128, by omega⟩ : Fin 128)) * ((scale : ℝ) : EReal))) := by
  refine ((joined_apply _ _ _ _ R d).1).trans ?_
  rw [scaled_apply, scale_word, spin (strip m c R) 0 rfl _ _ _ _ _ _ (part_line m c 0 _ (by omega) R) d,
    EReal.right_distrib_of_nonneg_of_ne_top scale_nonneg (EReal.coe_ne_top _), mul_assoc, mul_assoc, mul_assoc, mul_assoc]

theorem want_key (R : Fin 8192) (d : Fin 2048) : want m c (ix2 R (⟨2048 + d.val, by omega⟩ : Fin 8192))
    = over (strip m c R) (2048 + d.val) * (twice (arg5 m c) (pos R) (⟨d.val % 128, by omega⟩ : Fin 128) * arg4 m c (ix1 (⟨d.val % 128, by omega⟩ : Fin 128)))
      + over (strip m c R) (2048 + (128 * (d.val / 128) + (d.val % 128 + 128 - 64) % 128))
        * (odd (arg6 m c) (pos R) (⟨d.val % 128, by omega⟩ : Fin 128) * arg4 m c (ix1 (⟨(d.val % 128 + 128 - 64) % 128, by omega⟩ : Fin 128))) := by
  refine ((joined_apply _ _ _ _ R d).2.1).trans ?_
  rw [spin (strip m c R) 2048 rfl _ _ _ _ _ _ (part_line m c 2048 _ (by omega) R) d]

theorem want_plain (R : Fin 8192) (d : Fin 2048) : want m c (ix2 R (⟨4096 + d.val, by omega⟩ : Fin 8192)) = strip m c R (4096 + d.val) :=
  ((joined_apply _ _ _ _ R d).2.2.1).trans (part_line m c 4096 _ (by omega) R d)

theorem want_gate (R : Fin 8192) (d : Fin 2048) (y : ℝ) (hy : strip m c R (6144 + d.val) = ((y : ℝ) : EReal)) :
    want m c (ix2 R (⟨6144 + d.val, by omega⟩ : Fin 8192)) = half (strip m c R (6144 + d.val)) := by
  refine ((joined_apply _ _ _ _ R d).2.2.2).trans ?_
  have e1 : Ideal.ofBits FTy.f32 0x3F800000#32 = ((1 : ℝ) : EReal) := by simp [Ideal.ofBits, Ideal.ieee, ← EReal.coe_mul]; norm_num
  have h1 : (1 + Real.exp (-y)) ≠ 0 := by positivity
  rw [gated_apply, part_line m c 6144 _ (by omega) R d, hy, half, ofBits_half, e1, ← EReal.coe_neg, Ideal.exp_coe, ← EReal.coe_add, Ideal.div_coe h1, ← EReal.coe_mul, ← EReal.coe_mul,
    ← EReal.coe_mul, Ideal.tanh_coe, ← EReal.coe_mul, ← EReal.coe_add, gate_eq, one_mul]

/-- The rows a grid point norms are the reference's. -/
theorem hid_rows (t : Fin cfg0.N) (h : t.val < 64) (r : Fin 1024) (e : Fin 2048) : hid (iblk m c 0 t) (iblk m c 1 t) (ix2 r e)
    = rows (arg0 m c) (arg1 m c) (ix3 (bat ⟨1024 * (t.val / 8) + r.val, by omega⟩) (pos ⟨1024 * (t.val / 8) + r.val, by omega⟩) e) := by
  have hx : ∀ k : Fin 2048, (iblk m c 0 t (ix2 r k) : EReal) = arg0 m c (ix3 (bat ⟨1024 * (t.val / 8) + r.val, by omega⟩) (pos ⟨1024 * (t.val / 8) + r.val, by omega⟩) k) := fun k =>
    (blk_x m c t h r k).trans (rows_x m c _ k)
  have hg : (iblk m c 1 t (ix2 (0 : Fin 1) e) : EReal) = arg1 m c (ix1 e) := (blk_g m c t e).trans (gain_x m c e)
  rw [rows_apply]
  simp only [← hx, ← hg]
  rfl

/-- What the points of a block of rows share. -/
theorem shared_rows : ∀ (n : ℕ) (hn : n < cfg0.N) (h : n < 64) (r : Fin 1024) (e : Fin 2048), shared m c n hn (ix2 r e)
    = rows (arg0 m c) (arg1 m c) (ix3 (bat ⟨1024 * (n / 8) + r.val, by omega⟩) (pos ⟨1024 * (n / 8) + r.val, by omega⟩) e)
  | 0, hn, h, r, e => by
    rw [shared_first m c ⟨0, hn⟩ rfl]
    exact hid_rows m c ⟨0, hn⟩ h r e
  | n + 1, hn, h, r, e => by
    by_cases h0 : (n + 1) % 8 = 0
    · rw [shared_first m c ⟨n + 1, hn⟩ h0]
      exact hid_rows m c ⟨n + 1, hn⟩ h r e
    · rw [shared_next m c ⟨n + 1, hn⟩ h0]
      have e1 : (n + 1) / 8 = n / 8 := by omega
      refine (shared_rows n _ (by omega) r e).trans ?_
      simp only [e1]

section Gate

variable (h1 : Real' (s := S2048) (arg1 m c)) (h2 : Gates (arg2 m c))

include h1 h2 in
theorem line_real (R : Fin 8192) (d : Fin 2048) (n : ℕ) (hn : n = 6144 + d.val) : ∃ y : ℝ, strip m c R n = ((y : ℝ) : EReal) := by
  have h : n < 8192 := by omega
  have e : (⟨n, h⟩ : Fin 8192) = ⟨6144 + d.val, by omega⟩ := Fin.ext hn
  rw [strip, dif_pos h, e]
  exact proj_real _ _ _ h1 _ _ _ fun e => h2 e d

end Gate

section Point

variable (t : Fin cfg0.N) (h : t.val < 64) (H : FVec Ideal S1024x2048 .bf16)
  (hH : ∀ (r : Fin 1024) (e : Fin 2048), H (ix2 r e) = rows (arg0 m c) (arg1 m c) (ix3 (bat ⟨1024 * (t.val / 8) + r.val, by omega⟩) (pos ⟨1024 * (t.val / 8) + r.val, by omega⟩) e))

include hH

theorem lead_line (r d : Fin 1024) : lead H (iblk m c 2 t) r d = strip m c ⟨1024 * (t.val / 8) + r.val, by omega⟩ (1024 * (t.val % 8) + d.val) := by
  have hd : 1024 * (t.val % 8) + d.val < 8192 := by omega
  rw [strip, dif_pos hd, proj_apply, lead]
  refine Finset.sum_congr rfl fun e _ => ?_
  rw [hH]
  exact congrArg _ ((blk_w m c t e d).trans (cols_w m c e _))

theorem rope_over (a b : Fin 4) (r d : Fin 1024) : rope H (iblk m c 2 t) (iblk m c 3 t) a b r d
    = over (strip m c ⟨1024 * (t.val / 8) + r.val, by omega⟩) (1024 * (t.val % 8) + d.val) * V m c main_v34 (ix3 a (pos ⟨1024 * (t.val / 8) + r.val, by omega⟩) (⟨d.val % 128, by omega⟩ : Fin 128))
      + over (strip m c ⟨1024 * (t.val / 8) + r.val, by omega⟩) (1024 * (t.val % 8) + (128 * (d.val / 128) + (d.val % 128 + 128 - 64) % 128))
        * V m c main_v34 (ix3 b (pos ⟨1024 * (t.val / 8) + r.val, by omega⟩) (⟨d.val % 128, by omega⟩ : Fin 128)) := by
  have hu := unit_over (strip m c ⟨1024 * (t.val / 8) + r.val, by omega⟩) (t.val % 8) r (lead_line m c t h H hH r)
  have hp : (⟨1024 * (t.val / 8 % 2) + r.val, by omega⟩ : Fin 2048) = pos ⟨1024 * (t.val / 8) + r.val, by omega⟩ := Fin.ext (by simp only; omega)
  have ht : ∀ (a : Fin 4) (l : Fin 128), (iblk m c 3 t (ix3 a r l) : EReal) = V m c main_v34 (ix3 a (pos ⟨1024 * (t.val / 8) + r.val, by omega⟩) l) := fun a l =>
    (blk_t m c t a r l).trans (by rw [hp])
  rw [rope, hu, hu, ht, ht]

theorem point_query (k : t.val % 8 ≤ 1) (r d : Fin 1024) : rope H (iblk m c 2 t) (iblk m c 3 t) 0 1 r d
    = want m c (ix2 (⟨1024 * (t.val / 8) + r.val, by omega⟩ : Fin 8192) (⟨1024 * (t.val % 8) + d.val, by omega⟩ : Fin 8192)) := by
  have e1 : (1024 * (t.val % 8) + d.val) % 128 = d.val % 128 := by omega
  have e2 : 128 * ((1024 * (t.val % 8) + d.val) / 128) = 1024 * (t.val % 8) + 128 * (d.val / 128) := by omega
  have w := want_query m c ⟨1024 * (t.val / 8) + r.val, by omega⟩ ⟨1024 * (t.val % 8) + d.val, by omega⟩
  simp only [e1, e2, Nat.zero_add, Nat.add_assoc] at w
  rw [rope_over m c t h H hH, (tabs m c _ _).1, (tabs m c _ _).2.1, slab0, slab1, scale_word, one_mul]
  exact w.symm

theorem point_key (k : 2 ≤ t.val % 8 ∧ t.val % 8 ≤ 3) (r d : Fin 1024) : rope H (iblk m c 2 t) (iblk m c 3 t) 2 3 r d
    = want m c (ix2 (⟨1024 * (t.val / 8) + r.val, by omega⟩ : Fin 8192) (⟨1024 * (t.val % 8) + d.val, by omega⟩ : Fin 8192)) := by
  have e0 : 2048 + (1024 * (t.val % 8) + d.val - 2048) = 1024 * (t.val % 8) + d.val := by omega
  have e1 : (1024 * (t.val % 8) + d.val - 2048) % 128 = d.val % 128 := by omega
  have e2 : 2048 + (128 * ((1024 * (t.val % 8) + d.val - 2048) / 128) + (d.val % 128 + 128 - 64) % 128) = 1024 * (t.val % 8) + (128 * (d.val / 128) + (d.val % 128 + 128 - 64) % 128) := by omega
  have w := want_key m c ⟨1024 * (t.val / 8) + r.val, by omega⟩ ⟨1024 * (t.val % 8) + d.val - 2048, by omega⟩
  simp only [e0, e1, e2] at w
  rw [rope_over m c t h H hH, (tabs m c _ _).2.2.1, (tabs m c _ _).2.2.2, slab2, slab3]
  exact w.symm

theorem point_plain (k : 4 ≤ t.val % 8 ∧ t.val % 8 ≤ 5) (r d : Fin 1024) : lead H (iblk m c 2 t) r d
    = want m c (ix2 (⟨1024 * (t.val / 8) + r.val, by omega⟩ : Fin 8192) (⟨1024 * (t.val % 8) + d.val, by omega⟩ : Fin 8192)) := by
  have e0 : 4096 + (1024 * (t.val % 8) + d.val - 4096) = 1024 * (t.val % 8) + d.val := by omega
  have w := want_plain m c ⟨1024 * (t.val / 8) + r.val, by omega⟩ ⟨1024 * (t.val % 8) + d.val - 4096, by omega⟩
  simp only [e0] at w
  rw [lead_line m c t h H hH]
  exact w.symm

theorem point_gate (h1 : Real' (s := S2048) (arg1 m c)) (h2 : Gates (arg2 m c)) (k : 6 ≤ t.val % 8) (r d : Fin 1024) : half (lead H (iblk m c 2 t) r d)
    = want m c (ix2 (⟨1024 * (t.val / 8) + r.val, by omega⟩ : Fin 8192) (⟨1024 * (t.val % 8) + d.val, by omega⟩ : Fin 8192)) := by
  have e0 : 6144 + (1024 * (t.val % 8) + d.val - 6144) = 1024 * (t.val % 8) + d.val := by omega
  obtain ⟨y, hy⟩ := line_real m c h1 h2 ⟨1024 * (t.val / 8) + r.val, by omega⟩ ⟨1024 * (t.val % 8) + d.val - 6144, by omega⟩ _ rfl
  have w := want_gate m c ⟨1024 * (t.val / 8) + r.val, by omega⟩ ⟨1024 * (t.val % 8) + d.val - 6144, by omega⟩ y hy
  simp only [e0] at w
  rw [lead_line m c t h H hH]
  exact w.symm

end Point

section Whole

variable (h1 : Real' (s := S2048) (arg1 m c)) (h2 : Gates (arg2 m c))

include h1 h2

theorem place (t : Fin cfg0.N) (y : S1024x1024.Idx) : (outsAt0 m c t.val t.isLt).1 y = want m c ((win0_4.blk t).view.emb y) := by
  have h : t.val < 64 := (idx t).2.2.2.2.2
  obtain ⟨r, d, rfl⟩ : ∃ (r d : Fin 1024), y = ix2 r d := ⟨_, _, eq_ix2 y⟩
  refine Eq.trans ?_ (congrArg (want m c) (spot t h r d))
  by_cases k : t.val % 8 = 0
  · rw [case_first m c t k]
    exact point_query m c t h _ (hid_rows m c t h) (by omega) r d
  have hS : ∀ (r : Fin 1024) (e : Fin 2048), shared m c (t.val - 1) (Nat.lt_of_le_of_lt (Nat.sub_le _ _) t.isLt) (ix2 r e)
      = rows (arg0 m c) (arg1 m c) (ix3 (bat ⟨1024 * (t.val / 8) + r.val, by omega⟩) (pos ⟨1024 * (t.val / 8) + r.val, by omega⟩) e) := fun r e => by
    rw [← shared_next m c t k]
    exact shared_rows m c t.val t.isLt h r e
  by_cases k1 : t.val % 8 = 1
  · rw [case_query m c t k1]
    exact point_query m c t h _ hS (by omega) r d
  by_cases k2 : 2 ≤ t.val % 8 ∧ t.val % 8 ≤ 3
  · rw [case_key m c t k2]
    exact point_key m c t h _ hS k2 r d
  by_cases k3 : 4 ≤ t.val % 8 ∧ t.val % 8 ≤ 5
  · rw [case_plain m c t k3]
    exact point_plain m c t h _ hS k3 r d
  · rw [case_gate m c t (by omega)]
    exact point_gate m c t h _ hS h1 h2 (by omega) r d

/-- The result array after the run. -/
theorem final : (dats m 0 c).arrAt 4 cfg0.N = want m c := by
  refine (dats m 0 c).arrAt_eq_of_covers 4 _ (by decide +kernel) fun t _ y => ?_
  blk_simp
  rw [after0_4]
  exact place m c h1 h2 t y

end Whole

theorem fn_real [Cert.Pre_finite4.Facts] (x : FVec Ideal S4x2048x2048 .f32) (g : FVec Ideal S2048 .f32) (w : FVec Ideal S2048x8192 .f32) (gq gk : FVec Ideal S128 .f32) (u v : FVec Ideal S2048x64 .f32)
    (h : (Cert.Pre_finite4.fn (F := Ideal) x g w gq gk u v).1 = (fun _ => 1#1) ∧ (Cert.Pre_finite4.fn (F := Ideal) x g w gq gk u v).2 = (fun _ => 1#1)) :
    Real' (s := S2048) g ∧ Gates w := by
  dsimp only [Cert.Pre_finite4.fn] at h
  obtain ⟨e1, e2⟩ := h
  have hn := Cert.Pre_finite4.Facts.h_S_
  refine ⟨all_real g Cert.Pre_finite4.Facts.bcast_S_S2048 Cert.Pre_finite4.Facts.reducesTo_S2048_S_d0 hn e1, fun e d => ?_⟩
  have hw := all_real _ Cert.Pre_finite4.Facts.bcast_S_S2048x2048 Cert.Pre_finite4.Facts.reducesTo_S2048x2048_S_d0_1 hn e2 (ix2 e d)
  have hc : extractStridedSlice Cert.Pre_finite4.S2048x2048 ![0, 6144] w Cert.Pre_finite4.Facts.slices_S2048x8192_S2048x2048_0_6144 (ix2 e d) = w (ix2 e (⟨6144 + d.val, by omega⟩ : Fin 8192)) := by
    pointwise
  rw [hc] at hw
  exact hw

/-- The run: the result array is the reference's term over the arguments, the arguments unchanged. -/
theorem run_want [Cert.Pre_finite4.Facts] (ρ : Dev nD → PrngReg) (hm : Cert.Pre_Kernel4Ideal_finite4 m) :
    θ_run (defs (F := Ideal)) (onTc (τ := τ) (main (F := Ideal))) ⟨m, fun _ => 0, ρ⟩ fun r => ∀ c : Dev nD,
      r.2.mem ((c : Thread nD τ).loc main_v37) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h1, h2⟩ := fn_real _ _ _ _ _ _ _ (hm c)
    exact ⟨((h c).1 4).trans (final m c h1 h2),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Kernel4Ideal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.Final
public import proofs.«01_k».proof.Proof.Gen.Kernel2
public import proofs.«01_k».proof.Proof.Gen.Kernel2.Frame
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel3
public import proofs.«01_k».proof.Proof.Gen.Kernel3.Frame
public import proofs.«01_k».proof.Proof.Gen.Kernel2Ideal
public import proofs.«01_k».proof.Proof.Gen.Kernel2Ideal.Frame
public import proofs.«01_k».proof.Proof.Gen.Kernel3Ideal
public import proofs.«01_k».proof.Proof.Gen.Kernel3Ideal.Frame
public import proofs.«01_k».proof.Proof.Gen.Kernel2Ideal.Value
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Kernel2Ideal.Value
public import proofs.«01_k».proof.Proof.Kernel3Ideal.Value
public import proofs.«01_k».proof.Proof.Kernel4Ideal.Result
public import Idealize.ShloMosaic.Adequacy
public import Idealize.ShloMosaic.Init

@[expose] public section

set_option maxRecDepth 16384
set_option maxHeartbeats 1000000

noncomputable section

open Idealize.ShloMosaic Idealize.ShloMosaic.TcCoe

namespace Cert.Proof

/-- The kernel's frame. -/
theorem frame_kernel : Cert.quiescent_Kernel := fun m ρ _ => Cert.Kernel.Attn.frame m ρ

/-- The ideal kernel's frame. -/
theorem frame_ideal : Cert.quiescent_KernelIdeal := fun m ρ _ => Cert.KernelIdeal.Attn.frame m ρ

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's name denotes minus infinity. -/
theorem preserves : Cert.preserves_Kernel_KernelIdeal :=
  IdealRules.named_const.statement Cert.KernelIdeal.κ "mask" .f32 0xF149F2CA#32 ⊥ rfl

/-- The precondition's side conditions. -/
theorem facts_finite : Cert.Pre_finite.Facts where
  bcast_S_S4x2048x2048 := by decide
  reducesTo_S4x2048x2048_S_d0_1_2 := by decide
  h_S_ := by decide
  bcast_S_S128 := by decide
  reducesTo_S128_S_d0 := by decide

/-- The ideal kernel's frame, over finite arguments. -/
theorem frame_ideal_finite [hPre : Cert.Pre_finite.Facts] : Cert.quiescent_KernelIdeal_pre_finite := fun m ρ _ => Cert.KernelIdeal.Attn.frame m ρ

/-- The reference's frame, over finite arguments. -/
theorem frame_reference_finite [hPre : Cert.Pre_finite.Facts] : Cert.quiescent_ReferenceIdeal_pre_finite := fun m ρ _ => frame_reference m ρ trivial

/-- Over finite arguments the two programs' results are equal. -/
theorem algebraic [hPre : Cert.Pre_finite.Facts] : Cert.algebraic_KernelIdeal_ReferenceIdeal_pre_finite := fun m ρ m' ρ' hm he =>
  ⟨Cert.KernelIdeal.Attn.want m, Cert.KernelIdeal.Attn.run_want m ρ hm,
    (θ_run Cert.ReferenceIdeal.defs _ _).mono (fun r h c => ⟨(h c).1.trans (by
      obtain ⟨e0, e1, e2, e3, _, _, e6, e7, e8, e9⟩ := he c
      rw [Cert.ReferenceIdeal.Attn.res_eq, e0, e1, e2, e3, e6, e7, e8, e9]
      rfl), (h c).2⟩)
      (Cert.ReferenceIdeal.Value.run (F := Ideal) m' ρ')⟩

/-- Layer 1's output projection: the frames. -/
theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Layer 1's output projection: the two programs' results are equal. -/
theorem algebraic2 : Cert.algebraic_Kernel2Ideal_Reference2Ideal := fun m ρ m' ρ' _ he =>
  ⟨Cert.Kernel2Ideal.Proj.want m,
    (θ_run Cert.Kernel2Ideal.defs _ _).mono (fun r h c => ⟨(h c).1.trans (Cert.Kernel2Ideal.Proj.final m c), (h c).2⟩) (Cert.Kernel2Ideal.Value.run_blocks (F := Ideal) m ρ),
    (θ_run Cert.Reference2Ideal.defs _ _).mono (fun r h c => ⟨(h c).1.trans (by
      obtain ⟨e0, e1, e2⟩ := he c
      rw [e0, e1, e2]
      rfl), (h c).2⟩)
      (Cert.Reference2Ideal.Value.run (F := Ideal) m' ρ')⟩

/-- Layer 0's output projection: the frames. -/
theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Layer 0's output projection: the two programs' results are equal. -/
theorem algebraic3 : Cert.algebraic_Kernel3Ideal_Reference3Ideal := fun m ρ m' ρ' _ he =>
  ⟨Cert.Kernel3Ideal.Proj.want m,
    (θ_run Cert.Kernel3Ideal.defs _ _).mono (fun r h c => ⟨(h c).1.trans (Cert.Kernel3Ideal.Proj.final m c), (h c).2⟩) (Cert.Kernel3Ideal.Value.run_blocks (F := Ideal) m ρ),
    (θ_run Cert.Reference3Ideal.defs _ _).mono (fun r h c => ⟨(h c).1.trans (by
      obtain ⟨e0, e1, e2, e3⟩ := he c
      rw [e0, e1, e2, e3]
      rfl), (h c).2⟩)
      (Cert.Reference3Ideal.Value.run (F := Ideal) m' ρ')⟩

/-- Layer 1's input projection: the two programs have the same text, so the same kernel body at the rounded float values. -/
theorem bodies_eq : @Cert.Kernel4.defs₀ Bits _ _ = @Cert.Kernel4Ideal.defs₀ Bits _ _ := by
  unfold Cert.Kernel4.defs₀ Cert.Kernel4Ideal.defs₀
  refine congrArg Defs.onTc ?_
  funext l x
  obtain ⟨k, hk⟩ := l
  match k, hk, x with
  | 0, _, (t, s) => rfl
  | n + 1, h, _ => exact absurd h (by omega)

theorem defs_eq : @Cert.Kernel4.defs Bits _ _ = @Cert.Kernel4Ideal.defs Bits _ _ :=
  congrArg (Pipeline.defs (Cert.Kernel4.pcfgs (F := Bits))) bodies_eq

theorem main_eq : @Cert.Kernel4.main Bits _ _ = @Cert.Kernel4Ideal.main Bits _ _ := by
  with_unfolding_all rfl

/-- The kernel's frame: the run over any float values, at the rounded ones. -/
theorem frame_kernel4 : Cert.quiescent_Kernel4 := by
  intro m ρ _
  rw [defs_eq, main_eq]
  exact Cert.Kernel4Ideal.Gen.frame (F := Bits) m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Its precondition's side conditions. -/
theorem facts_finite4 : Cert.Pre_finite4.Facts where
  h_S_ := by decide
  bcast_S_S2048 := by decide
  reducesTo_S2048_S_d0 := by decide
  bcast_S_S2048x2048 := by decide
  reducesTo_S2048x2048_S_d0_1 := by decide
  slices_S2048x8192_S2048x2048_0_6144 := by decide

theorem frame_ideal_finite4 [hPre : Cert.Pre_finite4.Facts] : Cert.quiescent_Kernel4Ideal_pre_finite4 := fun m ρ _ => Cert.Kernel4Ideal.Gen.frame m ρ

theorem frame_reference_finite4 [hPre : Cert.Pre_finite4.Facts] : Cert.quiescent_Reference4Ideal_pre_finite4 := fun m ρ _ => frame_reference4 m ρ trivial

/-- Layer 1's input projection: over finite gains and finite weights of the gates the two programs' results are equal. -/
theorem algebraic4 [hPre : Cert.Pre_finite4.Facts] : Cert.algebraic_Kernel4Ideal_Reference4Ideal_pre_finite4 := fun m ρ m' ρ' hm he =>
  ⟨Cert.Kernel4Ideal.Proj.want m, Cert.Kernel4Ideal.Proj.run_want m ρ hm,
    (θ_run Cert.Reference4Ideal.defs _ _).mono (fun r h c => ⟨(h c).1.trans (by
      obtain ⟨e0, e1, e2, e3, e4, e5, e6⟩ := he c
      rw [Cert.Reference4Ideal.Goal.value_eq, e0, e1, e2, e3, e4, e5, e6]
      rfl), (h c).2⟩)
      (Cert.Reference4Ideal.Value.run (F := Ideal) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, facts_finite, facts_finite4,
    frame_kernel, frame_ideal, frame_ideal_finite (hPre := facts_finite), frame_reference, frame_reference_finite (hPre := facts_finite),
    frame_kernel2, frame_ideal2, frame_reference2, frame_kernel3, frame_ideal3, frame_reference3,
    frame_kernel4, frame_ideal4, frame_ideal_finite4 (hPre := facts_finite4), frame_reference4, frame_reference_finite4 (hPre := facts_finite4),
    preserves, algebraic (hPre := facts_finite), trivial, algebraic2, trivial, algebraic3, trivial, algebraic4 (hPre := facts_finite4)⟩

end Cert.Proof

end
